-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 2048, 1024]⟩ ⟨5, ![2, 2, 4, 2048, 1024]⟩ (Layout.meshBlock [2, 2, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x2048x1024 : Shape := ⟨5, ![1, 1, 1, 2048, 1024]⟩
abbrev S2048x1024 : Shape := ⟨2, ![2048, 1024]⟩
abbrev S15x64x1024 : Shape := ⟨3, ![15, 64, 1024]⟩
abbrev S15x4 : Shape := ⟨2, ![15, 4]⟩
abbrev S_ : Shape := ⟨0, ![]⟩
abbrev S1x1 : Shape := ⟨2, ![1, 1]⟩
abbrev S1x16x1024 : Shape := ⟨3, ![1, 16, 1024]⟩
abbrev S16x1024 : Shape := ⟨2, ![16, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x1x1x2048x1024, .f32⟩
  | .hbm, ⟨1, _⟩ => ⟨S2048x1024, .f32⟩
  | .hbm, ⟨2, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S15x64x1024, .f32⟩
  | .local _ .vmem, ⟨3, _⟩ => ⟨S15x64x1024, .f32⟩
  | _, _ => ⟨S1x1x1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 482 → Bool
  | ⟨i, _⟩ => dmaSemScopedAt i

abbrev sig : RefSig :=
  (ofTc nBuf bufTy 1 482 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_100 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_99 : BitVec 32 := 8#32
  let v197 : BitVec 32 := Scalar.muli v160 c8_i32_99
  let v198 : BitVec 32 := Scalar.addi c0_i32_100 v197
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_101 : BitVec 32 := 4#32
  let v199 : BitVec 32 := Scalar.muli v171 c4_i32_101
  let v200 : BitVec 32 := Scalar.addi v198 v199
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_102 : BitVec 32 := 1#32
  let v201 : BitVec 32 := Scalar.muli v184 c1_i32_102
  let v202 : BitVec 32 := Scalar.addi v200 v201
  v202.toNat
def k0_dev2 (d0 : Dev nD) : Nat :=
  let c0_i32_105 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_104 : BitVec 32 := 8#32
  let v203 : BitVec 32 := Scalar.muli v81 c8_i32_104
  let v204 : BitVec 32 := Scalar.addi c0_i32_105 v203
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_106 : BitVec 32 := 4#32
  let v205 : BitVec 32 := Scalar.muli v92 c4_i32_106
  let v206 : BitVec 32 := Scalar.addi v204 v205
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_107 : BitVec 32 := 1#32
  let v207 : BitVec 32 := Scalar.muli v105 c1_i32_107
  let v208 : BitVec 32 := Scalar.addi v206 v207
  v208.toNat
def k0_off1 (d0 : Dev nD) (c0_i32_109 : BitVec 32) (c0_i32_117 : BitVec 32) : Fin 2 → Nat :=
  let c0_i32_116 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let v209 : BitVec 32 := Scalar.subi v26 c0_i32_109
  let c16_i32_110 : BitVec 32 := 16#32
  let c0_i32_111 : BitVec 32 := 0#32
  let v210 : BitVec 1 := Scalar.cmpi .eq c16_i32_110 c0_i32_111
  let c1_i32_112 : BitVec 32 := 1#32
  let v211 : BitVec 32 := Scalar.select v210 c1_i32_112 c16_i32_110
  let v212 : BitVec 32 := Scalar.remsi v209 v211
  let c0_i32_114 : BitVec 32 := 0#32
  let v214 : BitVec 1 := Scalar.cmpi .slt v212 c0_i32_114
  let c0_i32_115 : BitVec 32 := 0#32
  let v215 : BitVec 1 := Scalar.cmpi .slt v211 c0_i32_115
  let v216 : BitVec 1 := Scalar.xori v214 v215
  let c0_i32_113 : BitVec 32 := 0#32
  let v213 : BitVec 1 := Scalar.cmpi .ne v212 c0_i32_113
  let v217 : BitVec 1 := Scalar.andi v216 v213
  let v218 : BitVec 32 := Scalar.addi v212 v211
  let v219 : BitVec 32 := Scalar.select v217 v218 v212
  let c64_i32 : BitVec 32 := 64#32
  let v220 : BitVec 32 := Scalar.muli v219 c64_i32
  let v221 : BitVec 32 := Scalar.addi c0_i32_116 v220
  let v222 : BitVec 32 := Scalar.addi v221 c0_i32_117
  let c0_i32_129 : BitVec 32 := 0#32
  ![v222.toNat, 0]
def k0_dev3 (d0 : Dev nD) : Nat :=
  let c0_i32_124 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_123 : BitVec 32 := 8#32
  let v223 : BitVec 32 := Scalar.muli v81 c8_i32_123
  let v224 : BitVec 32 := Scalar.addi c0_i32_124 v223
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_125 : BitVec 32 := 4#32
  let v225 : BitVec 32 := Scalar.muli v92 c4_i32_125
  let v226 : BitVec 32 := Scalar.addi v224 v225
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_126 : BitVec 32 := 1#32
  let v227 : BitVec 32 := Scalar.muli v105 c1_i32_126
  let v228 : BitVec 32 := Scalar.addi v226 v227
  v228.toNat
def k0_off2 (d0 : Dev nD) (c0_i32_130 : BitVec 32) (c0_i32_138 : BitVec 32) : Fin 2 → Nat :=
  let c1024_i32 : BitVec 32 := 1024#32
  let c16_i32_91 : BitVec 32 := 16#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let v185 : BitVec 32 := Scalar.subi c16_i32_91 v26
  let c16_i32_92 : BitVec 32 := 16#32
  let c0_i32_93 : BitVec 32 := 0#32
  let v186 : BitVec 1 := Scalar.cmpi .eq c16_i32_92 c0_i32_93
  let c1_i32_94 : BitVec 32 := 1#32
  let v187 : BitVec 32 := Scalar.select v186 c1_i32_94 c16_i32_92
  let v188 : BitVec 32 := Scalar.remsi v185 v187
  let c0_i32_96 : BitVec 32 := 0#32
  let v190 : BitVec 1 := Scalar.cmpi .slt v188 c0_i32_96
  let c0_i32_97 : BitVec 32 := 0#32
  let v191 : BitVec 1 := Scalar.cmpi .slt v187 c0_i32_97
  let v192 : BitVec 1 := Scalar.xori v190 v191
  let c0_i32_95 : BitVec 32 := 0#32
  let v189 : BitVec 1 := Scalar.cmpi .ne v188 c0_i32_95
  let v193 : BitVec 1 := Scalar.andi v192 v189
  let v194 : BitVec 32 := Scalar.addi v188 v187
  let v195 : BitVec 32 := Scalar.select v193 v194 v188
  let v236 : BitVec 32 := Scalar.subi v195 c0_i32_130
  let c16_i32_131 : BitVec 32 := 16#32
  let c0_i32_132 : BitVec 32 := 0#32
  let v237 : BitVec 1 := Scalar.cmpi .eq c16_i32_131 c0_i32_132
  let c1_i32_133 : BitVec 32 := 1#32
  let v238 : BitVec 32 := Scalar.select v237 c1_i32_133 c16_i32_131
  let v239 : BitVec 32 := Scalar.remsi v236 v238
  let c0_i32_135 : BitVec 32 := 0#32
  let v241 : BitVec 1 := Scalar.cmpi .slt v239 c0_i32_135
  let c0_i32_136 : BitVec 32 := 0#32
  let v242 : BitVec 1 := Scalar.cmpi .slt v238 c0_i32_136
  let v243 : BitVec 1 := Scalar.xori v241 v242
  let c0_i32_134 : BitVec 32 := 0#32
  let v240 : BitVec 1 := Scalar.cmpi .ne v239 c0_i32_134
  let v244 : BitVec 1 := Scalar.andi v243 v240
  let v245 : BitVec 32 := Scalar.addi v239 v238
  let v246 : BitVec 32 := Scalar.select v244 v245 v239
  let c64_i32_137 : BitVec 32 := 64#32
  let v247 : BitVec 32 := Scalar.muli v246 c64_i32_137
  let v248 : BitVec 32 := Scalar.addi c1024_i32 v247
  let v249 : BitVec 32 := Scalar.addi v248 c0_i32_138
  let c0_i32_150 : BitVec 32 := 0#32
  ![v249.toNat, 0]
def k0_dev4 (d0 : Dev nD) : Nat :=
  let c0_i32_145 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_144 : BitVec 32 := 8#32
  let v250 : BitVec 32 := Scalar.muli v160 c8_i32_144
  let v251 : BitVec 32 := Scalar.addi c0_i32_145 v250
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_146 : BitVec 32 := 4#32
  let v252 : BitVec 32 := Scalar.muli v171 c4_i32_146
  let v253 : BitVec 32 := Scalar.addi v251 v252
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_147 : BitVec 32 := 1#32
  let v254 : BitVec 32 := Scalar.muli v184 c1_i32_147
  let v255 : BitVec 32 := Scalar.addi v253 v254
  v255.toNat
def k0_dev5 (d0 : Dev nD) : Nat :=
  let c0_i32_167 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_166 : BitVec 32 := 8#32
  let v277 : BitVec 32 := Scalar.muli v81 c8_i32_166
  let v278 : BitVec 32 := Scalar.addi c0_i32_167 v277
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_168 : BitVec 32 := 4#32
  let v279 : BitVec 32 := Scalar.muli v92 c4_i32_168
  let v280 : BitVec 32 := Scalar.addi v278 v279
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_169 : BitVec 32 := 1#32
  let v281 : BitVec 32 := Scalar.muli v105 c1_i32_169
  let v282 : BitVec 32 := Scalar.addi v280 v281
  v282.toNat
def k0_dev6 (d0 : Dev nD) : Nat :=
  let c0_i32_189 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_188 : BitVec 32 := 8#32
  let v304 : BitVec 32 := Scalar.muli v160 c8_i32_188
  let v305 : BitVec 32 := Scalar.addi c0_i32_189 v304
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_190 : BitVec 32 := 4#32
  let v306 : BitVec 32 := Scalar.muli v171 c4_i32_190
  let v307 : BitVec 32 := Scalar.addi v305 v306
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_191 : BitVec 32 := 1#32
  let v308 : BitVec 32 := Scalar.muli v184 c1_i32_191
  let v309 : BitVec 32 := Scalar.addi v307 v308
  v309.toNat
def k0_dev7 (d0 : Dev nD) : Nat :=
  let c0_i32_210 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_209 : BitVec 32 := 8#32
  let v331 : BitVec 32 := Scalar.muli v81 c8_i32_209
  let v332 : BitVec 32 := Scalar.addi c0_i32_210 v331
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_211 : BitVec 32 := 4#32
  let v333 : BitVec 32 := Scalar.muli v92 c4_i32_211
  let v334 : BitVec 32 := Scalar.addi v332 v333
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_212 : BitVec 32 := 1#32
  let v335 : BitVec 32 := Scalar.muli v105 c1_i32_212
  let v336 : BitVec 32 := Scalar.addi v334 v335
  v336.toNat
def k0_dev8 (d0 : Dev nD) : Nat :=
  let c0_i32_232 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_231 : BitVec 32 := 8#32
  let v358 : BitVec 32 := Scalar.muli v160 c8_i32_231
  let v359 : BitVec 32 := Scalar.addi c0_i32_232 v358
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_233 : BitVec 32 := 4#32
  let v360 : BitVec 32 := Scalar.muli v171 c4_i32_233
  let v361 : BitVec 32 := Scalar.addi v359 v360
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_234 : BitVec 32 := 1#32
  let v362 : BitVec 32 := Scalar.muli v184 c1_i32_234
  let v363 : BitVec 32 := Scalar.addi v361 v362
  v363.toNat
def k0_dev9 (d0 : Dev nD) : Nat :=
  let c0_i32_253 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_252 : BitVec 32 := 8#32
  let v385 : BitVec 32 := Scalar.muli v81 c8_i32_252
  let v386 : BitVec 32 := Scalar.addi c0_i32_253 v385
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_254 : BitVec 32 := 4#32
  let v387 : BitVec 32 := Scalar.muli v92 c4_i32_254
  let v388 : BitVec 32 := Scalar.addi v386 v387
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_255 : BitVec 32 := 1#32
  let v389 : BitVec 32 := Scalar.muli v105 c1_i32_255
  let v390 : BitVec 32 := Scalar.addi v388 v389
  v390.toNat
def k0_dev10 (d0 : Dev nD) : Nat :=
  let c0_i32_275 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_274 : BitVec 32 := 8#32
  let v412 : BitVec 32 := Scalar.muli v160 c8_i32_274
  let v413 : BitVec 32 := Scalar.addi c0_i32_275 v412
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_276 : BitVec 32 := 4#32
  let v414 : BitVec 32 := Scalar.muli v171 c4_i32_276
  let v415 : BitVec 32 := Scalar.addi v413 v414
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_277 : BitVec 32 := 1#32
  let v416 : BitVec 32 := Scalar.muli v184 c1_i32_277
  let v417 : BitVec 32 := Scalar.addi v415 v416
  v417.toNat
def k0_off3 (d0 : Dev nD) (c0_i32_293 : BitVec 32) (c0_i32_303 : BitVec 32) : Fin 2 → Nat :=
  let c0_i32_302 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let v436 : BitVec 32 := Scalar.subi v26 c0_i32_293
  let c1_i32_294 : BitVec 32 := 1#32
  let v437 : BitVec 32 := Scalar.subi v436 c1_i32_294
  let c16_i32_295 : BitVec 32 := 16#32
  let c0_i32_296 : BitVec 32 := 0#32
  let v438 : BitVec 1 := Scalar.cmpi .eq c16_i32_295 c0_i32_296
  let c1_i32_297 : BitVec 32 := 1#32
  let v439 : BitVec 32 := Scalar.select v438 c1_i32_297 c16_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c64_i32_301 : BitVec 32 := 64#32
  let v448 : BitVec 32 := Scalar.muli v447 c64_i32_301
  let v449 : BitVec 32 := Scalar.addi c0_i32_302 v448
  let v450 : BitVec 32 := Scalar.addi v449 c0_i32_303
  let v451 : Index := Scalar.indexCast v450
  let c0 : Index := 0#32
  ![v451.toNat, 0]
def k0_dev11 (d0 : Dev nD) : Nat :=
  let c0_i32_324 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_323 : BitVec 32 := 8#32
  let v473 : BitVec 32 := Scalar.muli v81 c8_i32_323
  let v474 : BitVec 32 := Scalar.addi c0_i32_324 v473
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_325 : BitVec 32 := 4#32
  let v475 : BitVec 32 := Scalar.muli v92 c4_i32_325
  let v476 : BitVec 32 := Scalar.addi v474 v475
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_326 : BitVec 32 := 1#32
  let v477 : BitVec 32 := Scalar.muli v105 c1_i32_326
  let v478 : BitVec 32 := Scalar.addi v476 v477
  v478.toNat
def k0_off4 (d0 : Dev nD) (c0_i32_342 : BitVec 32) (c0_i32_352 : BitVec 32) : Fin 2 → Nat :=
  let c1024_i32_351 : BitVec 32 := 1024#32
  let c16_i32_91 : BitVec 32 := 16#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let v185 : BitVec 32 := Scalar.subi c16_i32_91 v26
  let c16_i32_92 : BitVec 32 := 16#32
  let c0_i32_93 : BitVec 32 := 0#32
  let v186 : BitVec 1 := Scalar.cmpi .eq c16_i32_92 c0_i32_93
  let c1_i32_94 : BitVec 32 := 1#32
  let v187 : BitVec 32 := Scalar.select v186 c1_i32_94 c16_i32_92
  let v188 : BitVec 32 := Scalar.remsi v185 v187
  let c0_i32_96 : BitVec 32 := 0#32
  let v190 : BitVec 1 := Scalar.cmpi .slt v188 c0_i32_96
  let c0_i32_97 : BitVec 32 := 0#32
  let v191 : BitVec 1 := Scalar.cmpi .slt v187 c0_i32_97
  let v192 : BitVec 1 := Scalar.xori v190 v191
  let c0_i32_95 : BitVec 32 := 0#32
  let v189 : BitVec 1 := Scalar.cmpi .ne v188 c0_i32_95
  let v193 : BitVec 1 := Scalar.andi v192 v189
  let v194 : BitVec 32 := Scalar.addi v188 v187
  let v195 : BitVec 32 := Scalar.select v193 v194 v188
  let v497 : BitVec 32 := Scalar.subi v195 c0_i32_342
  let c1_i32_343 : BitVec 32 := 1#32
  let v498 : BitVec 32 := Scalar.subi v497 c1_i32_343
  let c16_i32_344 : BitVec 32 := 16#32
  let c0_i32_345 : BitVec 32 := 0#32
  let v499 : BitVec 1 := Scalar.cmpi .eq c16_i32_344 c0_i32_345
  let c1_i32_346 : BitVec 32 := 1#32
  let v500 : BitVec 32 := Scalar.select v499 c1_i32_346 c16_i32_344
  let v501 : BitVec 32 := Scalar.remsi v498 v500
  let c0_i32_348 : BitVec 32 := 0#32
  let v503 : BitVec 1 := Scalar.cmpi .slt v501 c0_i32_348
  let c0_i32_349 : BitVec 32 := 0#32
  let v504 : BitVec 1 := Scalar.cmpi .slt v500 c0_i32_349
  let v505 : BitVec 1 := Scalar.xori v503 v504
  let c0_i32_347 : BitVec 32 := 0#32
  let v502 : BitVec 1 := Scalar.cmpi .ne v501 c0_i32_347
  let v506 : BitVec 1 := Scalar.andi v505 v502
  let v507 : BitVec 32 := Scalar.addi v501 v500
  let v508 : BitVec 32 := Scalar.select v506 v507 v501
  let c64_i32_350 : BitVec 32 := 64#32
  let v509 : BitVec 32 := Scalar.muli v508 c64_i32_350
  let v510 : BitVec 32 := Scalar.addi c1024_i32_351 v509
  let v511 : BitVec 32 := Scalar.addi v510 c0_i32_352
  let v512 : Index := Scalar.indexCast v511
  let c0_353 : Index := 0#32
  ![v512.toNat, 0]
def k0_dev12 (d0 : Dev nD) : Nat :=
  let c0_i32_374 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_373 : BitVec 32 := 8#32
  let v534 : BitVec 32 := Scalar.muli v160 c8_i32_373
  let v535 : BitVec 32 := Scalar.addi c0_i32_374 v534
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_375 : BitVec 32 := 4#32
  let v536 : BitVec 32 := Scalar.muli v171 c4_i32_375
  let v537 : BitVec 32 := Scalar.addi v535 v536
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_376 : BitVec 32 := 1#32
  let v538 : BitVec 32 := Scalar.muli v184 c1_i32_376
  let v539 : BitVec 32 := Scalar.addi v537 v538
  v539.toNat
def k0_dev13 (d0 : Dev nD) : Nat :=
  let c0_i32_423 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_422 : BitVec 32 := 8#32
  let v595 : BitVec 32 := Scalar.muli v81 c8_i32_422
  let v596 : BitVec 32 := Scalar.addi c0_i32_423 v595
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_424 : BitVec 32 := 4#32
  let v597 : BitVec 32 := Scalar.muli v92 c4_i32_424
  let v598 : BitVec 32 := Scalar.addi v596 v597
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_425 : BitVec 32 := 1#32
  let v599 : BitVec 32 := Scalar.muli v105 c1_i32_425
  let v600 : BitVec 32 := Scalar.addi v598 v599
  v600.toNat
def k0_dev14 (d0 : Dev nD) : Nat :=
  let c0_i32_473 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_472 : BitVec 32 := 8#32
  let v656 : BitVec 32 := Scalar.muli v160 c8_i32_472
  let v657 : BitVec 32 := Scalar.addi c0_i32_473 v656
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_474 : BitVec 32 := 4#32
  let v658 : BitVec 32 := Scalar.muli v171 c4_i32_474
  let v659 : BitVec 32 := Scalar.addi v657 v658
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_475 : BitVec 32 := 1#32
  let v660 : BitVec 32 := Scalar.muli v184 c1_i32_475
  let v661 : BitVec 32 := Scalar.addi v659 v660
  v661.toNat
def k0_dev15 (d0 : Dev nD) : Nat :=
  let c0_i32_522 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_521 : BitVec 32 := 8#32
  let v717 : BitVec 32 := Scalar.muli v81 c8_i32_521
  let v718 : BitVec 32 := Scalar.addi c0_i32_522 v717
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_523 : BitVec 32 := 4#32
  let v719 : BitVec 32 := Scalar.muli v92 c4_i32_523
  let v720 : BitVec 32 := Scalar.addi v718 v719
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_524 : BitVec 32 := 1#32
  let v721 : BitVec 32 := Scalar.muli v105 c1_i32_524
  let v722 : BitVec 32 := Scalar.addi v720 v721
  v722.toNat
def k0_dev16 (d0 : Dev nD) : Nat :=
  let c0_i32_572 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_571 : BitVec 32 := 8#32
  let v778 : BitVec 32 := Scalar.muli v160 c8_i32_571
  let v779 : BitVec 32 := Scalar.addi c0_i32_572 v778
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_573 : BitVec 32 := 4#32
  let v780 : BitVec 32 := Scalar.muli v171 c4_i32_573
  let v781 : BitVec 32 := Scalar.addi v779 v780
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_574 : BitVec 32 := 1#32
  let v782 : BitVec 32 := Scalar.muli v184 c1_i32_574
  let v783 : BitVec 32 := Scalar.addi v781 v782
  v783.toNat
def k0_dev17 (d0 : Dev nD) : Nat :=
  let c0_i32_621 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_620 : BitVec 32 := 8#32
  let v839 : BitVec 32 := Scalar.muli v81 c8_i32_620
  let v840 : BitVec 32 := Scalar.addi c0_i32_621 v839
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_622 : BitVec 32 := 4#32
  let v841 : BitVec 32 := Scalar.muli v92 c4_i32_622
  let v842 : BitVec 32 := Scalar.addi v840 v841
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_623 : BitVec 32 := 1#32
  let v843 : BitVec 32 := Scalar.muli v105 c1_i32_623
  let v844 : BitVec 32 := Scalar.addi v842 v843
  v844.toNat
def k0_dev18 (d0 : Dev nD) : Nat :=
  let c0_i32_671 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_670 : BitVec 32 := 8#32
  let v900 : BitVec 32 := Scalar.muli v160 c8_i32_670
  let v901 : BitVec 32 := Scalar.addi c0_i32_671 v900
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_672 : BitVec 32 := 4#32
  let v902 : BitVec 32 := Scalar.muli v171 c4_i32_672
  let v903 : BitVec 32 := Scalar.addi v901 v902
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_673 : BitVec 32 := 1#32
  let v904 : BitVec 32 := Scalar.muli v184 c1_i32_673
  let v905 : BitVec 32 := Scalar.addi v903 v904
  v905.toNat
def k0_dev19 (d0 : Dev nD) : Nat :=
  let c0_i32_720 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_719 : BitVec 32 := 8#32
  let v961 : BitVec 32 := Scalar.muli v81 c8_i32_719
  let v962 : BitVec 32 := Scalar.addi c0_i32_720 v961
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_721 : BitVec 32 := 4#32
  let v963 : BitVec 32 := Scalar.muli v92 c4_i32_721
  let v964 : BitVec 32 := Scalar.addi v962 v963
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_722 : BitVec 32 := 1#32
  let v965 : BitVec 32 := Scalar.muli v105 c1_i32_722
  let v966 : BitVec 32 := Scalar.addi v964 v965
  v966.toNat
def k0_dev20 (d0 : Dev nD) : Nat :=
  let c0_i32_770 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_769 : BitVec 32 := 8#32
  let v1022 : BitVec 32 := Scalar.muli v160 c8_i32_769
  let v1023 : BitVec 32 := Scalar.addi c0_i32_770 v1022
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_771 : BitVec 32 := 4#32
  let v1024 : BitVec 32 := Scalar.muli v171 c4_i32_771
  let v1025 : BitVec 32 := Scalar.addi v1023 v1024
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_772 : BitVec 32 := 1#32
  let v1026 : BitVec 32 := Scalar.muli v184 c1_i32_772
  let v1027 : BitVec 32 := Scalar.addi v1025 v1026
  v1027.toNat
def k0_dev21 (d0 : Dev nD) : Nat :=
  let c0_i32_820 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_819 : BitVec 32 := 8#32
  let v1083 : BitVec 32 := Scalar.muli v81 c8_i32_819
  let v1084 : BitVec 32 := Scalar.addi c0_i32_820 v1083
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_821 : BitVec 32 := 4#32
  let v1085 : BitVec 32 := Scalar.muli v92 c4_i32_821
  let v1086 : BitVec 32 := Scalar.addi v1084 v1085
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_822 : BitVec 32 := 1#32
  let v1087 : BitVec 32 := Scalar.muli v105 c1_i32_822
  let v1088 : BitVec 32 := Scalar.addi v1086 v1087
  v1088.toNat
def k0_dev22 (d0 : Dev nD) : Nat :=
  let c0_i32_870 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_869 : BitVec 32 := 8#32
  let v1144 : BitVec 32 := Scalar.muli v160 c8_i32_869
  let v1145 : BitVec 32 := Scalar.addi c0_i32_870 v1144
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_871 : BitVec 32 := 4#32
  let v1146 : BitVec 32 := Scalar.muli v171 c4_i32_871
  let v1147 : BitVec 32 := Scalar.addi v1145 v1146
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_872 : BitVec 32 := 1#32
  let v1148 : BitVec 32 := Scalar.muli v184 c1_i32_872
  let v1149 : BitVec 32 := Scalar.addi v1147 v1148
  v1149.toNat
def k0_dev23 (d0 : Dev nD) : Nat :=
  let c0_i32_920 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_919 : BitVec 32 := 8#32
  let v1205 : BitVec 32 := Scalar.muli v81 c8_i32_919
  let v1206 : BitVec 32 := Scalar.addi c0_i32_920 v1205
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_921 : BitVec 32 := 4#32
  let v1207 : BitVec 32 := Scalar.muli v92 c4_i32_921
  let v1208 : BitVec 32 := Scalar.addi v1206 v1207
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_922 : BitVec 32 := 1#32
  let v1209 : BitVec 32 := Scalar.muli v105 c1_i32_922
  let v1210 : BitVec 32 := Scalar.addi v1208 v1209
  v1210.toNat
def k0_dev24 (d0 : Dev nD) : Nat :=
  let c0_i32_970 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_969 : BitVec 32 := 8#32
  let v1266 : BitVec 32 := Scalar.muli v160 c8_i32_969
  let v1267 : BitVec 32 := Scalar.addi c0_i32_970 v1266
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_971 : BitVec 32 := 4#32
  let v1268 : BitVec 32 := Scalar.muli v171 c4_i32_971
  let v1269 : BitVec 32 := Scalar.addi v1267 v1268
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_972 : BitVec 32 := 1#32
  let v1270 : BitVec 32 := Scalar.muli v184 c1_i32_972
  let v1271 : BitVec 32 := Scalar.addi v1269 v1270
  v1271.toNat
def k0_dev25 (d0 : Dev nD) : Nat :=
  let c0_i32_1020 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1019 : BitVec 32 := 8#32
  let v1327 : BitVec 32 := Scalar.muli v81 c8_i32_1019
  let v1328 : BitVec 32 := Scalar.addi c0_i32_1020 v1327
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1021 : BitVec 32 := 4#32
  let v1329 : BitVec 32 := Scalar.muli v92 c4_i32_1021
  let v1330 : BitVec 32 := Scalar.addi v1328 v1329
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1022 : BitVec 32 := 1#32
  let v1331 : BitVec 32 := Scalar.muli v105 c1_i32_1022
  let v1332 : BitVec 32 := Scalar.addi v1330 v1331
  v1332.toNat
def k0_dev26 (d0 : Dev nD) : Nat :=
  let c0_i32_1070 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1069 : BitVec 32 := 8#32
  let v1388 : BitVec 32 := Scalar.muli v160 c8_i32_1069
  let v1389 : BitVec 32 := Scalar.addi c0_i32_1070 v1388
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1071 : BitVec 32 := 4#32
  let v1390 : BitVec 32 := Scalar.muli v171 c4_i32_1071
  let v1391 : BitVec 32 := Scalar.addi v1389 v1390
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1072 : BitVec 32 := 1#32
  let v1392 : BitVec 32 := Scalar.muli v184 c1_i32_1072
  let v1393 : BitVec 32 := Scalar.addi v1391 v1392
  v1393.toNat
def k0_dev27 (d0 : Dev nD) : Nat :=
  let c0_i32_1119 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1118 : BitVec 32 := 8#32
  let v1449 : BitVec 32 := Scalar.muli v81 c8_i32_1118
  let v1450 : BitVec 32 := Scalar.addi c0_i32_1119 v1449
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1120 : BitVec 32 := 4#32
  let v1451 : BitVec 32 := Scalar.muli v92 c4_i32_1120
  let v1452 : BitVec 32 := Scalar.addi v1450 v1451
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1121 : BitVec 32 := 1#32
  let v1453 : BitVec 32 := Scalar.muli v105 c1_i32_1121
  let v1454 : BitVec 32 := Scalar.addi v1452 v1453
  v1454.toNat
def k0_dev28 (d0 : Dev nD) : Nat :=
  let c0_i32_1169 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1168 : BitVec 32 := 8#32
  let v1510 : BitVec 32 := Scalar.muli v160 c8_i32_1168
  let v1511 : BitVec 32 := Scalar.addi c0_i32_1169 v1510
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1170 : BitVec 32 := 4#32
  let v1512 : BitVec 32 := Scalar.muli v171 c4_i32_1170
  let v1513 : BitVec 32 := Scalar.addi v1511 v1512
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1171 : BitVec 32 := 1#32
  let v1514 : BitVec 32 := Scalar.muli v184 c1_i32_1171
  let v1515 : BitVec 32 := Scalar.addi v1513 v1514
  v1515.toNat
def k0_dev29 (d0 : Dev nD) : Nat :=
  let c0_i32_1219 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1218 : BitVec 32 := 8#32
  let v1571 : BitVec 32 := Scalar.muli v81 c8_i32_1218
  let v1572 : BitVec 32 := Scalar.addi c0_i32_1219 v1571
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1220 : BitVec 32 := 4#32
  let v1573 : BitVec 32 := Scalar.muli v92 c4_i32_1220
  let v1574 : BitVec 32 := Scalar.addi v1572 v1573
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1221 : BitVec 32 := 1#32
  let v1575 : BitVec 32 := Scalar.muli v105 c1_i32_1221
  let v1576 : BitVec 32 := Scalar.addi v1574 v1575
  v1576.toNat
def k0_dev30 (d0 : Dev nD) : Nat :=
  let c0_i32_1269 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1268 : BitVec 32 := 8#32
  let v1632 : BitVec 32 := Scalar.muli v160 c8_i32_1268
  let v1633 : BitVec 32 := Scalar.addi c0_i32_1269 v1632
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1270 : BitVec 32 := 4#32
  let v1634 : BitVec 32 := Scalar.muli v171 c4_i32_1270
  let v1635 : BitVec 32 := Scalar.addi v1633 v1634
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1271 : BitVec 32 := 1#32
  let v1636 : BitVec 32 := Scalar.muli v184 c1_i32_1271
  let v1637 : BitVec 32 := Scalar.addi v1635 v1636
  v1637.toNat
def k0_dev31 (d0 : Dev nD) : Nat :=
  let c0_i32_1319 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1318 : BitVec 32 := 8#32
  let v1693 : BitVec 32 := Scalar.muli v81 c8_i32_1318
  let v1694 : BitVec 32 := Scalar.addi c0_i32_1319 v1693
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1320 : BitVec 32 := 4#32
  let v1695 : BitVec 32 := Scalar.muli v92 c4_i32_1320
  let v1696 : BitVec 32 := Scalar.addi v1694 v1695
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1321 : BitVec 32 := 1#32
  let v1697 : BitVec 32 := Scalar.muli v105 c1_i32_1321
  let v1698 : BitVec 32 := Scalar.addi v1696 v1697
  v1698.toNat
def k0_dev32 (d0 : Dev nD) : Nat :=
  let c0_i32_1369 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1368 : BitVec 32 := 8#32
  let v1754 : BitVec 32 := Scalar.muli v160 c8_i32_1368
  let v1755 : BitVec 32 := Scalar.addi c0_i32_1369 v1754
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1370 : BitVec 32 := 4#32
  let v1756 : BitVec 32 := Scalar.muli v171 c4_i32_1370
  let v1757 : BitVec 32 := Scalar.addi v1755 v1756
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1371 : BitVec 32 := 1#32
  let v1758 : BitVec 32 := Scalar.muli v184 c1_i32_1371
  let v1759 : BitVec 32 := Scalar.addi v1757 v1758
  v1759.toNat
def k0_dev33 (d0 : Dev nD) : Nat :=
  let c0_i32_1419 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1418 : BitVec 32 := 8#32
  let v1815 : BitVec 32 := Scalar.muli v81 c8_i32_1418
  let v1816 : BitVec 32 := Scalar.addi c0_i32_1419 v1815
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1420 : BitVec 32 := 4#32
  let v1817 : BitVec 32 := Scalar.muli v92 c4_i32_1420
  let v1818 : BitVec 32 := Scalar.addi v1816 v1817
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1421 : BitVec 32 := 1#32
  let v1819 : BitVec 32 := Scalar.muli v105 c1_i32_1421
  let v1820 : BitVec 32 := Scalar.addi v1818 v1819
  v1820.toNat
def k0_dev34 (d0 : Dev nD) : Nat :=
  let c0_i32_1469 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1468 : BitVec 32 := 8#32
  let v1876 : BitVec 32 := Scalar.muli v160 c8_i32_1468
  let v1877 : BitVec 32 := Scalar.addi c0_i32_1469 v1876
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1470 : BitVec 32 := 4#32
  let v1878 : BitVec 32 := Scalar.muli v171 c4_i32_1470
  let v1879 : BitVec 32 := Scalar.addi v1877 v1878
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1471 : BitVec 32 := 1#32
  let v1880 : BitVec 32 := Scalar.muli v184 c1_i32_1471
  let v1881 : BitVec 32 := Scalar.addi v1879 v1880
  v1881.toNat
def k0_dev35 (d0 : Dev nD) : Nat :=
  let c0_i32_1518 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1517 : BitVec 32 := 8#32
  let v1937 : BitVec 32 := Scalar.muli v81 c8_i32_1517
  let v1938 : BitVec 32 := Scalar.addi c0_i32_1518 v1937
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1519 : BitVec 32 := 4#32
  let v1939 : BitVec 32 := Scalar.muli v92 c4_i32_1519
  let v1940 : BitVec 32 := Scalar.addi v1938 v1939
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1520 : BitVec 32 := 1#32
  let v1941 : BitVec 32 := Scalar.muli v105 c1_i32_1520
  let v1942 : BitVec 32 := Scalar.addi v1940 v1941
  v1942.toNat
def k0_dev36 (d0 : Dev nD) : Nat :=
  let c0_i32_1568 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1567 : BitVec 32 := 8#32
  let v1998 : BitVec 32 := Scalar.muli v160 c8_i32_1567
  let v1999 : BitVec 32 := Scalar.addi c0_i32_1568 v1998
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1569 : BitVec 32 := 4#32
  let v2000 : BitVec 32 := Scalar.muli v171 c4_i32_1569
  let v2001 : BitVec 32 := Scalar.addi v1999 v2000
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1570 : BitVec 32 := 1#32
  let v2002 : BitVec 32 := Scalar.muli v184 c1_i32_1570
  let v2003 : BitVec 32 := Scalar.addi v2001 v2002
  v2003.toNat
def k0_dev37 (d0 : Dev nD) : Nat :=
  let c0_i32_1618 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1617 : BitVec 32 := 8#32
  let v2059 : BitVec 32 := Scalar.muli v81 c8_i32_1617
  let v2060 : BitVec 32 := Scalar.addi c0_i32_1618 v2059
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1619 : BitVec 32 := 4#32
  let v2061 : BitVec 32 := Scalar.muli v92 c4_i32_1619
  let v2062 : BitVec 32 := Scalar.addi v2060 v2061
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1620 : BitVec 32 := 1#32
  let v2063 : BitVec 32 := Scalar.muli v105 c1_i32_1620
  let v2064 : BitVec 32 := Scalar.addi v2062 v2063
  v2064.toNat
def k0_dev38 (d0 : Dev nD) : Nat :=
  let c0_i32_1668 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1667 : BitVec 32 := 8#32
  let v2120 : BitVec 32 := Scalar.muli v160 c8_i32_1667
  let v2121 : BitVec 32 := Scalar.addi c0_i32_1668 v2120
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1669 : BitVec 32 := 4#32
  let v2122 : BitVec 32 := Scalar.muli v171 c4_i32_1669
  let v2123 : BitVec 32 := Scalar.addi v2121 v2122
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1670 : BitVec 32 := 1#32
  let v2124 : BitVec 32 := Scalar.muli v184 c1_i32_1670
  let v2125 : BitVec 32 := Scalar.addi v2123 v2124
  v2125.toNat
def k0_dev39 (d0 : Dev nD) : Nat :=
  let c0_i32_1718 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1717 : BitVec 32 := 8#32
  let v2181 : BitVec 32 := Scalar.muli v81 c8_i32_1717
  let v2182 : BitVec 32 := Scalar.addi c0_i32_1718 v2181
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1719 : BitVec 32 := 4#32
  let v2183 : BitVec 32 := Scalar.muli v92 c4_i32_1719
  let v2184 : BitVec 32 := Scalar.addi v2182 v2183
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1720 : BitVec 32 := 1#32
  let v2185 : BitVec 32 := Scalar.muli v105 c1_i32_1720
  let v2186 : BitVec 32 := Scalar.addi v2184 v2185
  v2186.toNat
def k0_dev40 (d0 : Dev nD) : Nat :=
  let c0_i32_1768 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1767 : BitVec 32 := 8#32
  let v2242 : BitVec 32 := Scalar.muli v160 c8_i32_1767
  let v2243 : BitVec 32 := Scalar.addi c0_i32_1768 v2242
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1769 : BitVec 32 := 4#32
  let v2244 : BitVec 32 := Scalar.muli v171 c4_i32_1769
  let v2245 : BitVec 32 := Scalar.addi v2243 v2244
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1770 : BitVec 32 := 1#32
  let v2246 : BitVec 32 := Scalar.muli v184 c1_i32_1770
  let v2247 : BitVec 32 := Scalar.addi v2245 v2246
  v2247.toNat
def k0_dev41 (d0 : Dev nD) : Nat :=
  let c0_i32_1818 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1817 : BitVec 32 := 8#32
  let v2303 : BitVec 32 := Scalar.muli v81 c8_i32_1817
  let v2304 : BitVec 32 := Scalar.addi c0_i32_1818 v2303
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1819 : BitVec 32 := 4#32
  let v2305 : BitVec 32 := Scalar.muli v92 c4_i32_1819
  let v2306 : BitVec 32 := Scalar.addi v2304 v2305
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1820 : BitVec 32 := 1#32
  let v2307 : BitVec 32 := Scalar.muli v105 c1_i32_1820
  let v2308 : BitVec 32 := Scalar.addi v2306 v2307
  v2308.toNat
def k0_dev42 (d0 : Dev nD) : Nat :=
  let c0_i32_1868 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1867 : BitVec 32 := 8#32
  let v2364 : BitVec 32 := Scalar.muli v160 c8_i32_1867
  let v2365 : BitVec 32 := Scalar.addi c0_i32_1868 v2364
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1869 : BitVec 32 := 4#32
  let v2366 : BitVec 32 := Scalar.muli v171 c4_i32_1869
  let v2367 : BitVec 32 := Scalar.addi v2365 v2366
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1870 : BitVec 32 := 1#32
  let v2368 : BitVec 32 := Scalar.muli v184 c1_i32_1870
  let v2369 : BitVec 32 := Scalar.addi v2367 v2368
  v2369.toNat
def k0_dev43 (d0 : Dev nD) : Nat :=
  let c0_i32_1916 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_1915 : BitVec 32 := 8#32
  let v2425 : BitVec 32 := Scalar.muli v81 c8_i32_1915
  let v2426 : BitVec 32 := Scalar.addi c0_i32_1916 v2425
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_1917 : BitVec 32 := 4#32
  let v2427 : BitVec 32 := Scalar.muli v92 c4_i32_1917
  let v2428 : BitVec 32 := Scalar.addi v2426 v2427
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_1918 : BitVec 32 := 1#32
  let v2429 : BitVec 32 := Scalar.muli v105 c1_i32_1918
  let v2430 : BitVec 32 := Scalar.addi v2428 v2429
  v2430.toNat
def k0_dev44 (d0 : Dev nD) : Nat :=
  let c0_i32_1966 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_1965 : BitVec 32 := 8#32
  let v2486 : BitVec 32 := Scalar.muli v160 c8_i32_1965
  let v2487 : BitVec 32 := Scalar.addi c0_i32_1966 v2486
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_1967 : BitVec 32 := 4#32
  let v2488 : BitVec 32 := Scalar.muli v171 c4_i32_1967
  let v2489 : BitVec 32 := Scalar.addi v2487 v2488
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_1968 : BitVec 32 := 1#32
  let v2490 : BitVec 32 := Scalar.muli v184 c1_i32_1968
  let v2491 : BitVec 32 := Scalar.addi v2489 v2490
  v2491.toNat
def k0_dev45 (d0 : Dev nD) : Nat :=
  let c0_i32_2016 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2015 : BitVec 32 := 8#32
  let v2547 : BitVec 32 := Scalar.muli v81 c8_i32_2015
  let v2548 : BitVec 32 := Scalar.addi c0_i32_2016 v2547
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2017 : BitVec 32 := 4#32
  let v2549 : BitVec 32 := Scalar.muli v92 c4_i32_2017
  let v2550 : BitVec 32 := Scalar.addi v2548 v2549
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2018 : BitVec 32 := 1#32
  let v2551 : BitVec 32 := Scalar.muli v105 c1_i32_2018
  let v2552 : BitVec 32 := Scalar.addi v2550 v2551
  v2552.toNat
def k0_dev46 (d0 : Dev nD) : Nat :=
  let c0_i32_2066 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2065 : BitVec 32 := 8#32
  let v2608 : BitVec 32 := Scalar.muli v160 c8_i32_2065
  let v2609 : BitVec 32 := Scalar.addi c0_i32_2066 v2608
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2067 : BitVec 32 := 4#32
  let v2610 : BitVec 32 := Scalar.muli v171 c4_i32_2067
  let v2611 : BitVec 32 := Scalar.addi v2609 v2610
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2068 : BitVec 32 := 1#32
  let v2612 : BitVec 32 := Scalar.muli v184 c1_i32_2068
  let v2613 : BitVec 32 := Scalar.addi v2611 v2612
  v2613.toNat
def k0_dev47 (d0 : Dev nD) : Nat :=
  let c0_i32_2116 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2115 : BitVec 32 := 8#32
  let v2669 : BitVec 32 := Scalar.muli v81 c8_i32_2115
  let v2670 : BitVec 32 := Scalar.addi c0_i32_2116 v2669
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2117 : BitVec 32 := 4#32
  let v2671 : BitVec 32 := Scalar.muli v92 c4_i32_2117
  let v2672 : BitVec 32 := Scalar.addi v2670 v2671
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2118 : BitVec 32 := 1#32
  let v2673 : BitVec 32 := Scalar.muli v105 c1_i32_2118
  let v2674 : BitVec 32 := Scalar.addi v2672 v2673
  v2674.toNat
def k0_dev48 (d0 : Dev nD) : Nat :=
  let c0_i32_2166 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2165 : BitVec 32 := 8#32
  let v2730 : BitVec 32 := Scalar.muli v160 c8_i32_2165
  let v2731 : BitVec 32 := Scalar.addi c0_i32_2166 v2730
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2167 : BitVec 32 := 4#32
  let v2732 : BitVec 32 := Scalar.muli v171 c4_i32_2167
  let v2733 : BitVec 32 := Scalar.addi v2731 v2732
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2168 : BitVec 32 := 1#32
  let v2734 : BitVec 32 := Scalar.muli v184 c1_i32_2168
  let v2735 : BitVec 32 := Scalar.addi v2733 v2734
  v2735.toNat
def k0_dev49 (d0 : Dev nD) : Nat :=
  let c0_i32_2216 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2215 : BitVec 32 := 8#32
  let v2791 : BitVec 32 := Scalar.muli v81 c8_i32_2215
  let v2792 : BitVec 32 := Scalar.addi c0_i32_2216 v2791
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2217 : BitVec 32 := 4#32
  let v2793 : BitVec 32 := Scalar.muli v92 c4_i32_2217
  let v2794 : BitVec 32 := Scalar.addi v2792 v2793
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2218 : BitVec 32 := 1#32
  let v2795 : BitVec 32 := Scalar.muli v105 c1_i32_2218
  let v2796 : BitVec 32 := Scalar.addi v2794 v2795
  v2796.toNat
def k0_dev50 (d0 : Dev nD) : Nat :=
  let c0_i32_2266 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2265 : BitVec 32 := 8#32
  let v2852 : BitVec 32 := Scalar.muli v160 c8_i32_2265
  let v2853 : BitVec 32 := Scalar.addi c0_i32_2266 v2852
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2267 : BitVec 32 := 4#32
  let v2854 : BitVec 32 := Scalar.muli v171 c4_i32_2267
  let v2855 : BitVec 32 := Scalar.addi v2853 v2854
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2268 : BitVec 32 := 1#32
  let v2856 : BitVec 32 := Scalar.muli v184 c1_i32_2268
  let v2857 : BitVec 32 := Scalar.addi v2855 v2856
  v2857.toNat
def k0_dev51 (d0 : Dev nD) : Nat :=
  let c0_i32_2314 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2313 : BitVec 32 := 8#32
  let v2913 : BitVec 32 := Scalar.muli v81 c8_i32_2313
  let v2914 : BitVec 32 := Scalar.addi c0_i32_2314 v2913
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2315 : BitVec 32 := 4#32
  let v2915 : BitVec 32 := Scalar.muli v92 c4_i32_2315
  let v2916 : BitVec 32 := Scalar.addi v2914 v2915
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2316 : BitVec 32 := 1#32
  let v2917 : BitVec 32 := Scalar.muli v105 c1_i32_2316
  let v2918 : BitVec 32 := Scalar.addi v2916 v2917
  v2918.toNat
def k0_dev52 (d0 : Dev nD) : Nat :=
  let c0_i32_2364 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2363 : BitVec 32 := 8#32
  let v2974 : BitVec 32 := Scalar.muli v160 c8_i32_2363
  let v2975 : BitVec 32 := Scalar.addi c0_i32_2364 v2974
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2365 : BitVec 32 := 4#32
  let v2976 : BitVec 32 := Scalar.muli v171 c4_i32_2365
  let v2977 : BitVec 32 := Scalar.addi v2975 v2976
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2366 : BitVec 32 := 1#32
  let v2978 : BitVec 32 := Scalar.muli v184 c1_i32_2366
  let v2979 : BitVec 32 := Scalar.addi v2977 v2978
  v2979.toNat
def k0_dev53 (d0 : Dev nD) : Nat :=
  let c0_i32_2414 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2413 : BitVec 32 := 8#32
  let v3035 : BitVec 32 := Scalar.muli v81 c8_i32_2413
  let v3036 : BitVec 32 := Scalar.addi c0_i32_2414 v3035
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2415 : BitVec 32 := 4#32
  let v3037 : BitVec 32 := Scalar.muli v92 c4_i32_2415
  let v3038 : BitVec 32 := Scalar.addi v3036 v3037
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2416 : BitVec 32 := 1#32
  let v3039 : BitVec 32 := Scalar.muli v105 c1_i32_2416
  let v3040 : BitVec 32 := Scalar.addi v3038 v3039
  v3040.toNat
def k0_dev54 (d0 : Dev nD) : Nat :=
  let c0_i32_2464 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2463 : BitVec 32 := 8#32
  let v3096 : BitVec 32 := Scalar.muli v160 c8_i32_2463
  let v3097 : BitVec 32 := Scalar.addi c0_i32_2464 v3096
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2465 : BitVec 32 := 4#32
  let v3098 : BitVec 32 := Scalar.muli v171 c4_i32_2465
  let v3099 : BitVec 32 := Scalar.addi v3097 v3098
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2466 : BitVec 32 := 1#32
  let v3100 : BitVec 32 := Scalar.muli v184 c1_i32_2466
  let v3101 : BitVec 32 := Scalar.addi v3099 v3100
  v3101.toNat
def k0_dev55 (d0 : Dev nD) : Nat :=
  let c0_i32_2514 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2513 : BitVec 32 := 8#32
  let v3157 : BitVec 32 := Scalar.muli v81 c8_i32_2513
  let v3158 : BitVec 32 := Scalar.addi c0_i32_2514 v3157
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2515 : BitVec 32 := 4#32
  let v3159 : BitVec 32 := Scalar.muli v92 c4_i32_2515
  let v3160 : BitVec 32 := Scalar.addi v3158 v3159
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2516 : BitVec 32 := 1#32
  let v3161 : BitVec 32 := Scalar.muli v105 c1_i32_2516
  let v3162 : BitVec 32 := Scalar.addi v3160 v3161
  v3162.toNat
def k0_dev56 (d0 : Dev nD) : Nat :=
  let c0_i32_2564 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2563 : BitVec 32 := 8#32
  let v3218 : BitVec 32 := Scalar.muli v160 c8_i32_2563
  let v3219 : BitVec 32 := Scalar.addi c0_i32_2564 v3218
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2565 : BitVec 32 := 4#32
  let v3220 : BitVec 32 := Scalar.muli v171 c4_i32_2565
  let v3221 : BitVec 32 := Scalar.addi v3219 v3220
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2566 : BitVec 32 := 1#32
  let v3222 : BitVec 32 := Scalar.muli v184 c1_i32_2566
  let v3223 : BitVec 32 := Scalar.addi v3221 v3222
  v3223.toNat
def k0_dev57 (d0 : Dev nD) : Nat :=
  let c0_i32_2614 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2613 : BitVec 32 := 8#32
  let v3279 : BitVec 32 := Scalar.muli v81 c8_i32_2613
  let v3280 : BitVec 32 := Scalar.addi c0_i32_2614 v3279
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2615 : BitVec 32 := 4#32
  let v3281 : BitVec 32 := Scalar.muli v92 c4_i32_2615
  let v3282 : BitVec 32 := Scalar.addi v3280 v3281
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2616 : BitVec 32 := 1#32
  let v3283 : BitVec 32 := Scalar.muli v105 c1_i32_2616
  let v3284 : BitVec 32 := Scalar.addi v3282 v3283
  v3284.toNat
def k0_dev58 (d0 : Dev nD) : Nat :=
  let c0_i32_2664 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2663 : BitVec 32 := 8#32
  let v3340 : BitVec 32 := Scalar.muli v160 c8_i32_2663
  let v3341 : BitVec 32 := Scalar.addi c0_i32_2664 v3340
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2665 : BitVec 32 := 4#32
  let v3342 : BitVec 32 := Scalar.muli v171 c4_i32_2665
  let v3343 : BitVec 32 := Scalar.addi v3341 v3342
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2666 : BitVec 32 := 1#32
  let v3344 : BitVec 32 := Scalar.muli v184 c1_i32_2666
  let v3345 : BitVec 32 := Scalar.addi v3343 v3344
  v3345.toNat
def k0_dev59 (d0 : Dev nD) : Nat :=
  let c0_i32_2712 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2711 : BitVec 32 := 8#32
  let v3401 : BitVec 32 := Scalar.muli v81 c8_i32_2711
  let v3402 : BitVec 32 := Scalar.addi c0_i32_2712 v3401
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2713 : BitVec 32 := 4#32
  let v3403 : BitVec 32 := Scalar.muli v92 c4_i32_2713
  let v3404 : BitVec 32 := Scalar.addi v3402 v3403
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2714 : BitVec 32 := 1#32
  let v3405 : BitVec 32 := Scalar.muli v105 c1_i32_2714
  let v3406 : BitVec 32 := Scalar.addi v3404 v3405
  v3406.toNat
def k0_dev60 (d0 : Dev nD) : Nat :=
  let c0_i32_2762 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2761 : BitVec 32 := 8#32
  let v3462 : BitVec 32 := Scalar.muli v160 c8_i32_2761
  let v3463 : BitVec 32 := Scalar.addi c0_i32_2762 v3462
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2763 : BitVec 32 := 4#32
  let v3464 : BitVec 32 := Scalar.muli v171 c4_i32_2763
  let v3465 : BitVec 32 := Scalar.addi v3463 v3464
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2764 : BitVec 32 := 1#32
  let v3466 : BitVec 32 := Scalar.muli v184 c1_i32_2764
  let v3467 : BitVec 32 := Scalar.addi v3465 v3466
  v3467.toNat
def k0_dev61 (d0 : Dev nD) : Nat :=
  let c0_i32_2812 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2811 : BitVec 32 := 8#32
  let v3523 : BitVec 32 := Scalar.muli v81 c8_i32_2811
  let v3524 : BitVec 32 := Scalar.addi c0_i32_2812 v3523
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2813 : BitVec 32 := 4#32
  let v3525 : BitVec 32 := Scalar.muli v92 c4_i32_2813
  let v3526 : BitVec 32 := Scalar.addi v3524 v3525
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2814 : BitVec 32 := 1#32
  let v3527 : BitVec 32 := Scalar.muli v105 c1_i32_2814
  let v3528 : BitVec 32 := Scalar.addi v3526 v3527
  v3528.toNat
def k0_dev62 (d0 : Dev nD) : Nat :=
  let c0_i32_2862 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2861 : BitVec 32 := 8#32
  let v3584 : BitVec 32 := Scalar.muli v160 c8_i32_2861
  let v3585 : BitVec 32 := Scalar.addi c0_i32_2862 v3584
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2863 : BitVec 32 := 4#32
  let v3586 : BitVec 32 := Scalar.muli v171 c4_i32_2863
  let v3587 : BitVec 32 := Scalar.addi v3585 v3586
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2864 : BitVec 32 := 1#32
  let v3588 : BitVec 32 := Scalar.muli v184 c1_i32_2864
  let v3589 : BitVec 32 := Scalar.addi v3587 v3588
  v3589.toNat
def k0_dev63 (d0 : Dev nD) : Nat :=
  let c0_i32_2912 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_2911 : BitVec 32 := 8#32
  let v3645 : BitVec 32 := Scalar.muli v81 c8_i32_2911
  let v3646 : BitVec 32 := Scalar.addi c0_i32_2912 v3645
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_2913 : BitVec 32 := 4#32
  let v3647 : BitVec 32 := Scalar.muli v92 c4_i32_2913
  let v3648 : BitVec 32 := Scalar.addi v3646 v3647
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_2914 : BitVec 32 := 1#32
  let v3649 : BitVec 32 := Scalar.muli v105 c1_i32_2914
  let v3650 : BitVec 32 := Scalar.addi v3648 v3649
  v3650.toNat
def k0_dev64 (d0 : Dev nD) : Nat :=
  let c0_i32_2962 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_2961 : BitVec 32 := 8#32
  let v3706 : BitVec 32 := Scalar.muli v160 c8_i32_2961
  let v3707 : BitVec 32 := Scalar.addi c0_i32_2962 v3706
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_2963 : BitVec 32 := 4#32
  let v3708 : BitVec 32 := Scalar.muli v171 c4_i32_2963
  let v3709 : BitVec 32 := Scalar.addi v3707 v3708
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_2964 : BitVec 32 := 1#32
  let v3710 : BitVec 32 := Scalar.muli v184 c1_i32_2964
  let v3711 : BitVec 32 := Scalar.addi v3709 v3710
  v3711.toNat
def k0_dev65 (d0 : Dev nD) : Nat :=
  let c0_i32_3012 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3011 : BitVec 32 := 8#32
  let v3767 : BitVec 32 := Scalar.muli v81 c8_i32_3011
  let v3768 : BitVec 32 := Scalar.addi c0_i32_3012 v3767
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3013 : BitVec 32 := 4#32
  let v3769 : BitVec 32 := Scalar.muli v92 c4_i32_3013
  let v3770 : BitVec 32 := Scalar.addi v3768 v3769
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3014 : BitVec 32 := 1#32
  let v3771 : BitVec 32 := Scalar.muli v105 c1_i32_3014
  let v3772 : BitVec 32 := Scalar.addi v3770 v3771
  v3772.toNat
def k0_dev66 (d0 : Dev nD) : Nat :=
  let c0_i32_3062 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3061 : BitVec 32 := 8#32
  let v3828 : BitVec 32 := Scalar.muli v160 c8_i32_3061
  let v3829 : BitVec 32 := Scalar.addi c0_i32_3062 v3828
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3063 : BitVec 32 := 4#32
  let v3830 : BitVec 32 := Scalar.muli v171 c4_i32_3063
  let v3831 : BitVec 32 := Scalar.addi v3829 v3830
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3064 : BitVec 32 := 1#32
  let v3832 : BitVec 32 := Scalar.muli v184 c1_i32_3064
  let v3833 : BitVec 32 := Scalar.addi v3831 v3832
  v3833.toNat
def k0_dev67 (d0 : Dev nD) : Nat :=
  let c0_i32_3111 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3110 : BitVec 32 := 8#32
  let v3889 : BitVec 32 := Scalar.muli v81 c8_i32_3110
  let v3890 : BitVec 32 := Scalar.addi c0_i32_3111 v3889
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3112 : BitVec 32 := 4#32
  let v3891 : BitVec 32 := Scalar.muli v92 c4_i32_3112
  let v3892 : BitVec 32 := Scalar.addi v3890 v3891
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3113 : BitVec 32 := 1#32
  let v3893 : BitVec 32 := Scalar.muli v105 c1_i32_3113
  let v3894 : BitVec 32 := Scalar.addi v3892 v3893
  v3894.toNat
def k0_dev68 (d0 : Dev nD) : Nat :=
  let c0_i32_3161 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3160 : BitVec 32 := 8#32
  let v3950 : BitVec 32 := Scalar.muli v160 c8_i32_3160
  let v3951 : BitVec 32 := Scalar.addi c0_i32_3161 v3950
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3162 : BitVec 32 := 4#32
  let v3952 : BitVec 32 := Scalar.muli v171 c4_i32_3162
  let v3953 : BitVec 32 := Scalar.addi v3951 v3952
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3163 : BitVec 32 := 1#32
  let v3954 : BitVec 32 := Scalar.muli v184 c1_i32_3163
  let v3955 : BitVec 32 := Scalar.addi v3953 v3954
  v3955.toNat
def k0_dev69 (d0 : Dev nD) : Nat :=
  let c0_i32_3211 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3210 : BitVec 32 := 8#32
  let v4011 : BitVec 32 := Scalar.muli v81 c8_i32_3210
  let v4012 : BitVec 32 := Scalar.addi c0_i32_3211 v4011
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3212 : BitVec 32 := 4#32
  let v4013 : BitVec 32 := Scalar.muli v92 c4_i32_3212
  let v4014 : BitVec 32 := Scalar.addi v4012 v4013
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3213 : BitVec 32 := 1#32
  let v4015 : BitVec 32 := Scalar.muli v105 c1_i32_3213
  let v4016 : BitVec 32 := Scalar.addi v4014 v4015
  v4016.toNat
def k0_dev70 (d0 : Dev nD) : Nat :=
  let c0_i32_3261 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3260 : BitVec 32 := 8#32
  let v4072 : BitVec 32 := Scalar.muli v160 c8_i32_3260
  let v4073 : BitVec 32 := Scalar.addi c0_i32_3261 v4072
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3262 : BitVec 32 := 4#32
  let v4074 : BitVec 32 := Scalar.muli v171 c4_i32_3262
  let v4075 : BitVec 32 := Scalar.addi v4073 v4074
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3263 : BitVec 32 := 1#32
  let v4076 : BitVec 32 := Scalar.muli v184 c1_i32_3263
  let v4077 : BitVec 32 := Scalar.addi v4075 v4076
  v4077.toNat
def k0_dev71 (d0 : Dev nD) : Nat :=
  let c0_i32_3311 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3310 : BitVec 32 := 8#32
  let v4133 : BitVec 32 := Scalar.muli v81 c8_i32_3310
  let v4134 : BitVec 32 := Scalar.addi c0_i32_3311 v4133
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3312 : BitVec 32 := 4#32
  let v4135 : BitVec 32 := Scalar.muli v92 c4_i32_3312
  let v4136 : BitVec 32 := Scalar.addi v4134 v4135
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3313 : BitVec 32 := 1#32
  let v4137 : BitVec 32 := Scalar.muli v105 c1_i32_3313
  let v4138 : BitVec 32 := Scalar.addi v4136 v4137
  v4138.toNat
def k0_dev72 (d0 : Dev nD) : Nat :=
  let c0_i32_3361 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3360 : BitVec 32 := 8#32
  let v4194 : BitVec 32 := Scalar.muli v160 c8_i32_3360
  let v4195 : BitVec 32 := Scalar.addi c0_i32_3361 v4194
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3362 : BitVec 32 := 4#32
  let v4196 : BitVec 32 := Scalar.muli v171 c4_i32_3362
  let v4197 : BitVec 32 := Scalar.addi v4195 v4196
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3363 : BitVec 32 := 1#32
  let v4198 : BitVec 32 := Scalar.muli v184 c1_i32_3363
  let v4199 : BitVec 32 := Scalar.addi v4197 v4198
  v4199.toNat
def k0_dev73 (d0 : Dev nD) : Nat :=
  let c0_i32_3411 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3410 : BitVec 32 := 8#32
  let v4255 : BitVec 32 := Scalar.muli v81 c8_i32_3410
  let v4256 : BitVec 32 := Scalar.addi c0_i32_3411 v4255
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3412 : BitVec 32 := 4#32
  let v4257 : BitVec 32 := Scalar.muli v92 c4_i32_3412
  let v4258 : BitVec 32 := Scalar.addi v4256 v4257
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3413 : BitVec 32 := 1#32
  let v4259 : BitVec 32 := Scalar.muli v105 c1_i32_3413
  let v4260 : BitVec 32 := Scalar.addi v4258 v4259
  v4260.toNat
def k0_dev74 (d0 : Dev nD) : Nat :=
  let c0_i32_3461 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3460 : BitVec 32 := 8#32
  let v4316 : BitVec 32 := Scalar.muli v160 c8_i32_3460
  let v4317 : BitVec 32 := Scalar.addi c0_i32_3461 v4316
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3462 : BitVec 32 := 4#32
  let v4318 : BitVec 32 := Scalar.muli v171 c4_i32_3462
  let v4319 : BitVec 32 := Scalar.addi v4317 v4318
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3463 : BitVec 32 := 1#32
  let v4320 : BitVec 32 := Scalar.muli v184 c1_i32_3463
  let v4321 : BitVec 32 := Scalar.addi v4319 v4320
  v4321.toNat
def k0_dev75 (d0 : Dev nD) : Nat :=
  let c0_i32_3509 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3508 : BitVec 32 := 8#32
  let v4377 : BitVec 32 := Scalar.muli v81 c8_i32_3508
  let v4378 : BitVec 32 := Scalar.addi c0_i32_3509 v4377
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3510 : BitVec 32 := 4#32
  let v4379 : BitVec 32 := Scalar.muli v92 c4_i32_3510
  let v4380 : BitVec 32 := Scalar.addi v4378 v4379
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3511 : BitVec 32 := 1#32
  let v4381 : BitVec 32 := Scalar.muli v105 c1_i32_3511
  let v4382 : BitVec 32 := Scalar.addi v4380 v4381
  v4382.toNat
def k0_dev76 (d0 : Dev nD) : Nat :=
  let c0_i32_3559 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3558 : BitVec 32 := 8#32
  let v4438 : BitVec 32 := Scalar.muli v160 c8_i32_3558
  let v4439 : BitVec 32 := Scalar.addi c0_i32_3559 v4438
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3560 : BitVec 32 := 4#32
  let v4440 : BitVec 32 := Scalar.muli v171 c4_i32_3560
  let v4441 : BitVec 32 := Scalar.addi v4439 v4440
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3561 : BitVec 32 := 1#32
  let v4442 : BitVec 32 := Scalar.muli v184 c1_i32_3561
  let v4443 : BitVec 32 := Scalar.addi v4441 v4442
  v4443.toNat
def k0_dev77 (d0 : Dev nD) : Nat :=
  let c0_i32_3609 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3608 : BitVec 32 := 8#32
  let v4499 : BitVec 32 := Scalar.muli v81 c8_i32_3608
  let v4500 : BitVec 32 := Scalar.addi c0_i32_3609 v4499
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3610 : BitVec 32 := 4#32
  let v4501 : BitVec 32 := Scalar.muli v92 c4_i32_3610
  let v4502 : BitVec 32 := Scalar.addi v4500 v4501
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3611 : BitVec 32 := 1#32
  let v4503 : BitVec 32 := Scalar.muli v105 c1_i32_3611
  let v4504 : BitVec 32 := Scalar.addi v4502 v4503
  v4504.toNat
def k0_dev78 (d0 : Dev nD) : Nat :=
  let c0_i32_3659 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3658 : BitVec 32 := 8#32
  let v4560 : BitVec 32 := Scalar.muli v160 c8_i32_3658
  let v4561 : BitVec 32 := Scalar.addi c0_i32_3659 v4560
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3660 : BitVec 32 := 4#32
  let v4562 : BitVec 32 := Scalar.muli v171 c4_i32_3660
  let v4563 : BitVec 32 := Scalar.addi v4561 v4562
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3661 : BitVec 32 := 1#32
  let v4564 : BitVec 32 := Scalar.muli v184 c1_i32_3661
  let v4565 : BitVec 32 := Scalar.addi v4563 v4564
  v4565.toNat
def k0_dev79 (d0 : Dev nD) : Nat :=
  let c0_i32_3709 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3708 : BitVec 32 := 8#32
  let v4621 : BitVec 32 := Scalar.muli v81 c8_i32_3708
  let v4622 : BitVec 32 := Scalar.addi c0_i32_3709 v4621
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3710 : BitVec 32 := 4#32
  let v4623 : BitVec 32 := Scalar.muli v92 c4_i32_3710
  let v4624 : BitVec 32 := Scalar.addi v4622 v4623
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3711 : BitVec 32 := 1#32
  let v4625 : BitVec 32 := Scalar.muli v105 c1_i32_3711
  let v4626 : BitVec 32 := Scalar.addi v4624 v4625
  v4626.toNat
def k0_dev80 (d0 : Dev nD) : Nat :=
  let c0_i32_3759 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3758 : BitVec 32 := 8#32
  let v4682 : BitVec 32 := Scalar.muli v160 c8_i32_3758
  let v4683 : BitVec 32 := Scalar.addi c0_i32_3759 v4682
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3760 : BitVec 32 := 4#32
  let v4684 : BitVec 32 := Scalar.muli v171 c4_i32_3760
  let v4685 : BitVec 32 := Scalar.addi v4683 v4684
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3761 : BitVec 32 := 1#32
  let v4686 : BitVec 32 := Scalar.muli v184 c1_i32_3761
  let v4687 : BitVec 32 := Scalar.addi v4685 v4686
  v4687.toNat
def k0_dev81 (d0 : Dev nD) : Nat :=
  let c0_i32_3809 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3808 : BitVec 32 := 8#32
  let v4743 : BitVec 32 := Scalar.muli v81 c8_i32_3808
  let v4744 : BitVec 32 := Scalar.addi c0_i32_3809 v4743
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3810 : BitVec 32 := 4#32
  let v4745 : BitVec 32 := Scalar.muli v92 c4_i32_3810
  let v4746 : BitVec 32 := Scalar.addi v4744 v4745
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3811 : BitVec 32 := 1#32
  let v4747 : BitVec 32 := Scalar.muli v105 c1_i32_3811
  let v4748 : BitVec 32 := Scalar.addi v4746 v4747
  v4748.toNat
def k0_dev82 (d0 : Dev nD) : Nat :=
  let c0_i32_3859 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3858 : BitVec 32 := 8#32
  let v4804 : BitVec 32 := Scalar.muli v160 c8_i32_3858
  let v4805 : BitVec 32 := Scalar.addi c0_i32_3859 v4804
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3860 : BitVec 32 := 4#32
  let v4806 : BitVec 32 := Scalar.muli v171 c4_i32_3860
  let v4807 : BitVec 32 := Scalar.addi v4805 v4806
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3861 : BitVec 32 := 1#32
  let v4808 : BitVec 32 := Scalar.muli v184 c1_i32_3861
  let v4809 : BitVec 32 := Scalar.addi v4807 v4808
  v4809.toNat
def k0_dev83 (d0 : Dev nD) : Nat :=
  let c0_i32_3907 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_3906 : BitVec 32 := 8#32
  let v4865 : BitVec 32 := Scalar.muli v81 c8_i32_3906
  let v4866 : BitVec 32 := Scalar.addi c0_i32_3907 v4865
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_3908 : BitVec 32 := 4#32
  let v4867 : BitVec 32 := Scalar.muli v92 c4_i32_3908
  let v4868 : BitVec 32 := Scalar.addi v4866 v4867
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_3909 : BitVec 32 := 1#32
  let v4869 : BitVec 32 := Scalar.muli v105 c1_i32_3909
  let v4870 : BitVec 32 := Scalar.addi v4868 v4869
  v4870.toNat
def k0_dev84 (d0 : Dev nD) : Nat :=
  let c0_i32_3957 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_3956 : BitVec 32 := 8#32
  let v4926 : BitVec 32 := Scalar.muli v160 c8_i32_3956
  let v4927 : BitVec 32 := Scalar.addi c0_i32_3957 v4926
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_3958 : BitVec 32 := 4#32
  let v4928 : BitVec 32 := Scalar.muli v171 c4_i32_3958
  let v4929 : BitVec 32 := Scalar.addi v4927 v4928
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_3959 : BitVec 32 := 1#32
  let v4930 : BitVec 32 := Scalar.muli v184 c1_i32_3959
  let v4931 : BitVec 32 := Scalar.addi v4929 v4930
  v4931.toNat
def k0_dev85 (d0 : Dev nD) : Nat :=
  let c0_i32_4007 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4006 : BitVec 32 := 8#32
  let v4987 : BitVec 32 := Scalar.muli v81 c8_i32_4006
  let v4988 : BitVec 32 := Scalar.addi c0_i32_4007 v4987
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4008 : BitVec 32 := 4#32
  let v4989 : BitVec 32 := Scalar.muli v92 c4_i32_4008
  let v4990 : BitVec 32 := Scalar.addi v4988 v4989
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4009 : BitVec 32 := 1#32
  let v4991 : BitVec 32 := Scalar.muli v105 c1_i32_4009
  let v4992 : BitVec 32 := Scalar.addi v4990 v4991
  v4992.toNat
def k0_dev86 (d0 : Dev nD) : Nat :=
  let c0_i32_4057 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4056 : BitVec 32 := 8#32
  let v5048 : BitVec 32 := Scalar.muli v160 c8_i32_4056
  let v5049 : BitVec 32 := Scalar.addi c0_i32_4057 v5048
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4058 : BitVec 32 := 4#32
  let v5050 : BitVec 32 := Scalar.muli v171 c4_i32_4058
  let v5051 : BitVec 32 := Scalar.addi v5049 v5050
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4059 : BitVec 32 := 1#32
  let v5052 : BitVec 32 := Scalar.muli v184 c1_i32_4059
  let v5053 : BitVec 32 := Scalar.addi v5051 v5052
  v5053.toNat
def k0_dev87 (d0 : Dev nD) : Nat :=
  let c0_i32_4107 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4106 : BitVec 32 := 8#32
  let v5109 : BitVec 32 := Scalar.muli v81 c8_i32_4106
  let v5110 : BitVec 32 := Scalar.addi c0_i32_4107 v5109
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4108 : BitVec 32 := 4#32
  let v5111 : BitVec 32 := Scalar.muli v92 c4_i32_4108
  let v5112 : BitVec 32 := Scalar.addi v5110 v5111
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4109 : BitVec 32 := 1#32
  let v5113 : BitVec 32 := Scalar.muli v105 c1_i32_4109
  let v5114 : BitVec 32 := Scalar.addi v5112 v5113
  v5114.toNat
def k0_dev88 (d0 : Dev nD) : Nat :=
  let c0_i32_4157 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4156 : BitVec 32 := 8#32
  let v5170 : BitVec 32 := Scalar.muli v160 c8_i32_4156
  let v5171 : BitVec 32 := Scalar.addi c0_i32_4157 v5170
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4158 : BitVec 32 := 4#32
  let v5172 : BitVec 32 := Scalar.muli v171 c4_i32_4158
  let v5173 : BitVec 32 := Scalar.addi v5171 v5172
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4159 : BitVec 32 := 1#32
  let v5174 : BitVec 32 := Scalar.muli v184 c1_i32_4159
  let v5175 : BitVec 32 := Scalar.addi v5173 v5174
  v5175.toNat
def k0_dev89 (d0 : Dev nD) : Nat :=
  let c0_i32_4207 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4206 : BitVec 32 := 8#32
  let v5231 : BitVec 32 := Scalar.muli v81 c8_i32_4206
  let v5232 : BitVec 32 := Scalar.addi c0_i32_4207 v5231
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4208 : BitVec 32 := 4#32
  let v5233 : BitVec 32 := Scalar.muli v92 c4_i32_4208
  let v5234 : BitVec 32 := Scalar.addi v5232 v5233
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4209 : BitVec 32 := 1#32
  let v5235 : BitVec 32 := Scalar.muli v105 c1_i32_4209
  let v5236 : BitVec 32 := Scalar.addi v5234 v5235
  v5236.toNat
def k0_dev90 (d0 : Dev nD) : Nat :=
  let c0_i32_4257 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4256 : BitVec 32 := 8#32
  let v5292 : BitVec 32 := Scalar.muli v160 c8_i32_4256
  let v5293 : BitVec 32 := Scalar.addi c0_i32_4257 v5292
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4258 : BitVec 32 := 4#32
  let v5294 : BitVec 32 := Scalar.muli v171 c4_i32_4258
  let v5295 : BitVec 32 := Scalar.addi v5293 v5294
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4259 : BitVec 32 := 1#32
  let v5296 : BitVec 32 := Scalar.muli v184 c1_i32_4259
  let v5297 : BitVec 32 := Scalar.addi v5295 v5296
  v5297.toNat
def k0_dev91 (d0 : Dev nD) : Nat :=
  let c0_i32_4305 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4304 : BitVec 32 := 8#32
  let v5353 : BitVec 32 := Scalar.muli v81 c8_i32_4304
  let v5354 : BitVec 32 := Scalar.addi c0_i32_4305 v5353
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4306 : BitVec 32 := 4#32
  let v5355 : BitVec 32 := Scalar.muli v92 c4_i32_4306
  let v5356 : BitVec 32 := Scalar.addi v5354 v5355
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4307 : BitVec 32 := 1#32
  let v5357 : BitVec 32 := Scalar.muli v105 c1_i32_4307
  let v5358 : BitVec 32 := Scalar.addi v5356 v5357
  v5358.toNat
def k0_dev92 (d0 : Dev nD) : Nat :=
  let c0_i32_4355 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4354 : BitVec 32 := 8#32
  let v5414 : BitVec 32 := Scalar.muli v160 c8_i32_4354
  let v5415 : BitVec 32 := Scalar.addi c0_i32_4355 v5414
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4356 : BitVec 32 := 4#32
  let v5416 : BitVec 32 := Scalar.muli v171 c4_i32_4356
  let v5417 : BitVec 32 := Scalar.addi v5415 v5416
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4357 : BitVec 32 := 1#32
  let v5418 : BitVec 32 := Scalar.muli v184 c1_i32_4357
  let v5419 : BitVec 32 := Scalar.addi v5417 v5418
  v5419.toNat
def k0_dev93 (d0 : Dev nD) : Nat :=
  let c0_i32_4405 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4404 : BitVec 32 := 8#32
  let v5475 : BitVec 32 := Scalar.muli v81 c8_i32_4404
  let v5476 : BitVec 32 := Scalar.addi c0_i32_4405 v5475
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4406 : BitVec 32 := 4#32
  let v5477 : BitVec 32 := Scalar.muli v92 c4_i32_4406
  let v5478 : BitVec 32 := Scalar.addi v5476 v5477
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4407 : BitVec 32 := 1#32
  let v5479 : BitVec 32 := Scalar.muli v105 c1_i32_4407
  let v5480 : BitVec 32 := Scalar.addi v5478 v5479
  v5480.toNat
def k0_dev94 (d0 : Dev nD) : Nat :=
  let c0_i32_4455 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4454 : BitVec 32 := 8#32
  let v5536 : BitVec 32 := Scalar.muli v160 c8_i32_4454
  let v5537 : BitVec 32 := Scalar.addi c0_i32_4455 v5536
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4456 : BitVec 32 := 4#32
  let v5538 : BitVec 32 := Scalar.muli v171 c4_i32_4456
  let v5539 : BitVec 32 := Scalar.addi v5537 v5538
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4457 : BitVec 32 := 1#32
  let v5540 : BitVec 32 := Scalar.muli v184 c1_i32_4457
  let v5541 : BitVec 32 := Scalar.addi v5539 v5540
  v5541.toNat
def k0_dev95 (d0 : Dev nD) : Nat :=
  let c0_i32_4505 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4504 : BitVec 32 := 8#32
  let v5597 : BitVec 32 := Scalar.muli v81 c8_i32_4504
  let v5598 : BitVec 32 := Scalar.addi c0_i32_4505 v5597
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4506 : BitVec 32 := 4#32
  let v5599 : BitVec 32 := Scalar.muli v92 c4_i32_4506
  let v5600 : BitVec 32 := Scalar.addi v5598 v5599
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4507 : BitVec 32 := 1#32
  let v5601 : BitVec 32 := Scalar.muli v105 c1_i32_4507
  let v5602 : BitVec 32 := Scalar.addi v5600 v5601
  v5602.toNat
def k0_dev96 (d0 : Dev nD) : Nat :=
  let c0_i32_4555 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4554 : BitVec 32 := 8#32
  let v5658 : BitVec 32 := Scalar.muli v160 c8_i32_4554
  let v5659 : BitVec 32 := Scalar.addi c0_i32_4555 v5658
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4556 : BitVec 32 := 4#32
  let v5660 : BitVec 32 := Scalar.muli v171 c4_i32_4556
  let v5661 : BitVec 32 := Scalar.addi v5659 v5660
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4557 : BitVec 32 := 1#32
  let v5662 : BitVec 32 := Scalar.muli v184 c1_i32_4557
  let v5663 : BitVec 32 := Scalar.addi v5661 v5662
  v5663.toNat
def k0_dev97 (d0 : Dev nD) : Nat :=
  let c0_i32_4605 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4604 : BitVec 32 := 8#32
  let v5719 : BitVec 32 := Scalar.muli v81 c8_i32_4604
  let v5720 : BitVec 32 := Scalar.addi c0_i32_4605 v5719
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4606 : BitVec 32 := 4#32
  let v5721 : BitVec 32 := Scalar.muli v92 c4_i32_4606
  let v5722 : BitVec 32 := Scalar.addi v5720 v5721
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4607 : BitVec 32 := 1#32
  let v5723 : BitVec 32 := Scalar.muli v105 c1_i32_4607
  let v5724 : BitVec 32 := Scalar.addi v5722 v5723
  v5724.toNat
def k0_dev98 (d0 : Dev nD) : Nat :=
  let c0_i32_4655 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4654 : BitVec 32 := 8#32
  let v5780 : BitVec 32 := Scalar.muli v160 c8_i32_4654
  let v5781 : BitVec 32 := Scalar.addi c0_i32_4655 v5780
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4656 : BitVec 32 := 4#32
  let v5782 : BitVec 32 := Scalar.muli v171 c4_i32_4656
  let v5783 : BitVec 32 := Scalar.addi v5781 v5782
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4657 : BitVec 32 := 1#32
  let v5784 : BitVec 32 := Scalar.muli v184 c1_i32_4657
  let v5785 : BitVec 32 := Scalar.addi v5783 v5784
  v5785.toNat
def k0_dev99 (d0 : Dev nD) : Nat :=
  let c0_i32_4703 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4702 : BitVec 32 := 8#32
  let v5841 : BitVec 32 := Scalar.muli v81 c8_i32_4702
  let v5842 : BitVec 32 := Scalar.addi c0_i32_4703 v5841
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4704 : BitVec 32 := 4#32
  let v5843 : BitVec 32 := Scalar.muli v92 c4_i32_4704
  let v5844 : BitVec 32 := Scalar.addi v5842 v5843
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4705 : BitVec 32 := 1#32
  let v5845 : BitVec 32 := Scalar.muli v105 c1_i32_4705
  let v5846 : BitVec 32 := Scalar.addi v5844 v5845
  v5846.toNat
def k0_dev100 (d0 : Dev nD) : Nat :=
  let c0_i32_4753 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4752 : BitVec 32 := 8#32
  let v5902 : BitVec 32 := Scalar.muli v160 c8_i32_4752
  let v5903 : BitVec 32 := Scalar.addi c0_i32_4753 v5902
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4754 : BitVec 32 := 4#32
  let v5904 : BitVec 32 := Scalar.muli v171 c4_i32_4754
  let v5905 : BitVec 32 := Scalar.addi v5903 v5904
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4755 : BitVec 32 := 1#32
  let v5906 : BitVec 32 := Scalar.muli v184 c1_i32_4755
  let v5907 : BitVec 32 := Scalar.addi v5905 v5906
  v5907.toNat
def k0_dev101 (d0 : Dev nD) : Nat :=
  let c0_i32_4803 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4802 : BitVec 32 := 8#32
  let v5963 : BitVec 32 := Scalar.muli v81 c8_i32_4802
  let v5964 : BitVec 32 := Scalar.addi c0_i32_4803 v5963
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4804 : BitVec 32 := 4#32
  let v5965 : BitVec 32 := Scalar.muli v92 c4_i32_4804
  let v5966 : BitVec 32 := Scalar.addi v5964 v5965
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4805 : BitVec 32 := 1#32
  let v5967 : BitVec 32 := Scalar.muli v105 c1_i32_4805
  let v5968 : BitVec 32 := Scalar.addi v5966 v5967
  v5968.toNat
def k0_dev102 (d0 : Dev nD) : Nat :=
  let c0_i32_4853 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4852 : BitVec 32 := 8#32
  let v6024 : BitVec 32 := Scalar.muli v160 c8_i32_4852
  let v6025 : BitVec 32 := Scalar.addi c0_i32_4853 v6024
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4854 : BitVec 32 := 4#32
  let v6026 : BitVec 32 := Scalar.muli v171 c4_i32_4854
  let v6027 : BitVec 32 := Scalar.addi v6025 v6026
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4855 : BitVec 32 := 1#32
  let v6028 : BitVec 32 := Scalar.muli v184 c1_i32_4855
  let v6029 : BitVec 32 := Scalar.addi v6027 v6028
  v6029.toNat
def k0_dev103 (d0 : Dev nD) : Nat :=
  let c0_i32_4903 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_4902 : BitVec 32 := 8#32
  let v6085 : BitVec 32 := Scalar.muli v81 c8_i32_4902
  let v6086 : BitVec 32 := Scalar.addi c0_i32_4903 v6085
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_4904 : BitVec 32 := 4#32
  let v6087 : BitVec 32 := Scalar.muli v92 c4_i32_4904
  let v6088 : BitVec 32 := Scalar.addi v6086 v6087
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_4905 : BitVec 32 := 1#32
  let v6089 : BitVec 32 := Scalar.muli v105 c1_i32_4905
  let v6090 : BitVec 32 := Scalar.addi v6088 v6089
  v6090.toNat
def k0_dev104 (d0 : Dev nD) : Nat :=
  let c0_i32_4953 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_4952 : BitVec 32 := 8#32
  let v6146 : BitVec 32 := Scalar.muli v160 c8_i32_4952
  let v6147 : BitVec 32 := Scalar.addi c0_i32_4953 v6146
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_4954 : BitVec 32 := 4#32
  let v6148 : BitVec 32 := Scalar.muli v171 c4_i32_4954
  let v6149 : BitVec 32 := Scalar.addi v6147 v6148
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_4955 : BitVec 32 := 1#32
  let v6150 : BitVec 32 := Scalar.muli v184 c1_i32_4955
  let v6151 : BitVec 32 := Scalar.addi v6149 v6150
  v6151.toNat
def k0_dev105 (d0 : Dev nD) : Nat :=
  let c0_i32_5003 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5002 : BitVec 32 := 8#32
  let v6207 : BitVec 32 := Scalar.muli v81 c8_i32_5002
  let v6208 : BitVec 32 := Scalar.addi c0_i32_5003 v6207
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5004 : BitVec 32 := 4#32
  let v6209 : BitVec 32 := Scalar.muli v92 c4_i32_5004
  let v6210 : BitVec 32 := Scalar.addi v6208 v6209
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5005 : BitVec 32 := 1#32
  let v6211 : BitVec 32 := Scalar.muli v105 c1_i32_5005
  let v6212 : BitVec 32 := Scalar.addi v6210 v6211
  v6212.toNat
def k0_dev106 (d0 : Dev nD) : Nat :=
  let c0_i32_5053 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5052 : BitVec 32 := 8#32
  let v6268 : BitVec 32 := Scalar.muli v160 c8_i32_5052
  let v6269 : BitVec 32 := Scalar.addi c0_i32_5053 v6268
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5054 : BitVec 32 := 4#32
  let v6270 : BitVec 32 := Scalar.muli v171 c4_i32_5054
  let v6271 : BitVec 32 := Scalar.addi v6269 v6270
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5055 : BitVec 32 := 1#32
  let v6272 : BitVec 32 := Scalar.muli v184 c1_i32_5055
  let v6273 : BitVec 32 := Scalar.addi v6271 v6272
  v6273.toNat
def k0_dev107 (d0 : Dev nD) : Nat :=
  let c0_i32_5101 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5100 : BitVec 32 := 8#32
  let v6329 : BitVec 32 := Scalar.muli v81 c8_i32_5100
  let v6330 : BitVec 32 := Scalar.addi c0_i32_5101 v6329
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5102 : BitVec 32 := 4#32
  let v6331 : BitVec 32 := Scalar.muli v92 c4_i32_5102
  let v6332 : BitVec 32 := Scalar.addi v6330 v6331
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5103 : BitVec 32 := 1#32
  let v6333 : BitVec 32 := Scalar.muli v105 c1_i32_5103
  let v6334 : BitVec 32 := Scalar.addi v6332 v6333
  v6334.toNat
def k0_dev108 (d0 : Dev nD) : Nat :=
  let c0_i32_5151 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5150 : BitVec 32 := 8#32
  let v6390 : BitVec 32 := Scalar.muli v160 c8_i32_5150
  let v6391 : BitVec 32 := Scalar.addi c0_i32_5151 v6390
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5152 : BitVec 32 := 4#32
  let v6392 : BitVec 32 := Scalar.muli v171 c4_i32_5152
  let v6393 : BitVec 32 := Scalar.addi v6391 v6392
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5153 : BitVec 32 := 1#32
  let v6394 : BitVec 32 := Scalar.muli v184 c1_i32_5153
  let v6395 : BitVec 32 := Scalar.addi v6393 v6394
  v6395.toNat
def k0_dev109 (d0 : Dev nD) : Nat :=
  let c0_i32_5201 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5200 : BitVec 32 := 8#32
  let v6451 : BitVec 32 := Scalar.muli v81 c8_i32_5200
  let v6452 : BitVec 32 := Scalar.addi c0_i32_5201 v6451
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5202 : BitVec 32 := 4#32
  let v6453 : BitVec 32 := Scalar.muli v92 c4_i32_5202
  let v6454 : BitVec 32 := Scalar.addi v6452 v6453
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5203 : BitVec 32 := 1#32
  let v6455 : BitVec 32 := Scalar.muli v105 c1_i32_5203
  let v6456 : BitVec 32 := Scalar.addi v6454 v6455
  v6456.toNat
def k0_dev110 (d0 : Dev nD) : Nat :=
  let c0_i32_5251 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5250 : BitVec 32 := 8#32
  let v6512 : BitVec 32 := Scalar.muli v160 c8_i32_5250
  let v6513 : BitVec 32 := Scalar.addi c0_i32_5251 v6512
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5252 : BitVec 32 := 4#32
  let v6514 : BitVec 32 := Scalar.muli v171 c4_i32_5252
  let v6515 : BitVec 32 := Scalar.addi v6513 v6514
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5253 : BitVec 32 := 1#32
  let v6516 : BitVec 32 := Scalar.muli v184 c1_i32_5253
  let v6517 : BitVec 32 := Scalar.addi v6515 v6516
  v6517.toNat
def k0_dev111 (d0 : Dev nD) : Nat :=
  let c0_i32_5301 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5300 : BitVec 32 := 8#32
  let v6573 : BitVec 32 := Scalar.muli v81 c8_i32_5300
  let v6574 : BitVec 32 := Scalar.addi c0_i32_5301 v6573
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5302 : BitVec 32 := 4#32
  let v6575 : BitVec 32 := Scalar.muli v92 c4_i32_5302
  let v6576 : BitVec 32 := Scalar.addi v6574 v6575
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5303 : BitVec 32 := 1#32
  let v6577 : BitVec 32 := Scalar.muli v105 c1_i32_5303
  let v6578 : BitVec 32 := Scalar.addi v6576 v6577
  v6578.toNat
def k0_dev112 (d0 : Dev nD) : Nat :=
  let c0_i32_5351 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5350 : BitVec 32 := 8#32
  let v6634 : BitVec 32 := Scalar.muli v160 c8_i32_5350
  let v6635 : BitVec 32 := Scalar.addi c0_i32_5351 v6634
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5352 : BitVec 32 := 4#32
  let v6636 : BitVec 32 := Scalar.muli v171 c4_i32_5352
  let v6637 : BitVec 32 := Scalar.addi v6635 v6636
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5353 : BitVec 32 := 1#32
  let v6638 : BitVec 32 := Scalar.muli v184 c1_i32_5353
  let v6639 : BitVec 32 := Scalar.addi v6637 v6638
  v6639.toNat
def k0_dev113 (d0 : Dev nD) : Nat :=
  let c0_i32_5401 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5400 : BitVec 32 := 8#32
  let v6695 : BitVec 32 := Scalar.muli v81 c8_i32_5400
  let v6696 : BitVec 32 := Scalar.addi c0_i32_5401 v6695
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5402 : BitVec 32 := 4#32
  let v6697 : BitVec 32 := Scalar.muli v92 c4_i32_5402
  let v6698 : BitVec 32 := Scalar.addi v6696 v6697
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5403 : BitVec 32 := 1#32
  let v6699 : BitVec 32 := Scalar.muli v105 c1_i32_5403
  let v6700 : BitVec 32 := Scalar.addi v6698 v6699
  v6700.toNat
def k0_dev114 (d0 : Dev nD) : Nat :=
  let c0_i32_5451 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5450 : BitVec 32 := 8#32
  let v6756 : BitVec 32 := Scalar.muli v160 c8_i32_5450
  let v6757 : BitVec 32 := Scalar.addi c0_i32_5451 v6756
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5452 : BitVec 32 := 4#32
  let v6758 : BitVec 32 := Scalar.muli v171 c4_i32_5452
  let v6759 : BitVec 32 := Scalar.addi v6757 v6758
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5453 : BitVec 32 := 1#32
  let v6760 : BitVec 32 := Scalar.muli v184 c1_i32_5453
  let v6761 : BitVec 32 := Scalar.addi v6759 v6760
  v6761.toNat
def k0_dev115 (d0 : Dev nD) : Nat :=
  let c0_i32_5499 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5498 : BitVec 32 := 8#32
  let v6817 : BitVec 32 := Scalar.muli v81 c8_i32_5498
  let v6818 : BitVec 32 := Scalar.addi c0_i32_5499 v6817
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5500 : BitVec 32 := 4#32
  let v6819 : BitVec 32 := Scalar.muli v92 c4_i32_5500
  let v6820 : BitVec 32 := Scalar.addi v6818 v6819
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5501 : BitVec 32 := 1#32
  let v6821 : BitVec 32 := Scalar.muli v105 c1_i32_5501
  let v6822 : BitVec 32 := Scalar.addi v6820 v6821
  v6822.toNat
def k0_dev116 (d0 : Dev nD) : Nat :=
  let c0_i32_5549 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5548 : BitVec 32 := 8#32
  let v6878 : BitVec 32 := Scalar.muli v160 c8_i32_5548
  let v6879 : BitVec 32 := Scalar.addi c0_i32_5549 v6878
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5550 : BitVec 32 := 4#32
  let v6880 : BitVec 32 := Scalar.muli v171 c4_i32_5550
  let v6881 : BitVec 32 := Scalar.addi v6879 v6880
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5551 : BitVec 32 := 1#32
  let v6882 : BitVec 32 := Scalar.muli v184 c1_i32_5551
  let v6883 : BitVec 32 := Scalar.addi v6881 v6882
  v6883.toNat
def k0_dev117 (d0 : Dev nD) : Nat :=
  let c0_i32_5599 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5598 : BitVec 32 := 8#32
  let v6939 : BitVec 32 := Scalar.muli v81 c8_i32_5598
  let v6940 : BitVec 32 := Scalar.addi c0_i32_5599 v6939
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5600 : BitVec 32 := 4#32
  let v6941 : BitVec 32 := Scalar.muli v92 c4_i32_5600
  let v6942 : BitVec 32 := Scalar.addi v6940 v6941
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5601 : BitVec 32 := 1#32
  let v6943 : BitVec 32 := Scalar.muli v105 c1_i32_5601
  let v6944 : BitVec 32 := Scalar.addi v6942 v6943
  v6944.toNat
def k0_dev118 (d0 : Dev nD) : Nat :=
  let c0_i32_5649 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5648 : BitVec 32 := 8#32
  let v7000 : BitVec 32 := Scalar.muli v160 c8_i32_5648
  let v7001 : BitVec 32 := Scalar.addi c0_i32_5649 v7000
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5650 : BitVec 32 := 4#32
  let v7002 : BitVec 32 := Scalar.muli v171 c4_i32_5650
  let v7003 : BitVec 32 := Scalar.addi v7001 v7002
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5651 : BitVec 32 := 1#32
  let v7004 : BitVec 32 := Scalar.muli v184 c1_i32_5651
  let v7005 : BitVec 32 := Scalar.addi v7003 v7004
  v7005.toNat
def k0_dev119 (d0 : Dev nD) : Nat :=
  let c0_i32_5699 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5698 : BitVec 32 := 8#32
  let v7061 : BitVec 32 := Scalar.muli v81 c8_i32_5698
  let v7062 : BitVec 32 := Scalar.addi c0_i32_5699 v7061
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5700 : BitVec 32 := 4#32
  let v7063 : BitVec 32 := Scalar.muli v92 c4_i32_5700
  let v7064 : BitVec 32 := Scalar.addi v7062 v7063
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5701 : BitVec 32 := 1#32
  let v7065 : BitVec 32 := Scalar.muli v105 c1_i32_5701
  let v7066 : BitVec 32 := Scalar.addi v7064 v7065
  v7066.toNat
def k0_dev120 (d0 : Dev nD) : Nat :=
  let c0_i32_5749 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5748 : BitVec 32 := 8#32
  let v7122 : BitVec 32 := Scalar.muli v160 c8_i32_5748
  let v7123 : BitVec 32 := Scalar.addi c0_i32_5749 v7122
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5750 : BitVec 32 := 4#32
  let v7124 : BitVec 32 := Scalar.muli v171 c4_i32_5750
  let v7125 : BitVec 32 := Scalar.addi v7123 v7124
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5751 : BitVec 32 := 1#32
  let v7126 : BitVec 32 := Scalar.muli v184 c1_i32_5751
  let v7127 : BitVec 32 := Scalar.addi v7125 v7126
  v7127.toNat
def k0_dev121 (d0 : Dev nD) : Nat :=
  let c0_i32_5799 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5798 : BitVec 32 := 8#32
  let v7183 : BitVec 32 := Scalar.muli v81 c8_i32_5798
  let v7184 : BitVec 32 := Scalar.addi c0_i32_5799 v7183
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5800 : BitVec 32 := 4#32
  let v7185 : BitVec 32 := Scalar.muli v92 c4_i32_5800
  let v7186 : BitVec 32 := Scalar.addi v7184 v7185
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5801 : BitVec 32 := 1#32
  let v7187 : BitVec 32 := Scalar.muli v105 c1_i32_5801
  let v7188 : BitVec 32 := Scalar.addi v7186 v7187
  v7188.toNat
def k0_dev122 (d0 : Dev nD) : Nat :=
  let c0_i32_5849 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5848 : BitVec 32 := 8#32
  let v7244 : BitVec 32 := Scalar.muli v160 c8_i32_5848
  let v7245 : BitVec 32 := Scalar.addi c0_i32_5849 v7244
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5850 : BitVec 32 := 4#32
  let v7246 : BitVec 32 := Scalar.muli v171 c4_i32_5850
  let v7247 : BitVec 32 := Scalar.addi v7245 v7246
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5851 : BitVec 32 := 1#32
  let v7248 : BitVec 32 := Scalar.muli v184 c1_i32_5851
  let v7249 : BitVec 32 := Scalar.addi v7247 v7248
  v7249.toNat
def k0_off5 (d0 : Dev nD) (c0_i32_5883 : BitVec 32) (c0_i32_5892 : BitVec 32) : Fin 2 → Nat :=
  let c0_i32_5891 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_5882 : BitVec 32 := 1#32
  let v7291 : BitVec 32 := Scalar.addi v26 c1_i32_5882
  let v7292 : BitVec 32 := Scalar.subi v7291 c0_i32_5883
  let c16_i32_5884 : BitVec 32 := 16#32
  let c0_i32_5885 : BitVec 32 := 0#32
  let v7293 : BitVec 1 := Scalar.cmpi .eq c16_i32_5884 c0_i32_5885
  let c1_i32_5886 : BitVec 32 := 1#32
  let v7294 : BitVec 32 := Scalar.select v7293 c1_i32_5886 c16_i32_5884
  let v7295 : BitVec 32 := Scalar.remsi v7292 v7294
  let c0_i32_5888 : BitVec 32 := 0#32
  let v7297 : BitVec 1 := Scalar.cmpi .slt v7295 c0_i32_5888
  let c0_i32_5889 : BitVec 32 := 0#32
  let v7298 : BitVec 1 := Scalar.cmpi .slt v7294 c0_i32_5889
  let v7299 : BitVec 1 := Scalar.xori v7297 v7298
  let c0_i32_5887 : BitVec 32 := 0#32
  let v7296 : BitVec 1 := Scalar.cmpi .ne v7295 c0_i32_5887
  let v7300 : BitVec 1 := Scalar.andi v7299 v7296
  let v7301 : BitVec 32 := Scalar.addi v7295 v7294
  let v7302 : BitVec 32 := Scalar.select v7300 v7301 v7295
  let c64_i32_5890 : BitVec 32 := 64#32
  let v7303 : BitVec 32 := Scalar.muli v7302 c64_i32_5890
  let v7304 : BitVec 32 := Scalar.addi c0_i32_5891 v7303
  let v7305 : BitVec 32 := Scalar.addi v7304 c0_i32_5892
  let c0_i32_5901 : BitVec 32 := 0#32
  ![v7305.toNat, 0]
def k0_dev123 (d0 : Dev nD) : Nat :=
  let c0_i32_5898 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5897 : BitVec 32 := 8#32
  let v7306 : BitVec 32 := Scalar.muli v81 c8_i32_5897
  let v7307 : BitVec 32 := Scalar.addi c0_i32_5898 v7306
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5899 : BitVec 32 := 4#32
  let v7308 : BitVec 32 := Scalar.muli v92 c4_i32_5899
  let v7309 : BitVec 32 := Scalar.addi v7307 v7308
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5900 : BitVec 32 := 1#32
  let v7310 : BitVec 32 := Scalar.muli v105 c1_i32_5900
  let v7311 : BitVec 32 := Scalar.addi v7309 v7310
  v7311.toNat
def k0_off6 (d0 : Dev nD) (c0_i32_5932 : BitVec 32) (c0_i32_5941 : BitVec 32) : Fin 2 → Nat :=
  let c1024_i32_5940 : BitVec 32 := 1024#32
  let c16_i32_91 : BitVec 32 := 16#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let v185 : BitVec 32 := Scalar.subi c16_i32_91 v26
  let c16_i32_92 : BitVec 32 := 16#32
  let c0_i32_93 : BitVec 32 := 0#32
  let v186 : BitVec 1 := Scalar.cmpi .eq c16_i32_92 c0_i32_93
  let c1_i32_94 : BitVec 32 := 1#32
  let v187 : BitVec 32 := Scalar.select v186 c1_i32_94 c16_i32_92
  let v188 : BitVec 32 := Scalar.remsi v185 v187
  let c0_i32_96 : BitVec 32 := 0#32
  let v190 : BitVec 1 := Scalar.cmpi .slt v188 c0_i32_96
  let c0_i32_97 : BitVec 32 := 0#32
  let v191 : BitVec 1 := Scalar.cmpi .slt v187 c0_i32_97
  let v192 : BitVec 1 := Scalar.xori v190 v191
  let c0_i32_95 : BitVec 32 := 0#32
  let v189 : BitVec 1 := Scalar.cmpi .ne v188 c0_i32_95
  let v193 : BitVec 1 := Scalar.andi v192 v189
  let v194 : BitVec 32 := Scalar.addi v188 v187
  let v195 : BitVec 32 := Scalar.select v193 v194 v188
  let c1_i32_5931 : BitVec 32 := 1#32
  let v7352 : BitVec 32 := Scalar.addi v195 c1_i32_5931
  let v7353 : BitVec 32 := Scalar.subi v7352 c0_i32_5932
  let c16_i32_5933 : BitVec 32 := 16#32
  let c0_i32_5934 : BitVec 32 := 0#32
  let v7354 : BitVec 1 := Scalar.cmpi .eq c16_i32_5933 c0_i32_5934
  let c1_i32_5935 : BitVec 32 := 1#32
  let v7355 : BitVec 32 := Scalar.select v7354 c1_i32_5935 c16_i32_5933
  let v7356 : BitVec 32 := Scalar.remsi v7353 v7355
  let c0_i32_5937 : BitVec 32 := 0#32
  let v7358 : BitVec 1 := Scalar.cmpi .slt v7356 c0_i32_5937
  let c0_i32_5938 : BitVec 32 := 0#32
  let v7359 : BitVec 1 := Scalar.cmpi .slt v7355 c0_i32_5938
  let v7360 : BitVec 1 := Scalar.xori v7358 v7359
  let c0_i32_5936 : BitVec 32 := 0#32
  let v7357 : BitVec 1 := Scalar.cmpi .ne v7356 c0_i32_5936
  let v7361 : BitVec 1 := Scalar.andi v7360 v7357
  let v7362 : BitVec 32 := Scalar.addi v7356 v7355
  let v7363 : BitVec 32 := Scalar.select v7361 v7362 v7356
  let c64_i32_5939 : BitVec 32 := 64#32
  let v7364 : BitVec 32 := Scalar.muli v7363 c64_i32_5939
  let v7365 : BitVec 32 := Scalar.addi c1024_i32_5940 v7364
  let v7366 : BitVec 32 := Scalar.addi v7365 c0_i32_5941
  let c0_i32_5950 : BitVec 32 := 0#32
  ![v7366.toNat, 0]
def k0_dev124 (d0 : Dev nD) : Nat :=
  let c0_i32_5947 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_5946 : BitVec 32 := 8#32
  let v7367 : BitVec 32 := Scalar.muli v160 c8_i32_5946
  let v7368 : BitVec 32 := Scalar.addi c0_i32_5947 v7367
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_5948 : BitVec 32 := 4#32
  let v7369 : BitVec 32 := Scalar.muli v171 c4_i32_5948
  let v7370 : BitVec 32 := Scalar.addi v7368 v7369
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_5949 : BitVec 32 := 1#32
  let v7371 : BitVec 32 := Scalar.muli v184 c1_i32_5949
  let v7372 : BitVec 32 := Scalar.addi v7370 v7371
  v7372.toNat
def k0_dev125 (d0 : Dev nD) : Nat :=
  let c0_i32_5996 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_5995 : BitVec 32 := 8#32
  let v7428 : BitVec 32 := Scalar.muli v81 c8_i32_5995
  let v7429 : BitVec 32 := Scalar.addi c0_i32_5996 v7428
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_5997 : BitVec 32 := 4#32
  let v7430 : BitVec 32 := Scalar.muli v92 c4_i32_5997
  let v7431 : BitVec 32 := Scalar.addi v7429 v7430
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_5998 : BitVec 32 := 1#32
  let v7432 : BitVec 32 := Scalar.muli v105 c1_i32_5998
  let v7433 : BitVec 32 := Scalar.addi v7431 v7432
  v7433.toNat
def k0_dev126 (d0 : Dev nD) : Nat :=
  let c0_i32_6045 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6044 : BitVec 32 := 8#32
  let v7489 : BitVec 32 := Scalar.muli v160 c8_i32_6044
  let v7490 : BitVec 32 := Scalar.addi c0_i32_6045 v7489
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6046 : BitVec 32 := 4#32
  let v7491 : BitVec 32 := Scalar.muli v171 c4_i32_6046
  let v7492 : BitVec 32 := Scalar.addi v7490 v7491
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6047 : BitVec 32 := 1#32
  let v7493 : BitVec 32 := Scalar.muli v184 c1_i32_6047
  let v7494 : BitVec 32 := Scalar.addi v7492 v7493
  v7494.toNat
def k0_dev127 (d0 : Dev nD) : Nat :=
  let c0_i32_6094 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6093 : BitVec 32 := 8#32
  let v7550 : BitVec 32 := Scalar.muli v81 c8_i32_6093
  let v7551 : BitVec 32 := Scalar.addi c0_i32_6094 v7550
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6095 : BitVec 32 := 4#32
  let v7552 : BitVec 32 := Scalar.muli v92 c4_i32_6095
  let v7553 : BitVec 32 := Scalar.addi v7551 v7552
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6096 : BitVec 32 := 1#32
  let v7554 : BitVec 32 := Scalar.muli v105 c1_i32_6096
  let v7555 : BitVec 32 := Scalar.addi v7553 v7554
  v7555.toNat
def k0_dev128 (d0 : Dev nD) : Nat :=
  let c0_i32_6143 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6142 : BitVec 32 := 8#32
  let v7611 : BitVec 32 := Scalar.muli v160 c8_i32_6142
  let v7612 : BitVec 32 := Scalar.addi c0_i32_6143 v7611
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6144 : BitVec 32 := 4#32
  let v7613 : BitVec 32 := Scalar.muli v171 c4_i32_6144
  let v7614 : BitVec 32 := Scalar.addi v7612 v7613
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6145 : BitVec 32 := 1#32
  let v7615 : BitVec 32 := Scalar.muli v184 c1_i32_6145
  let v7616 : BitVec 32 := Scalar.addi v7614 v7615
  v7616.toNat
def k0_dev129 (d0 : Dev nD) : Nat :=
  let c0_i32_6192 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6191 : BitVec 32 := 8#32
  let v7672 : BitVec 32 := Scalar.muli v81 c8_i32_6191
  let v7673 : BitVec 32 := Scalar.addi c0_i32_6192 v7672
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6193 : BitVec 32 := 4#32
  let v7674 : BitVec 32 := Scalar.muli v92 c4_i32_6193
  let v7675 : BitVec 32 := Scalar.addi v7673 v7674
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6194 : BitVec 32 := 1#32
  let v7676 : BitVec 32 := Scalar.muli v105 c1_i32_6194
  let v7677 : BitVec 32 := Scalar.addi v7675 v7676
  v7677.toNat
def k0_dev130 (d0 : Dev nD) : Nat :=
  let c0_i32_6241 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6240 : BitVec 32 := 8#32
  let v7733 : BitVec 32 := Scalar.muli v160 c8_i32_6240
  let v7734 : BitVec 32 := Scalar.addi c0_i32_6241 v7733
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6242 : BitVec 32 := 4#32
  let v7735 : BitVec 32 := Scalar.muli v171 c4_i32_6242
  let v7736 : BitVec 32 := Scalar.addi v7734 v7735
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6243 : BitVec 32 := 1#32
  let v7737 : BitVec 32 := Scalar.muli v184 c1_i32_6243
  let v7738 : BitVec 32 := Scalar.addi v7736 v7737
  v7738.toNat
def k0_dev131 (d0 : Dev nD) : Nat :=
  let c0_i32_6272 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6271 : BitVec 32 := 8#32
  let v7770 : BitVec 32 := Scalar.muli v81 c8_i32_6271
  let v7771 : BitVec 32 := Scalar.addi c0_i32_6272 v7770
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6273 : BitVec 32 := 4#32
  let v7772 : BitVec 32 := Scalar.muli v92 c4_i32_6273
  let v7773 : BitVec 32 := Scalar.addi v7771 v7772
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6274 : BitVec 32 := 1#32
  let v7774 : BitVec 32 := Scalar.muli v105 c1_i32_6274
  let v7775 : BitVec 32 := Scalar.addi v7773 v7774
  v7775.toNat
def k0_dev132 (d0 : Dev nD) : Nat :=
  let c0_i32_6303 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6302 : BitVec 32 := 8#32
  let v7807 : BitVec 32 := Scalar.muli v160 c8_i32_6302
  let v7808 : BitVec 32 := Scalar.addi c0_i32_6303 v7807
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6304 : BitVec 32 := 4#32
  let v7809 : BitVec 32 := Scalar.muli v171 c4_i32_6304
  let v7810 : BitVec 32 := Scalar.addi v7808 v7809
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6305 : BitVec 32 := 1#32
  let v7811 : BitVec 32 := Scalar.muli v184 c1_i32_6305
  let v7812 : BitVec 32 := Scalar.addi v7810 v7811
  v7812.toNat
def k0_dev133 (d0 : Dev nD) : Nat :=
  let c0_i32_6334 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6333 : BitVec 32 := 8#32
  let v7844 : BitVec 32 := Scalar.muli v81 c8_i32_6333
  let v7845 : BitVec 32 := Scalar.addi c0_i32_6334 v7844
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6335 : BitVec 32 := 4#32
  let v7846 : BitVec 32 := Scalar.muli v92 c4_i32_6335
  let v7847 : BitVec 32 := Scalar.addi v7845 v7846
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6336 : BitVec 32 := 1#32
  let v7848 : BitVec 32 := Scalar.muli v105 c1_i32_6336
  let v7849 : BitVec 32 := Scalar.addi v7847 v7848
  v7849.toNat
def k0_dev134 (d0 : Dev nD) : Nat :=
  let c0_i32_6365 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6364 : BitVec 32 := 8#32
  let v7881 : BitVec 32 := Scalar.muli v160 c8_i32_6364
  let v7882 : BitVec 32 := Scalar.addi c0_i32_6365 v7881
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6366 : BitVec 32 := 4#32
  let v7883 : BitVec 32 := Scalar.muli v171 c4_i32_6366
  let v7884 : BitVec 32 := Scalar.addi v7882 v7883
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6367 : BitVec 32 := 1#32
  let v7885 : BitVec 32 := Scalar.muli v184 c1_i32_6367
  let v7886 : BitVec 32 := Scalar.addi v7884 v7885
  v7886.toNat
def k0_dev135 (d0 : Dev nD) : Nat :=
  let c0_i32_6396 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6395 : BitVec 32 := 8#32
  let v7918 : BitVec 32 := Scalar.muli v81 c8_i32_6395
  let v7919 : BitVec 32 := Scalar.addi c0_i32_6396 v7918
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6397 : BitVec 32 := 4#32
  let v7920 : BitVec 32 := Scalar.muli v92 c4_i32_6397
  let v7921 : BitVec 32 := Scalar.addi v7919 v7920
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6398 : BitVec 32 := 1#32
  let v7922 : BitVec 32 := Scalar.muli v105 c1_i32_6398
  let v7923 : BitVec 32 := Scalar.addi v7921 v7922
  v7923.toNat
def k0_dev136 (d0 : Dev nD) : Nat :=
  let c0_i32_6427 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6426 : BitVec 32 := 8#32
  let v7955 : BitVec 32 := Scalar.muli v160 c8_i32_6426
  let v7956 : BitVec 32 := Scalar.addi c0_i32_6427 v7955
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6428 : BitVec 32 := 4#32
  let v7957 : BitVec 32 := Scalar.muli v171 c4_i32_6428
  let v7958 : BitVec 32 := Scalar.addi v7956 v7957
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6429 : BitVec 32 := 1#32
  let v7959 : BitVec 32 := Scalar.muli v184 c1_i32_6429
  let v7960 : BitVec 32 := Scalar.addi v7958 v7959
  v7960.toNat
def k0_dev137 (d0 : Dev nD) : Nat :=
  let c0_i32_6458 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6457 : BitVec 32 := 8#32
  let v7992 : BitVec 32 := Scalar.muli v81 c8_i32_6457
  let v7993 : BitVec 32 := Scalar.addi c0_i32_6458 v7992
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6459 : BitVec 32 := 4#32
  let v7994 : BitVec 32 := Scalar.muli v92 c4_i32_6459
  let v7995 : BitVec 32 := Scalar.addi v7993 v7994
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6460 : BitVec 32 := 1#32
  let v7996 : BitVec 32 := Scalar.muli v105 c1_i32_6460
  let v7997 : BitVec 32 := Scalar.addi v7995 v7996
  v7997.toNat
def k0_dev138 (d0 : Dev nD) : Nat :=
  let c0_i32_6489 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6488 : BitVec 32 := 8#32
  let v8029 : BitVec 32 := Scalar.muli v160 c8_i32_6488
  let v8030 : BitVec 32 := Scalar.addi c0_i32_6489 v8029
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6490 : BitVec 32 := 4#32
  let v8031 : BitVec 32 := Scalar.muli v171 c4_i32_6490
  let v8032 : BitVec 32 := Scalar.addi v8030 v8031
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6491 : BitVec 32 := 1#32
  let v8033 : BitVec 32 := Scalar.muli v184 c1_i32_6491
  let v8034 : BitVec 32 := Scalar.addi v8032 v8033
  v8034.toNat
def k0_dev139 (d0 : Dev nD) : Nat :=
  let c0_i32_6520 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6519 : BitVec 32 := 8#32
  let v8066 : BitVec 32 := Scalar.muli v81 c8_i32_6519
  let v8067 : BitVec 32 := Scalar.addi c0_i32_6520 v8066
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6521 : BitVec 32 := 4#32
  let v8068 : BitVec 32 := Scalar.muli v92 c4_i32_6521
  let v8069 : BitVec 32 := Scalar.addi v8067 v8068
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6522 : BitVec 32 := 1#32
  let v8070 : BitVec 32 := Scalar.muli v105 c1_i32_6522
  let v8071 : BitVec 32 := Scalar.addi v8069 v8070
  v8071.toNat
def k0_dev140 (d0 : Dev nD) : Nat :=
  let c0_i32_6551 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6550 : BitVec 32 := 8#32
  let v8103 : BitVec 32 := Scalar.muli v160 c8_i32_6550
  let v8104 : BitVec 32 := Scalar.addi c0_i32_6551 v8103
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6552 : BitVec 32 := 4#32
  let v8105 : BitVec 32 := Scalar.muli v171 c4_i32_6552
  let v8106 : BitVec 32 := Scalar.addi v8104 v8105
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6553 : BitVec 32 := 1#32
  let v8107 : BitVec 32 := Scalar.muli v184 c1_i32_6553
  let v8108 : BitVec 32 := Scalar.addi v8106 v8107
  v8108.toNat
def k0_dev141 (d0 : Dev nD) : Nat :=
  let c0_i32_6582 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6581 : BitVec 32 := 8#32
  let v8140 : BitVec 32 := Scalar.muli v81 c8_i32_6581
  let v8141 : BitVec 32 := Scalar.addi c0_i32_6582 v8140
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6583 : BitVec 32 := 4#32
  let v8142 : BitVec 32 := Scalar.muli v92 c4_i32_6583
  let v8143 : BitVec 32 := Scalar.addi v8141 v8142
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6584 : BitVec 32 := 1#32
  let v8144 : BitVec 32 := Scalar.muli v105 c1_i32_6584
  let v8145 : BitVec 32 := Scalar.addi v8143 v8144
  v8145.toNat
def k0_dev142 (d0 : Dev nD) : Nat :=
  let c0_i32_6613 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6612 : BitVec 32 := 8#32
  let v8177 : BitVec 32 := Scalar.muli v160 c8_i32_6612
  let v8178 : BitVec 32 := Scalar.addi c0_i32_6613 v8177
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6614 : BitVec 32 := 4#32
  let v8179 : BitVec 32 := Scalar.muli v171 c4_i32_6614
  let v8180 : BitVec 32 := Scalar.addi v8178 v8179
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6615 : BitVec 32 := 1#32
  let v8181 : BitVec 32 := Scalar.muli v184 c1_i32_6615
  let v8182 : BitVec 32 := Scalar.addi v8180 v8181
  v8182.toNat
def k0_dev143 (d0 : Dev nD) : Nat :=
  let c0_i32_6644 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6643 : BitVec 32 := 8#32
  let v8214 : BitVec 32 := Scalar.muli v81 c8_i32_6643
  let v8215 : BitVec 32 := Scalar.addi c0_i32_6644 v8214
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6645 : BitVec 32 := 4#32
  let v8216 : BitVec 32 := Scalar.muli v92 c4_i32_6645
  let v8217 : BitVec 32 := Scalar.addi v8215 v8216
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6646 : BitVec 32 := 1#32
  let v8218 : BitVec 32 := Scalar.muli v105 c1_i32_6646
  let v8219 : BitVec 32 := Scalar.addi v8217 v8218
  v8219.toNat
def k0_dev144 (d0 : Dev nD) : Nat :=
  let c0_i32_6675 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6674 : BitVec 32 := 8#32
  let v8251 : BitVec 32 := Scalar.muli v160 c8_i32_6674
  let v8252 : BitVec 32 := Scalar.addi c0_i32_6675 v8251
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6676 : BitVec 32 := 4#32
  let v8253 : BitVec 32 := Scalar.muli v171 c4_i32_6676
  let v8254 : BitVec 32 := Scalar.addi v8252 v8253
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6677 : BitVec 32 := 1#32
  let v8255 : BitVec 32 := Scalar.muli v184 c1_i32_6677
  let v8256 : BitVec 32 := Scalar.addi v8254 v8255
  v8256.toNat
def k0_dev145 (d0 : Dev nD) : Nat :=
  let c0_i32_6706 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6705 : BitVec 32 := 8#32
  let v8288 : BitVec 32 := Scalar.muli v81 c8_i32_6705
  let v8289 : BitVec 32 := Scalar.addi c0_i32_6706 v8288
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6707 : BitVec 32 := 4#32
  let v8290 : BitVec 32 := Scalar.muli v92 c4_i32_6707
  let v8291 : BitVec 32 := Scalar.addi v8289 v8290
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6708 : BitVec 32 := 1#32
  let v8292 : BitVec 32 := Scalar.muli v105 c1_i32_6708
  let v8293 : BitVec 32 := Scalar.addi v8291 v8292
  v8293.toNat
def k0_dev146 (d0 : Dev nD) : Nat :=
  let c0_i32_6737 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6736 : BitVec 32 := 8#32
  let v8325 : BitVec 32 := Scalar.muli v160 c8_i32_6736
  let v8326 : BitVec 32 := Scalar.addi c0_i32_6737 v8325
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6738 : BitVec 32 := 4#32
  let v8327 : BitVec 32 := Scalar.muli v171 c4_i32_6738
  let v8328 : BitVec 32 := Scalar.addi v8326 v8327
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6739 : BitVec 32 := 1#32
  let v8329 : BitVec 32 := Scalar.muli v184 c1_i32_6739
  let v8330 : BitVec 32 := Scalar.addi v8328 v8329
  v8330.toNat
def k0_dev147 (d0 : Dev nD) : Nat :=
  let c0_i32_6768 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6767 : BitVec 32 := 8#32
  let v8362 : BitVec 32 := Scalar.muli v81 c8_i32_6767
  let v8363 : BitVec 32 := Scalar.addi c0_i32_6768 v8362
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6769 : BitVec 32 := 4#32
  let v8364 : BitVec 32 := Scalar.muli v92 c4_i32_6769
  let v8365 : BitVec 32 := Scalar.addi v8363 v8364
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6770 : BitVec 32 := 1#32
  let v8366 : BitVec 32 := Scalar.muli v105 c1_i32_6770
  let v8367 : BitVec 32 := Scalar.addi v8365 v8366
  v8367.toNat
def k0_dev148 (d0 : Dev nD) : Nat :=
  let c0_i32_6799 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6798 : BitVec 32 := 8#32
  let v8399 : BitVec 32 := Scalar.muli v160 c8_i32_6798
  let v8400 : BitVec 32 := Scalar.addi c0_i32_6799 v8399
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6800 : BitVec 32 := 4#32
  let v8401 : BitVec 32 := Scalar.muli v171 c4_i32_6800
  let v8402 : BitVec 32 := Scalar.addi v8400 v8401
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6801 : BitVec 32 := 1#32
  let v8403 : BitVec 32 := Scalar.muli v184 c1_i32_6801
  let v8404 : BitVec 32 := Scalar.addi v8402 v8403
  v8404.toNat
def k0_dev149 (d0 : Dev nD) : Nat :=
  let c0_i32_6830 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6829 : BitVec 32 := 8#32
  let v8436 : BitVec 32 := Scalar.muli v81 c8_i32_6829
  let v8437 : BitVec 32 := Scalar.addi c0_i32_6830 v8436
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6831 : BitVec 32 := 4#32
  let v8438 : BitVec 32 := Scalar.muli v92 c4_i32_6831
  let v8439 : BitVec 32 := Scalar.addi v8437 v8438
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6832 : BitVec 32 := 1#32
  let v8440 : BitVec 32 := Scalar.muli v105 c1_i32_6832
  let v8441 : BitVec 32 := Scalar.addi v8439 v8440
  v8441.toNat
def k0_dev150 (d0 : Dev nD) : Nat :=
  let c0_i32_6861 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6860 : BitVec 32 := 8#32
  let v8473 : BitVec 32 := Scalar.muli v160 c8_i32_6860
  let v8474 : BitVec 32 := Scalar.addi c0_i32_6861 v8473
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6862 : BitVec 32 := 4#32
  let v8475 : BitVec 32 := Scalar.muli v171 c4_i32_6862
  let v8476 : BitVec 32 := Scalar.addi v8474 v8475
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6863 : BitVec 32 := 1#32
  let v8477 : BitVec 32 := Scalar.muli v184 c1_i32_6863
  let v8478 : BitVec 32 := Scalar.addi v8476 v8477
  v8478.toNat
def k0_dev151 (d0 : Dev nD) : Nat :=
  let c0_i32_6892 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6891 : BitVec 32 := 8#32
  let v8510 : BitVec 32 := Scalar.muli v81 c8_i32_6891
  let v8511 : BitVec 32 := Scalar.addi c0_i32_6892 v8510
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6893 : BitVec 32 := 4#32
  let v8512 : BitVec 32 := Scalar.muli v92 c4_i32_6893
  let v8513 : BitVec 32 := Scalar.addi v8511 v8512
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6894 : BitVec 32 := 1#32
  let v8514 : BitVec 32 := Scalar.muli v105 c1_i32_6894
  let v8515 : BitVec 32 := Scalar.addi v8513 v8514
  v8515.toNat
def k0_dev152 (d0 : Dev nD) : Nat :=
  let c0_i32_6923 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6922 : BitVec 32 := 8#32
  let v8547 : BitVec 32 := Scalar.muli v160 c8_i32_6922
  let v8548 : BitVec 32 := Scalar.addi c0_i32_6923 v8547
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6924 : BitVec 32 := 4#32
  let v8549 : BitVec 32 := Scalar.muli v171 c4_i32_6924
  let v8550 : BitVec 32 := Scalar.addi v8548 v8549
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6925 : BitVec 32 := 1#32
  let v8551 : BitVec 32 := Scalar.muli v184 c1_i32_6925
  let v8552 : BitVec 32 := Scalar.addi v8550 v8551
  v8552.toNat
def k0_dev153 (d0 : Dev nD) : Nat :=
  let c0_i32_6954 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_6953 : BitVec 32 := 8#32
  let v8584 : BitVec 32 := Scalar.muli v81 c8_i32_6953
  let v8585 : BitVec 32 := Scalar.addi c0_i32_6954 v8584
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_6955 : BitVec 32 := 4#32
  let v8586 : BitVec 32 := Scalar.muli v92 c4_i32_6955
  let v8587 : BitVec 32 := Scalar.addi v8585 v8586
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_6956 : BitVec 32 := 1#32
  let v8588 : BitVec 32 := Scalar.muli v105 c1_i32_6956
  let v8589 : BitVec 32 := Scalar.addi v8587 v8588
  v8589.toNat
def k0_dev154 (d0 : Dev nD) : Nat :=
  let c0_i32_6985 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_6984 : BitVec 32 := 8#32
  let v8621 : BitVec 32 := Scalar.muli v160 c8_i32_6984
  let v8622 : BitVec 32 := Scalar.addi c0_i32_6985 v8621
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_6986 : BitVec 32 := 4#32
  let v8623 : BitVec 32 := Scalar.muli v171 c4_i32_6986
  let v8624 : BitVec 32 := Scalar.addi v8622 v8623
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_6987 : BitVec 32 := 1#32
  let v8625 : BitVec 32 := Scalar.muli v184 c1_i32_6987
  let v8626 : BitVec 32 := Scalar.addi v8624 v8625
  v8626.toNat
def k0_dev155 (d0 : Dev nD) : Nat :=
  let c0_i32_7016 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7015 : BitVec 32 := 8#32
  let v8658 : BitVec 32 := Scalar.muli v81 c8_i32_7015
  let v8659 : BitVec 32 := Scalar.addi c0_i32_7016 v8658
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7017 : BitVec 32 := 4#32
  let v8660 : BitVec 32 := Scalar.muli v92 c4_i32_7017
  let v8661 : BitVec 32 := Scalar.addi v8659 v8660
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7018 : BitVec 32 := 1#32
  let v8662 : BitVec 32 := Scalar.muli v105 c1_i32_7018
  let v8663 : BitVec 32 := Scalar.addi v8661 v8662
  v8663.toNat
def k0_dev156 (d0 : Dev nD) : Nat :=
  let c0_i32_7047 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7046 : BitVec 32 := 8#32
  let v8695 : BitVec 32 := Scalar.muli v160 c8_i32_7046
  let v8696 : BitVec 32 := Scalar.addi c0_i32_7047 v8695
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7048 : BitVec 32 := 4#32
  let v8697 : BitVec 32 := Scalar.muli v171 c4_i32_7048
  let v8698 : BitVec 32 := Scalar.addi v8696 v8697
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7049 : BitVec 32 := 1#32
  let v8699 : BitVec 32 := Scalar.muli v184 c1_i32_7049
  let v8700 : BitVec 32 := Scalar.addi v8698 v8699
  v8700.toNat
def k0_dev157 (d0 : Dev nD) : Nat :=
  let c0_i32_7078 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7077 : BitVec 32 := 8#32
  let v8732 : BitVec 32 := Scalar.muli v81 c8_i32_7077
  let v8733 : BitVec 32 := Scalar.addi c0_i32_7078 v8732
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7079 : BitVec 32 := 4#32
  let v8734 : BitVec 32 := Scalar.muli v92 c4_i32_7079
  let v8735 : BitVec 32 := Scalar.addi v8733 v8734
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7080 : BitVec 32 := 1#32
  let v8736 : BitVec 32 := Scalar.muli v105 c1_i32_7080
  let v8737 : BitVec 32 := Scalar.addi v8735 v8736
  v8737.toNat
def k0_dev158 (d0 : Dev nD) : Nat :=
  let c0_i32_7109 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7108 : BitVec 32 := 8#32
  let v8769 : BitVec 32 := Scalar.muli v160 c8_i32_7108
  let v8770 : BitVec 32 := Scalar.addi c0_i32_7109 v8769
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7110 : BitVec 32 := 4#32
  let v8771 : BitVec 32 := Scalar.muli v171 c4_i32_7110
  let v8772 : BitVec 32 := Scalar.addi v8770 v8771
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7111 : BitVec 32 := 1#32
  let v8773 : BitVec 32 := Scalar.muli v184 c1_i32_7111
  let v8774 : BitVec 32 := Scalar.addi v8772 v8773
  v8774.toNat
def k0_dev159 (d0 : Dev nD) : Nat :=
  let c0_i32_7140 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7139 : BitVec 32 := 8#32
  let v8806 : BitVec 32 := Scalar.muli v81 c8_i32_7139
  let v8807 : BitVec 32 := Scalar.addi c0_i32_7140 v8806
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7141 : BitVec 32 := 4#32
  let v8808 : BitVec 32 := Scalar.muli v92 c4_i32_7141
  let v8809 : BitVec 32 := Scalar.addi v8807 v8808
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7142 : BitVec 32 := 1#32
  let v8810 : BitVec 32 := Scalar.muli v105 c1_i32_7142
  let v8811 : BitVec 32 := Scalar.addi v8809 v8810
  v8811.toNat
def k0_dev160 (d0 : Dev nD) : Nat :=
  let c0_i32_7171 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7170 : BitVec 32 := 8#32
  let v8843 : BitVec 32 := Scalar.muli v160 c8_i32_7170
  let v8844 : BitVec 32 := Scalar.addi c0_i32_7171 v8843
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7172 : BitVec 32 := 4#32
  let v8845 : BitVec 32 := Scalar.muli v171 c4_i32_7172
  let v8846 : BitVec 32 := Scalar.addi v8844 v8845
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7173 : BitVec 32 := 1#32
  let v8847 : BitVec 32 := Scalar.muli v184 c1_i32_7173
  let v8848 : BitVec 32 := Scalar.addi v8846 v8847
  v8848.toNat
def k0_dev161 (d0 : Dev nD) : Nat :=
  let c0_i32_7202 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7201 : BitVec 32 := 8#32
  let v8880 : BitVec 32 := Scalar.muli v81 c8_i32_7201
  let v8881 : BitVec 32 := Scalar.addi c0_i32_7202 v8880
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7203 : BitVec 32 := 4#32
  let v8882 : BitVec 32 := Scalar.muli v92 c4_i32_7203
  let v8883 : BitVec 32 := Scalar.addi v8881 v8882
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7204 : BitVec 32 := 1#32
  let v8884 : BitVec 32 := Scalar.muli v105 c1_i32_7204
  let v8885 : BitVec 32 := Scalar.addi v8883 v8884
  v8885.toNat
def k0_dev162 (d0 : Dev nD) : Nat :=
  let c0_i32_7233 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7232 : BitVec 32 := 8#32
  let v8917 : BitVec 32 := Scalar.muli v160 c8_i32_7232
  let v8918 : BitVec 32 := Scalar.addi c0_i32_7233 v8917
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7234 : BitVec 32 := 4#32
  let v8919 : BitVec 32 := Scalar.muli v171 c4_i32_7234
  let v8920 : BitVec 32 := Scalar.addi v8918 v8919
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7235 : BitVec 32 := 1#32
  let v8921 : BitVec 32 := Scalar.muli v184 c1_i32_7235
  let v8922 : BitVec 32 := Scalar.addi v8920 v8921
  v8922.toNat
def k0_dev163 (d0 : Dev nD) : Nat :=
  let c0_i32_7264 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7263 : BitVec 32 := 8#32
  let v8954 : BitVec 32 := Scalar.muli v81 c8_i32_7263
  let v8955 : BitVec 32 := Scalar.addi c0_i32_7264 v8954
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7265 : BitVec 32 := 4#32
  let v8956 : BitVec 32 := Scalar.muli v92 c4_i32_7265
  let v8957 : BitVec 32 := Scalar.addi v8955 v8956
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7266 : BitVec 32 := 1#32
  let v8958 : BitVec 32 := Scalar.muli v105 c1_i32_7266
  let v8959 : BitVec 32 := Scalar.addi v8957 v8958
  v8959.toNat
def k0_dev164 (d0 : Dev nD) : Nat :=
  let c0_i32_7295 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7294 : BitVec 32 := 8#32
  let v8991 : BitVec 32 := Scalar.muli v160 c8_i32_7294
  let v8992 : BitVec 32 := Scalar.addi c0_i32_7295 v8991
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7296 : BitVec 32 := 4#32
  let v8993 : BitVec 32 := Scalar.muli v171 c4_i32_7296
  let v8994 : BitVec 32 := Scalar.addi v8992 v8993
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7297 : BitVec 32 := 1#32
  let v8995 : BitVec 32 := Scalar.muli v184 c1_i32_7297
  let v8996 : BitVec 32 := Scalar.addi v8994 v8995
  v8996.toNat
def k0_dev165 (d0 : Dev nD) : Nat :=
  let c0_i32_7326 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7325 : BitVec 32 := 8#32
  let v9028 : BitVec 32 := Scalar.muli v81 c8_i32_7325
  let v9029 : BitVec 32 := Scalar.addi c0_i32_7326 v9028
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7327 : BitVec 32 := 4#32
  let v9030 : BitVec 32 := Scalar.muli v92 c4_i32_7327
  let v9031 : BitVec 32 := Scalar.addi v9029 v9030
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7328 : BitVec 32 := 1#32
  let v9032 : BitVec 32 := Scalar.muli v105 c1_i32_7328
  let v9033 : BitVec 32 := Scalar.addi v9031 v9032
  v9033.toNat
def k0_dev166 (d0 : Dev nD) : Nat :=
  let c0_i32_7357 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7356 : BitVec 32 := 8#32
  let v9065 : BitVec 32 := Scalar.muli v160 c8_i32_7356
  let v9066 : BitVec 32 := Scalar.addi c0_i32_7357 v9065
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7358 : BitVec 32 := 4#32
  let v9067 : BitVec 32 := Scalar.muli v171 c4_i32_7358
  let v9068 : BitVec 32 := Scalar.addi v9066 v9067
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7359 : BitVec 32 := 1#32
  let v9069 : BitVec 32 := Scalar.muli v184 c1_i32_7359
  let v9070 : BitVec 32 := Scalar.addi v9068 v9069
  v9070.toNat
def k0_dev167 (d0 : Dev nD) : Nat :=
  let c0_i32_7388 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7387 : BitVec 32 := 8#32
  let v9102 : BitVec 32 := Scalar.muli v81 c8_i32_7387
  let v9103 : BitVec 32 := Scalar.addi c0_i32_7388 v9102
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7389 : BitVec 32 := 4#32
  let v9104 : BitVec 32 := Scalar.muli v92 c4_i32_7389
  let v9105 : BitVec 32 := Scalar.addi v9103 v9104
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7390 : BitVec 32 := 1#32
  let v9106 : BitVec 32 := Scalar.muli v105 c1_i32_7390
  let v9107 : BitVec 32 := Scalar.addi v9105 v9106
  v9107.toNat
def k0_dev168 (d0 : Dev nD) : Nat :=
  let c0_i32_7419 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7418 : BitVec 32 := 8#32
  let v9139 : BitVec 32 := Scalar.muli v160 c8_i32_7418
  let v9140 : BitVec 32 := Scalar.addi c0_i32_7419 v9139
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7420 : BitVec 32 := 4#32
  let v9141 : BitVec 32 := Scalar.muli v171 c4_i32_7420
  let v9142 : BitVec 32 := Scalar.addi v9140 v9141
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7421 : BitVec 32 := 1#32
  let v9143 : BitVec 32 := Scalar.muli v184 c1_i32_7421
  let v9144 : BitVec 32 := Scalar.addi v9142 v9143
  v9144.toNat
def k0_dev169 (d0 : Dev nD) : Nat :=
  let c0_i32_7450 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7449 : BitVec 32 := 8#32
  let v9176 : BitVec 32 := Scalar.muli v81 c8_i32_7449
  let v9177 : BitVec 32 := Scalar.addi c0_i32_7450 v9176
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7451 : BitVec 32 := 4#32
  let v9178 : BitVec 32 := Scalar.muli v92 c4_i32_7451
  let v9179 : BitVec 32 := Scalar.addi v9177 v9178
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7452 : BitVec 32 := 1#32
  let v9180 : BitVec 32 := Scalar.muli v105 c1_i32_7452
  let v9181 : BitVec 32 := Scalar.addi v9179 v9180
  v9181.toNat
def k0_dev170 (d0 : Dev nD) : Nat :=
  let c0_i32_7481 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7480 : BitVec 32 := 8#32
  let v9213 : BitVec 32 := Scalar.muli v160 c8_i32_7480
  let v9214 : BitVec 32 := Scalar.addi c0_i32_7481 v9213
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7482 : BitVec 32 := 4#32
  let v9215 : BitVec 32 := Scalar.muli v171 c4_i32_7482
  let v9216 : BitVec 32 := Scalar.addi v9214 v9215
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7483 : BitVec 32 := 1#32
  let v9217 : BitVec 32 := Scalar.muli v184 c1_i32_7483
  let v9218 : BitVec 32 := Scalar.addi v9216 v9217
  v9218.toNat
def k0_dev171 (d0 : Dev nD) : Nat :=
  let c0_i32_7512 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7511 : BitVec 32 := 8#32
  let v9250 : BitVec 32 := Scalar.muli v81 c8_i32_7511
  let v9251 : BitVec 32 := Scalar.addi c0_i32_7512 v9250
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7513 : BitVec 32 := 4#32
  let v9252 : BitVec 32 := Scalar.muli v92 c4_i32_7513
  let v9253 : BitVec 32 := Scalar.addi v9251 v9252
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7514 : BitVec 32 := 1#32
  let v9254 : BitVec 32 := Scalar.muli v105 c1_i32_7514
  let v9255 : BitVec 32 := Scalar.addi v9253 v9254
  v9255.toNat
def k0_dev172 (d0 : Dev nD) : Nat :=
  let c0_i32_7543 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7542 : BitVec 32 := 8#32
  let v9287 : BitVec 32 := Scalar.muli v160 c8_i32_7542
  let v9288 : BitVec 32 := Scalar.addi c0_i32_7543 v9287
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7544 : BitVec 32 := 4#32
  let v9289 : BitVec 32 := Scalar.muli v171 c4_i32_7544
  let v9290 : BitVec 32 := Scalar.addi v9288 v9289
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7545 : BitVec 32 := 1#32
  let v9291 : BitVec 32 := Scalar.muli v184 c1_i32_7545
  let v9292 : BitVec 32 := Scalar.addi v9290 v9291
  v9292.toNat
def k0_dev173 (d0 : Dev nD) : Nat :=
  let c0_i32_7574 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7573 : BitVec 32 := 8#32
  let v9324 : BitVec 32 := Scalar.muli v81 c8_i32_7573
  let v9325 : BitVec 32 := Scalar.addi c0_i32_7574 v9324
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7575 : BitVec 32 := 4#32
  let v9326 : BitVec 32 := Scalar.muli v92 c4_i32_7575
  let v9327 : BitVec 32 := Scalar.addi v9325 v9326
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7576 : BitVec 32 := 1#32
  let v9328 : BitVec 32 := Scalar.muli v105 c1_i32_7576
  let v9329 : BitVec 32 := Scalar.addi v9327 v9328
  v9329.toNat
def k0_dev174 (d0 : Dev nD) : Nat :=
  let c0_i32_7605 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7604 : BitVec 32 := 8#32
  let v9361 : BitVec 32 := Scalar.muli v160 c8_i32_7604
  let v9362 : BitVec 32 := Scalar.addi c0_i32_7605 v9361
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7606 : BitVec 32 := 4#32
  let v9363 : BitVec 32 := Scalar.muli v171 c4_i32_7606
  let v9364 : BitVec 32 := Scalar.addi v9362 v9363
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7607 : BitVec 32 := 1#32
  let v9365 : BitVec 32 := Scalar.muli v184 c1_i32_7607
  let v9366 : BitVec 32 := Scalar.addi v9364 v9365
  v9366.toNat
def k0_dev175 (d0 : Dev nD) : Nat :=
  let c0_i32_7636 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7635 : BitVec 32 := 8#32
  let v9398 : BitVec 32 := Scalar.muli v81 c8_i32_7635
  let v9399 : BitVec 32 := Scalar.addi c0_i32_7636 v9398
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7637 : BitVec 32 := 4#32
  let v9400 : BitVec 32 := Scalar.muli v92 c4_i32_7637
  let v9401 : BitVec 32 := Scalar.addi v9399 v9400
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7638 : BitVec 32 := 1#32
  let v9402 : BitVec 32 := Scalar.muli v105 c1_i32_7638
  let v9403 : BitVec 32 := Scalar.addi v9401 v9402
  v9403.toNat
def k0_dev176 (d0 : Dev nD) : Nat :=
  let c0_i32_7667 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7666 : BitVec 32 := 8#32
  let v9435 : BitVec 32 := Scalar.muli v160 c8_i32_7666
  let v9436 : BitVec 32 := Scalar.addi c0_i32_7667 v9435
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7668 : BitVec 32 := 4#32
  let v9437 : BitVec 32 := Scalar.muli v171 c4_i32_7668
  let v9438 : BitVec 32 := Scalar.addi v9436 v9437
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7669 : BitVec 32 := 1#32
  let v9439 : BitVec 32 := Scalar.muli v184 c1_i32_7669
  let v9440 : BitVec 32 := Scalar.addi v9438 v9439
  v9440.toNat
def k0_dev177 (d0 : Dev nD) : Nat :=
  let c0_i32_7698 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7697 : BitVec 32 := 8#32
  let v9472 : BitVec 32 := Scalar.muli v81 c8_i32_7697
  let v9473 : BitVec 32 := Scalar.addi c0_i32_7698 v9472
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7699 : BitVec 32 := 4#32
  let v9474 : BitVec 32 := Scalar.muli v92 c4_i32_7699
  let v9475 : BitVec 32 := Scalar.addi v9473 v9474
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7700 : BitVec 32 := 1#32
  let v9476 : BitVec 32 := Scalar.muli v105 c1_i32_7700
  let v9477 : BitVec 32 := Scalar.addi v9475 v9476
  v9477.toNat
def k0_dev178 (d0 : Dev nD) : Nat :=
  let c0_i32_7729 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7728 : BitVec 32 := 8#32
  let v9509 : BitVec 32 := Scalar.muli v160 c8_i32_7728
  let v9510 : BitVec 32 := Scalar.addi c0_i32_7729 v9509
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7730 : BitVec 32 := 4#32
  let v9511 : BitVec 32 := Scalar.muli v171 c4_i32_7730
  let v9512 : BitVec 32 := Scalar.addi v9510 v9511
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7731 : BitVec 32 := 1#32
  let v9513 : BitVec 32 := Scalar.muli v184 c1_i32_7731
  let v9514 : BitVec 32 := Scalar.addi v9512 v9513
  v9514.toNat
def k0_dev179 (d0 : Dev nD) : Nat :=
  let c0_i32_7760 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7759 : BitVec 32 := 8#32
  let v9546 : BitVec 32 := Scalar.muli v81 c8_i32_7759
  let v9547 : BitVec 32 := Scalar.addi c0_i32_7760 v9546
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7761 : BitVec 32 := 4#32
  let v9548 : BitVec 32 := Scalar.muli v92 c4_i32_7761
  let v9549 : BitVec 32 := Scalar.addi v9547 v9548
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7762 : BitVec 32 := 1#32
  let v9550 : BitVec 32 := Scalar.muli v105 c1_i32_7762
  let v9551 : BitVec 32 := Scalar.addi v9549 v9550
  v9551.toNat
def k0_dev180 (d0 : Dev nD) : Nat :=
  let c0_i32_7791 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7790 : BitVec 32 := 8#32
  let v9583 : BitVec 32 := Scalar.muli v160 c8_i32_7790
  let v9584 : BitVec 32 := Scalar.addi c0_i32_7791 v9583
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7792 : BitVec 32 := 4#32
  let v9585 : BitVec 32 := Scalar.muli v171 c4_i32_7792
  let v9586 : BitVec 32 := Scalar.addi v9584 v9585
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7793 : BitVec 32 := 1#32
  let v9587 : BitVec 32 := Scalar.muli v184 c1_i32_7793
  let v9588 : BitVec 32 := Scalar.addi v9586 v9587
  v9588.toNat
def k0_dev181 (d0 : Dev nD) : Nat :=
  let c0_i32_7822 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7821 : BitVec 32 := 8#32
  let v9620 : BitVec 32 := Scalar.muli v81 c8_i32_7821
  let v9621 : BitVec 32 := Scalar.addi c0_i32_7822 v9620
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7823 : BitVec 32 := 4#32
  let v9622 : BitVec 32 := Scalar.muli v92 c4_i32_7823
  let v9623 : BitVec 32 := Scalar.addi v9621 v9622
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7824 : BitVec 32 := 1#32
  let v9624 : BitVec 32 := Scalar.muli v105 c1_i32_7824
  let v9625 : BitVec 32 := Scalar.addi v9623 v9624
  v9625.toNat
def k0_dev182 (d0 : Dev nD) : Nat :=
  let c0_i32_7853 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7852 : BitVec 32 := 8#32
  let v9657 : BitVec 32 := Scalar.muli v160 c8_i32_7852
  let v9658 : BitVec 32 := Scalar.addi c0_i32_7853 v9657
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7854 : BitVec 32 := 4#32
  let v9659 : BitVec 32 := Scalar.muli v171 c4_i32_7854
  let v9660 : BitVec 32 := Scalar.addi v9658 v9659
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7855 : BitVec 32 := 1#32
  let v9661 : BitVec 32 := Scalar.muli v184 c1_i32_7855
  let v9662 : BitVec 32 := Scalar.addi v9660 v9661
  v9662.toNat
def k0_dev183 (d0 : Dev nD) : Nat :=
  let c0_i32_7884 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7883 : BitVec 32 := 8#32
  let v9694 : BitVec 32 := Scalar.muli v81 c8_i32_7883
  let v9695 : BitVec 32 := Scalar.addi c0_i32_7884 v9694
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7885 : BitVec 32 := 4#32
  let v9696 : BitVec 32 := Scalar.muli v92 c4_i32_7885
  let v9697 : BitVec 32 := Scalar.addi v9695 v9696
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7886 : BitVec 32 := 1#32
  let v9698 : BitVec 32 := Scalar.muli v105 c1_i32_7886
  let v9699 : BitVec 32 := Scalar.addi v9697 v9698
  v9699.toNat
def k0_dev184 (d0 : Dev nD) : Nat :=
  let c0_i32_7915 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7914 : BitVec 32 := 8#32
  let v9731 : BitVec 32 := Scalar.muli v160 c8_i32_7914
  let v9732 : BitVec 32 := Scalar.addi c0_i32_7915 v9731
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7916 : BitVec 32 := 4#32
  let v9733 : BitVec 32 := Scalar.muli v171 c4_i32_7916
  let v9734 : BitVec 32 := Scalar.addi v9732 v9733
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7917 : BitVec 32 := 1#32
  let v9735 : BitVec 32 := Scalar.muli v184 c1_i32_7917
  let v9736 : BitVec 32 := Scalar.addi v9734 v9735
  v9736.toNat
def k0_dev185 (d0 : Dev nD) : Nat :=
  let c0_i32_7946 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_7945 : BitVec 32 := 8#32
  let v9768 : BitVec 32 := Scalar.muli v81 c8_i32_7945
  let v9769 : BitVec 32 := Scalar.addi c0_i32_7946 v9768
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_7947 : BitVec 32 := 4#32
  let v9770 : BitVec 32 := Scalar.muli v92 c4_i32_7947
  let v9771 : BitVec 32 := Scalar.addi v9769 v9770
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_7948 : BitVec 32 := 1#32
  let v9772 : BitVec 32 := Scalar.muli v105 c1_i32_7948
  let v9773 : BitVec 32 := Scalar.addi v9771 v9772
  v9773.toNat
def k0_dev186 (d0 : Dev nD) : Nat :=
  let c0_i32_7977 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_7976 : BitVec 32 := 8#32
  let v9805 : BitVec 32 := Scalar.muli v160 c8_i32_7976
  let v9806 : BitVec 32 := Scalar.addi c0_i32_7977 v9805
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_7978 : BitVec 32 := 4#32
  let v9807 : BitVec 32 := Scalar.muli v171 c4_i32_7978
  let v9808 : BitVec 32 := Scalar.addi v9806 v9807
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_7979 : BitVec 32 := 1#32
  let v9809 : BitVec 32 := Scalar.muli v184 c1_i32_7979
  let v9810 : BitVec 32 := Scalar.addi v9808 v9809
  v9810.toNat
def k0_dev187 (d0 : Dev nD) : Nat :=
  let c0_i32_8008 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8007 : BitVec 32 := 8#32
  let v9842 : BitVec 32 := Scalar.muli v81 c8_i32_8007
  let v9843 : BitVec 32 := Scalar.addi c0_i32_8008 v9842
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8009 : BitVec 32 := 4#32
  let v9844 : BitVec 32 := Scalar.muli v92 c4_i32_8009
  let v9845 : BitVec 32 := Scalar.addi v9843 v9844
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8010 : BitVec 32 := 1#32
  let v9846 : BitVec 32 := Scalar.muli v105 c1_i32_8010
  let v9847 : BitVec 32 := Scalar.addi v9845 v9846
  v9847.toNat
def k0_dev188 (d0 : Dev nD) : Nat :=
  let c0_i32_8039 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8038 : BitVec 32 := 8#32
  let v9879 : BitVec 32 := Scalar.muli v160 c8_i32_8038
  let v9880 : BitVec 32 := Scalar.addi c0_i32_8039 v9879
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8040 : BitVec 32 := 4#32
  let v9881 : BitVec 32 := Scalar.muli v171 c4_i32_8040
  let v9882 : BitVec 32 := Scalar.addi v9880 v9881
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8041 : BitVec 32 := 1#32
  let v9883 : BitVec 32 := Scalar.muli v184 c1_i32_8041
  let v9884 : BitVec 32 := Scalar.addi v9882 v9883
  v9884.toNat
def k0_dev189 (d0 : Dev nD) : Nat :=
  let c0_i32_8070 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8069 : BitVec 32 := 8#32
  let v9916 : BitVec 32 := Scalar.muli v81 c8_i32_8069
  let v9917 : BitVec 32 := Scalar.addi c0_i32_8070 v9916
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8071 : BitVec 32 := 4#32
  let v9918 : BitVec 32 := Scalar.muli v92 c4_i32_8071
  let v9919 : BitVec 32 := Scalar.addi v9917 v9918
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8072 : BitVec 32 := 1#32
  let v9920 : BitVec 32 := Scalar.muli v105 c1_i32_8072
  let v9921 : BitVec 32 := Scalar.addi v9919 v9920
  v9921.toNat
def k0_dev190 (d0 : Dev nD) : Nat :=
  let c0_i32_8101 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8100 : BitVec 32 := 8#32
  let v9953 : BitVec 32 := Scalar.muli v160 c8_i32_8100
  let v9954 : BitVec 32 := Scalar.addi c0_i32_8101 v9953
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8102 : BitVec 32 := 4#32
  let v9955 : BitVec 32 := Scalar.muli v171 c4_i32_8102
  let v9956 : BitVec 32 := Scalar.addi v9954 v9955
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8103 : BitVec 32 := 1#32
  let v9957 : BitVec 32 := Scalar.muli v184 c1_i32_8103
  let v9958 : BitVec 32 := Scalar.addi v9956 v9957
  v9958.toNat
def k0_dev191 (d0 : Dev nD) : Nat :=
  let c0_i32_8132 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8131 : BitVec 32 := 8#32
  let v9990 : BitVec 32 := Scalar.muli v81 c8_i32_8131
  let v9991 : BitVec 32 := Scalar.addi c0_i32_8132 v9990
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8133 : BitVec 32 := 4#32
  let v9992 : BitVec 32 := Scalar.muli v92 c4_i32_8133
  let v9993 : BitVec 32 := Scalar.addi v9991 v9992
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8134 : BitVec 32 := 1#32
  let v9994 : BitVec 32 := Scalar.muli v105 c1_i32_8134
  let v9995 : BitVec 32 := Scalar.addi v9993 v9994
  v9995.toNat
def k0_dev192 (d0 : Dev nD) : Nat :=
  let c0_i32_8163 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8162 : BitVec 32 := 8#32
  let v10027 : BitVec 32 := Scalar.muli v160 c8_i32_8162
  let v10028 : BitVec 32 := Scalar.addi c0_i32_8163 v10027
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8164 : BitVec 32 := 4#32
  let v10029 : BitVec 32 := Scalar.muli v171 c4_i32_8164
  let v10030 : BitVec 32 := Scalar.addi v10028 v10029
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8165 : BitVec 32 := 1#32
  let v10031 : BitVec 32 := Scalar.muli v184 c1_i32_8165
  let v10032 : BitVec 32 := Scalar.addi v10030 v10031
  v10032.toNat
def k0_dev193 (d0 : Dev nD) : Nat :=
  let c0_i32_8194 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8193 : BitVec 32 := 8#32
  let v10064 : BitVec 32 := Scalar.muli v81 c8_i32_8193
  let v10065 : BitVec 32 := Scalar.addi c0_i32_8194 v10064
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8195 : BitVec 32 := 4#32
  let v10066 : BitVec 32 := Scalar.muli v92 c4_i32_8195
  let v10067 : BitVec 32 := Scalar.addi v10065 v10066
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8196 : BitVec 32 := 1#32
  let v10068 : BitVec 32 := Scalar.muli v105 c1_i32_8196
  let v10069 : BitVec 32 := Scalar.addi v10067 v10068
  v10069.toNat
def k0_dev194 (d0 : Dev nD) : Nat :=
  let c0_i32_8225 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8224 : BitVec 32 := 8#32
  let v10101 : BitVec 32 := Scalar.muli v160 c8_i32_8224
  let v10102 : BitVec 32 := Scalar.addi c0_i32_8225 v10101
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8226 : BitVec 32 := 4#32
  let v10103 : BitVec 32 := Scalar.muli v171 c4_i32_8226
  let v10104 : BitVec 32 := Scalar.addi v10102 v10103
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8227 : BitVec 32 := 1#32
  let v10105 : BitVec 32 := Scalar.muli v184 c1_i32_8227
  let v10106 : BitVec 32 := Scalar.addi v10104 v10105
  v10106.toNat
def k0_dev195 (d0 : Dev nD) : Nat :=
  let c0_i32_8256 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8255 : BitVec 32 := 8#32
  let v10138 : BitVec 32 := Scalar.muli v81 c8_i32_8255
  let v10139 : BitVec 32 := Scalar.addi c0_i32_8256 v10138
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8257 : BitVec 32 := 4#32
  let v10140 : BitVec 32 := Scalar.muli v92 c4_i32_8257
  let v10141 : BitVec 32 := Scalar.addi v10139 v10140
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8258 : BitVec 32 := 1#32
  let v10142 : BitVec 32 := Scalar.muli v105 c1_i32_8258
  let v10143 : BitVec 32 := Scalar.addi v10141 v10142
  v10143.toNat
def k0_dev196 (d0 : Dev nD) : Nat :=
  let c0_i32_8287 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8286 : BitVec 32 := 8#32
  let v10175 : BitVec 32 := Scalar.muli v160 c8_i32_8286
  let v10176 : BitVec 32 := Scalar.addi c0_i32_8287 v10175
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8288 : BitVec 32 := 4#32
  let v10177 : BitVec 32 := Scalar.muli v171 c4_i32_8288
  let v10178 : BitVec 32 := Scalar.addi v10176 v10177
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8289 : BitVec 32 := 1#32
  let v10179 : BitVec 32 := Scalar.muli v184 c1_i32_8289
  let v10180 : BitVec 32 := Scalar.addi v10178 v10179
  v10180.toNat
def k0_dev197 (d0 : Dev nD) : Nat :=
  let c0_i32_8318 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8317 : BitVec 32 := 8#32
  let v10212 : BitVec 32 := Scalar.muli v81 c8_i32_8317
  let v10213 : BitVec 32 := Scalar.addi c0_i32_8318 v10212
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8319 : BitVec 32 := 4#32
  let v10214 : BitVec 32 := Scalar.muli v92 c4_i32_8319
  let v10215 : BitVec 32 := Scalar.addi v10213 v10214
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8320 : BitVec 32 := 1#32
  let v10216 : BitVec 32 := Scalar.muli v105 c1_i32_8320
  let v10217 : BitVec 32 := Scalar.addi v10215 v10216
  v10217.toNat
def k0_dev198 (d0 : Dev nD) : Nat :=
  let c0_i32_8349 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8348 : BitVec 32 := 8#32
  let v10249 : BitVec 32 := Scalar.muli v160 c8_i32_8348
  let v10250 : BitVec 32 := Scalar.addi c0_i32_8349 v10249
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8350 : BitVec 32 := 4#32
  let v10251 : BitVec 32 := Scalar.muli v171 c4_i32_8350
  let v10252 : BitVec 32 := Scalar.addi v10250 v10251
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8351 : BitVec 32 := 1#32
  let v10253 : BitVec 32 := Scalar.muli v184 c1_i32_8351
  let v10254 : BitVec 32 := Scalar.addi v10252 v10253
  v10254.toNat
def k0_dev199 (d0 : Dev nD) : Nat :=
  let c0_i32_8380 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8379 : BitVec 32 := 8#32
  let v10286 : BitVec 32 := Scalar.muli v81 c8_i32_8379
  let v10287 : BitVec 32 := Scalar.addi c0_i32_8380 v10286
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8381 : BitVec 32 := 4#32
  let v10288 : BitVec 32 := Scalar.muli v92 c4_i32_8381
  let v10289 : BitVec 32 := Scalar.addi v10287 v10288
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8382 : BitVec 32 := 1#32
  let v10290 : BitVec 32 := Scalar.muli v105 c1_i32_8382
  let v10291 : BitVec 32 := Scalar.addi v10289 v10290
  v10291.toNat
def k0_dev200 (d0 : Dev nD) : Nat :=
  let c0_i32_8411 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8410 : BitVec 32 := 8#32
  let v10323 : BitVec 32 := Scalar.muli v160 c8_i32_8410
  let v10324 : BitVec 32 := Scalar.addi c0_i32_8411 v10323
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8412 : BitVec 32 := 4#32
  let v10325 : BitVec 32 := Scalar.muli v171 c4_i32_8412
  let v10326 : BitVec 32 := Scalar.addi v10324 v10325
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8413 : BitVec 32 := 1#32
  let v10327 : BitVec 32 := Scalar.muli v184 c1_i32_8413
  let v10328 : BitVec 32 := Scalar.addi v10326 v10327
  v10328.toNat
def k0_dev201 (d0 : Dev nD) : Nat :=
  let c0_i32_8442 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8441 : BitVec 32 := 8#32
  let v10360 : BitVec 32 := Scalar.muli v81 c8_i32_8441
  let v10361 : BitVec 32 := Scalar.addi c0_i32_8442 v10360
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8443 : BitVec 32 := 4#32
  let v10362 : BitVec 32 := Scalar.muli v92 c4_i32_8443
  let v10363 : BitVec 32 := Scalar.addi v10361 v10362
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8444 : BitVec 32 := 1#32
  let v10364 : BitVec 32 := Scalar.muli v105 c1_i32_8444
  let v10365 : BitVec 32 := Scalar.addi v10363 v10364
  v10365.toNat
def k0_dev202 (d0 : Dev nD) : Nat :=
  let c0_i32_8473 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8472 : BitVec 32 := 8#32
  let v10397 : BitVec 32 := Scalar.muli v160 c8_i32_8472
  let v10398 : BitVec 32 := Scalar.addi c0_i32_8473 v10397
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8474 : BitVec 32 := 4#32
  let v10399 : BitVec 32 := Scalar.muli v171 c4_i32_8474
  let v10400 : BitVec 32 := Scalar.addi v10398 v10399
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8475 : BitVec 32 := 1#32
  let v10401 : BitVec 32 := Scalar.muli v184 c1_i32_8475
  let v10402 : BitVec 32 := Scalar.addi v10400 v10401
  v10402.toNat
def k0_dev203 (d0 : Dev nD) : Nat :=
  let c0_i32_8504 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8503 : BitVec 32 := 8#32
  let v10434 : BitVec 32 := Scalar.muli v81 c8_i32_8503
  let v10435 : BitVec 32 := Scalar.addi c0_i32_8504 v10434
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8505 : BitVec 32 := 4#32
  let v10436 : BitVec 32 := Scalar.muli v92 c4_i32_8505
  let v10437 : BitVec 32 := Scalar.addi v10435 v10436
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8506 : BitVec 32 := 1#32
  let v10438 : BitVec 32 := Scalar.muli v105 c1_i32_8506
  let v10439 : BitVec 32 := Scalar.addi v10437 v10438
  v10439.toNat
def k0_dev204 (d0 : Dev nD) : Nat :=
  let c0_i32_8535 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8534 : BitVec 32 := 8#32
  let v10471 : BitVec 32 := Scalar.muli v160 c8_i32_8534
  let v10472 : BitVec 32 := Scalar.addi c0_i32_8535 v10471
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8536 : BitVec 32 := 4#32
  let v10473 : BitVec 32 := Scalar.muli v171 c4_i32_8536
  let v10474 : BitVec 32 := Scalar.addi v10472 v10473
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8537 : BitVec 32 := 1#32
  let v10475 : BitVec 32 := Scalar.muli v184 c1_i32_8537
  let v10476 : BitVec 32 := Scalar.addi v10474 v10475
  v10476.toNat
def k0_dev205 (d0 : Dev nD) : Nat :=
  let c0_i32_8566 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8565 : BitVec 32 := 8#32
  let v10508 : BitVec 32 := Scalar.muli v81 c8_i32_8565
  let v10509 : BitVec 32 := Scalar.addi c0_i32_8566 v10508
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8567 : BitVec 32 := 4#32
  let v10510 : BitVec 32 := Scalar.muli v92 c4_i32_8567
  let v10511 : BitVec 32 := Scalar.addi v10509 v10510
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8568 : BitVec 32 := 1#32
  let v10512 : BitVec 32 := Scalar.muli v105 c1_i32_8568
  let v10513 : BitVec 32 := Scalar.addi v10511 v10512
  v10513.toNat
def k0_dev206 (d0 : Dev nD) : Nat :=
  let c0_i32_8597 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8596 : BitVec 32 := 8#32
  let v10545 : BitVec 32 := Scalar.muli v160 c8_i32_8596
  let v10546 : BitVec 32 := Scalar.addi c0_i32_8597 v10545
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8598 : BitVec 32 := 4#32
  let v10547 : BitVec 32 := Scalar.muli v171 c4_i32_8598
  let v10548 : BitVec 32 := Scalar.addi v10546 v10547
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8599 : BitVec 32 := 1#32
  let v10549 : BitVec 32 := Scalar.muli v184 c1_i32_8599
  let v10550 : BitVec 32 := Scalar.addi v10548 v10549
  v10550.toNat
def k0_dev207 (d0 : Dev nD) : Nat :=
  let c0_i32_8628 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8627 : BitVec 32 := 8#32
  let v10582 : BitVec 32 := Scalar.muli v81 c8_i32_8627
  let v10583 : BitVec 32 := Scalar.addi c0_i32_8628 v10582
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8629 : BitVec 32 := 4#32
  let v10584 : BitVec 32 := Scalar.muli v92 c4_i32_8629
  let v10585 : BitVec 32 := Scalar.addi v10583 v10584
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8630 : BitVec 32 := 1#32
  let v10586 : BitVec 32 := Scalar.muli v105 c1_i32_8630
  let v10587 : BitVec 32 := Scalar.addi v10585 v10586
  v10587.toNat
def k0_dev208 (d0 : Dev nD) : Nat :=
  let c0_i32_8659 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8658 : BitVec 32 := 8#32
  let v10619 : BitVec 32 := Scalar.muli v160 c8_i32_8658
  let v10620 : BitVec 32 := Scalar.addi c0_i32_8659 v10619
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8660 : BitVec 32 := 4#32
  let v10621 : BitVec 32 := Scalar.muli v171 c4_i32_8660
  let v10622 : BitVec 32 := Scalar.addi v10620 v10621
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8661 : BitVec 32 := 1#32
  let v10623 : BitVec 32 := Scalar.muli v184 c1_i32_8661
  let v10624 : BitVec 32 := Scalar.addi v10622 v10623
  v10624.toNat
def k0_dev209 (d0 : Dev nD) : Nat :=
  let c0_i32_8690 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8689 : BitVec 32 := 8#32
  let v10656 : BitVec 32 := Scalar.muli v81 c8_i32_8689
  let v10657 : BitVec 32 := Scalar.addi c0_i32_8690 v10656
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8691 : BitVec 32 := 4#32
  let v10658 : BitVec 32 := Scalar.muli v92 c4_i32_8691
  let v10659 : BitVec 32 := Scalar.addi v10657 v10658
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8692 : BitVec 32 := 1#32
  let v10660 : BitVec 32 := Scalar.muli v105 c1_i32_8692
  let v10661 : BitVec 32 := Scalar.addi v10659 v10660
  v10661.toNat
def k0_dev210 (d0 : Dev nD) : Nat :=
  let c0_i32_8721 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8720 : BitVec 32 := 8#32
  let v10693 : BitVec 32 := Scalar.muli v160 c8_i32_8720
  let v10694 : BitVec 32 := Scalar.addi c0_i32_8721 v10693
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8722 : BitVec 32 := 4#32
  let v10695 : BitVec 32 := Scalar.muli v171 c4_i32_8722
  let v10696 : BitVec 32 := Scalar.addi v10694 v10695
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8723 : BitVec 32 := 1#32
  let v10697 : BitVec 32 := Scalar.muli v184 c1_i32_8723
  let v10698 : BitVec 32 := Scalar.addi v10696 v10697
  v10698.toNat
def k0_dev211 (d0 : Dev nD) : Nat :=
  let c0_i32_8752 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8751 : BitVec 32 := 8#32
  let v10730 : BitVec 32 := Scalar.muli v81 c8_i32_8751
  let v10731 : BitVec 32 := Scalar.addi c0_i32_8752 v10730
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8753 : BitVec 32 := 4#32
  let v10732 : BitVec 32 := Scalar.muli v92 c4_i32_8753
  let v10733 : BitVec 32 := Scalar.addi v10731 v10732
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8754 : BitVec 32 := 1#32
  let v10734 : BitVec 32 := Scalar.muli v105 c1_i32_8754
  let v10735 : BitVec 32 := Scalar.addi v10733 v10734
  v10735.toNat
def k0_dev212 (d0 : Dev nD) : Nat :=
  let c0_i32_8783 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8782 : BitVec 32 := 8#32
  let v10767 : BitVec 32 := Scalar.muli v160 c8_i32_8782
  let v10768 : BitVec 32 := Scalar.addi c0_i32_8783 v10767
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8784 : BitVec 32 := 4#32
  let v10769 : BitVec 32 := Scalar.muli v171 c4_i32_8784
  let v10770 : BitVec 32 := Scalar.addi v10768 v10769
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8785 : BitVec 32 := 1#32
  let v10771 : BitVec 32 := Scalar.muli v184 c1_i32_8785
  let v10772 : BitVec 32 := Scalar.addi v10770 v10771
  v10772.toNat
def k0_dev213 (d0 : Dev nD) : Nat :=
  let c0_i32_8814 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8813 : BitVec 32 := 8#32
  let v10804 : BitVec 32 := Scalar.muli v81 c8_i32_8813
  let v10805 : BitVec 32 := Scalar.addi c0_i32_8814 v10804
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8815 : BitVec 32 := 4#32
  let v10806 : BitVec 32 := Scalar.muli v92 c4_i32_8815
  let v10807 : BitVec 32 := Scalar.addi v10805 v10806
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8816 : BitVec 32 := 1#32
  let v10808 : BitVec 32 := Scalar.muli v105 c1_i32_8816
  let v10809 : BitVec 32 := Scalar.addi v10807 v10808
  v10809.toNat
def k0_dev214 (d0 : Dev nD) : Nat :=
  let c0_i32_8845 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8844 : BitVec 32 := 8#32
  let v10841 : BitVec 32 := Scalar.muli v160 c8_i32_8844
  let v10842 : BitVec 32 := Scalar.addi c0_i32_8845 v10841
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8846 : BitVec 32 := 4#32
  let v10843 : BitVec 32 := Scalar.muli v171 c4_i32_8846
  let v10844 : BitVec 32 := Scalar.addi v10842 v10843
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8847 : BitVec 32 := 1#32
  let v10845 : BitVec 32 := Scalar.muli v184 c1_i32_8847
  let v10846 : BitVec 32 := Scalar.addi v10844 v10845
  v10846.toNat
def k0_dev215 (d0 : Dev nD) : Nat :=
  let c0_i32_8876 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8875 : BitVec 32 := 8#32
  let v10878 : BitVec 32 := Scalar.muli v81 c8_i32_8875
  let v10879 : BitVec 32 := Scalar.addi c0_i32_8876 v10878
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8877 : BitVec 32 := 4#32
  let v10880 : BitVec 32 := Scalar.muli v92 c4_i32_8877
  let v10881 : BitVec 32 := Scalar.addi v10879 v10880
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8878 : BitVec 32 := 1#32
  let v10882 : BitVec 32 := Scalar.muli v105 c1_i32_8878
  let v10883 : BitVec 32 := Scalar.addi v10881 v10882
  v10883.toNat
def k0_dev216 (d0 : Dev nD) : Nat :=
  let c0_i32_8907 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8906 : BitVec 32 := 8#32
  let v10915 : BitVec 32 := Scalar.muli v160 c8_i32_8906
  let v10916 : BitVec 32 := Scalar.addi c0_i32_8907 v10915
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8908 : BitVec 32 := 4#32
  let v10917 : BitVec 32 := Scalar.muli v171 c4_i32_8908
  let v10918 : BitVec 32 := Scalar.addi v10916 v10917
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8909 : BitVec 32 := 1#32
  let v10919 : BitVec 32 := Scalar.muli v184 c1_i32_8909
  let v10920 : BitVec 32 := Scalar.addi v10918 v10919
  v10920.toNat
def k0_dev217 (d0 : Dev nD) : Nat :=
  let c0_i32_8938 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8937 : BitVec 32 := 8#32
  let v10952 : BitVec 32 := Scalar.muli v81 c8_i32_8937
  let v10953 : BitVec 32 := Scalar.addi c0_i32_8938 v10952
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_8939 : BitVec 32 := 4#32
  let v10954 : BitVec 32 := Scalar.muli v92 c4_i32_8939
  let v10955 : BitVec 32 := Scalar.addi v10953 v10954
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_8940 : BitVec 32 := 1#32
  let v10956 : BitVec 32 := Scalar.muli v105 c1_i32_8940
  let v10957 : BitVec 32 := Scalar.addi v10955 v10956
  v10957.toNat
def k0_dev218 (d0 : Dev nD) : Nat :=
  let c0_i32_8969 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_8968 : BitVec 32 := 8#32
  let v10989 : BitVec 32 := Scalar.muli v160 c8_i32_8968
  let v10990 : BitVec 32 := Scalar.addi c0_i32_8969 v10989
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_8970 : BitVec 32 := 4#32
  let v10991 : BitVec 32 := Scalar.muli v171 c4_i32_8970
  let v10992 : BitVec 32 := Scalar.addi v10990 v10991
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_8971 : BitVec 32 := 1#32
  let v10993 : BitVec 32 := Scalar.muli v184 c1_i32_8971
  let v10994 : BitVec 32 := Scalar.addi v10992 v10993
  v10994.toNat
def k0_dev219 (d0 : Dev nD) : Nat :=
  let c0_i32_9000 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_8999 : BitVec 32 := 8#32
  let v11026 : BitVec 32 := Scalar.muli v81 c8_i32_8999
  let v11027 : BitVec 32 := Scalar.addi c0_i32_9000 v11026
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9001 : BitVec 32 := 4#32
  let v11028 : BitVec 32 := Scalar.muli v92 c4_i32_9001
  let v11029 : BitVec 32 := Scalar.addi v11027 v11028
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9002 : BitVec 32 := 1#32
  let v11030 : BitVec 32 := Scalar.muli v105 c1_i32_9002
  let v11031 : BitVec 32 := Scalar.addi v11029 v11030
  v11031.toNat
def k0_dev220 (d0 : Dev nD) : Nat :=
  let c0_i32_9031 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9030 : BitVec 32 := 8#32
  let v11063 : BitVec 32 := Scalar.muli v160 c8_i32_9030
  let v11064 : BitVec 32 := Scalar.addi c0_i32_9031 v11063
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9032 : BitVec 32 := 4#32
  let v11065 : BitVec 32 := Scalar.muli v171 c4_i32_9032
  let v11066 : BitVec 32 := Scalar.addi v11064 v11065
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9033 : BitVec 32 := 1#32
  let v11067 : BitVec 32 := Scalar.muli v184 c1_i32_9033
  let v11068 : BitVec 32 := Scalar.addi v11066 v11067
  v11068.toNat
def k0_dev221 (d0 : Dev nD) : Nat :=
  let c0_i32_9062 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9061 : BitVec 32 := 8#32
  let v11100 : BitVec 32 := Scalar.muli v81 c8_i32_9061
  let v11101 : BitVec 32 := Scalar.addi c0_i32_9062 v11100
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9063 : BitVec 32 := 4#32
  let v11102 : BitVec 32 := Scalar.muli v92 c4_i32_9063
  let v11103 : BitVec 32 := Scalar.addi v11101 v11102
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9064 : BitVec 32 := 1#32
  let v11104 : BitVec 32 := Scalar.muli v105 c1_i32_9064
  let v11105 : BitVec 32 := Scalar.addi v11103 v11104
  v11105.toNat
def k0_dev222 (d0 : Dev nD) : Nat :=
  let c0_i32_9093 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9092 : BitVec 32 := 8#32
  let v11137 : BitVec 32 := Scalar.muli v160 c8_i32_9092
  let v11138 : BitVec 32 := Scalar.addi c0_i32_9093 v11137
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9094 : BitVec 32 := 4#32
  let v11139 : BitVec 32 := Scalar.muli v171 c4_i32_9094
  let v11140 : BitVec 32 := Scalar.addi v11138 v11139
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9095 : BitVec 32 := 1#32
  let v11141 : BitVec 32 := Scalar.muli v184 c1_i32_9095
  let v11142 : BitVec 32 := Scalar.addi v11140 v11141
  v11142.toNat
def k0_dev223 (d0 : Dev nD) : Nat :=
  let c0_i32_9124 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9123 : BitVec 32 := 8#32
  let v11174 : BitVec 32 := Scalar.muli v81 c8_i32_9123
  let v11175 : BitVec 32 := Scalar.addi c0_i32_9124 v11174
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9125 : BitVec 32 := 4#32
  let v11176 : BitVec 32 := Scalar.muli v92 c4_i32_9125
  let v11177 : BitVec 32 := Scalar.addi v11175 v11176
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9126 : BitVec 32 := 1#32
  let v11178 : BitVec 32 := Scalar.muli v105 c1_i32_9126
  let v11179 : BitVec 32 := Scalar.addi v11177 v11178
  v11179.toNat
def k0_dev224 (d0 : Dev nD) : Nat :=
  let c0_i32_9155 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9154 : BitVec 32 := 8#32
  let v11211 : BitVec 32 := Scalar.muli v160 c8_i32_9154
  let v11212 : BitVec 32 := Scalar.addi c0_i32_9155 v11211
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9156 : BitVec 32 := 4#32
  let v11213 : BitVec 32 := Scalar.muli v171 c4_i32_9156
  let v11214 : BitVec 32 := Scalar.addi v11212 v11213
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9157 : BitVec 32 := 1#32
  let v11215 : BitVec 32 := Scalar.muli v184 c1_i32_9157
  let v11216 : BitVec 32 := Scalar.addi v11214 v11215
  v11216.toNat
def k0_dev225 (d0 : Dev nD) : Nat :=
  let c0_i32_9186 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9185 : BitVec 32 := 8#32
  let v11248 : BitVec 32 := Scalar.muli v81 c8_i32_9185
  let v11249 : BitVec 32 := Scalar.addi c0_i32_9186 v11248
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9187 : BitVec 32 := 4#32
  let v11250 : BitVec 32 := Scalar.muli v92 c4_i32_9187
  let v11251 : BitVec 32 := Scalar.addi v11249 v11250
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9188 : BitVec 32 := 1#32
  let v11252 : BitVec 32 := Scalar.muli v105 c1_i32_9188
  let v11253 : BitVec 32 := Scalar.addi v11251 v11252
  v11253.toNat
def k0_dev226 (d0 : Dev nD) : Nat :=
  let c0_i32_9217 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9216 : BitVec 32 := 8#32
  let v11285 : BitVec 32 := Scalar.muli v160 c8_i32_9216
  let v11286 : BitVec 32 := Scalar.addi c0_i32_9217 v11285
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9218 : BitVec 32 := 4#32
  let v11287 : BitVec 32 := Scalar.muli v171 c4_i32_9218
  let v11288 : BitVec 32 := Scalar.addi v11286 v11287
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9219 : BitVec 32 := 1#32
  let v11289 : BitVec 32 := Scalar.muli v184 c1_i32_9219
  let v11290 : BitVec 32 := Scalar.addi v11288 v11289
  v11290.toNat
def k0_dev227 (d0 : Dev nD) : Nat :=
  let c0_i32_9248 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9247 : BitVec 32 := 8#32
  let v11322 : BitVec 32 := Scalar.muli v81 c8_i32_9247
  let v11323 : BitVec 32 := Scalar.addi c0_i32_9248 v11322
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9249 : BitVec 32 := 4#32
  let v11324 : BitVec 32 := Scalar.muli v92 c4_i32_9249
  let v11325 : BitVec 32 := Scalar.addi v11323 v11324
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9250 : BitVec 32 := 1#32
  let v11326 : BitVec 32 := Scalar.muli v105 c1_i32_9250
  let v11327 : BitVec 32 := Scalar.addi v11325 v11326
  v11327.toNat
def k0_dev228 (d0 : Dev nD) : Nat :=
  let c0_i32_9279 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9278 : BitVec 32 := 8#32
  let v11359 : BitVec 32 := Scalar.muli v160 c8_i32_9278
  let v11360 : BitVec 32 := Scalar.addi c0_i32_9279 v11359
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9280 : BitVec 32 := 4#32
  let v11361 : BitVec 32 := Scalar.muli v171 c4_i32_9280
  let v11362 : BitVec 32 := Scalar.addi v11360 v11361
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9281 : BitVec 32 := 1#32
  let v11363 : BitVec 32 := Scalar.muli v184 c1_i32_9281
  let v11364 : BitVec 32 := Scalar.addi v11362 v11363
  v11364.toNat

variable {F : FTy → Type} [FloatOps F]

def k0_dev229 (d0 : Dev nD) : Nat :=
  let c0_i32_9310 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9309 : BitVec 32 := 8#32
  let v11396 : BitVec 32 := Scalar.muli v81 c8_i32_9309
  let v11397 : BitVec 32 := Scalar.addi c0_i32_9310 v11396
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9311 : BitVec 32 := 4#32
  let v11398 : BitVec 32 := Scalar.muli v92 c4_i32_9311
  let v11399 : BitVec 32 := Scalar.addi v11397 v11398
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9312 : BitVec 32 := 1#32
  let v11400 : BitVec 32 := Scalar.muli v105 c1_i32_9312
  let v11401 : BitVec 32 := Scalar.addi v11399 v11400
  v11401.toNat
def k0_dev230 (d0 : Dev nD) : Nat :=
  let c0_i32_9341 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9340 : BitVec 32 := 8#32
  let v11433 : BitVec 32 := Scalar.muli v160 c8_i32_9340
  let v11434 : BitVec 32 := Scalar.addi c0_i32_9341 v11433
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9342 : BitVec 32 := 4#32
  let v11435 : BitVec 32 := Scalar.muli v171 c4_i32_9342
  let v11436 : BitVec 32 := Scalar.addi v11434 v11435
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9343 : BitVec 32 := 1#32
  let v11437 : BitVec 32 := Scalar.muli v184 c1_i32_9343
  let v11438 : BitVec 32 := Scalar.addi v11436 v11437
  v11438.toNat
def k0_dev231 (d0 : Dev nD) : Nat :=
  let c0_i32_9372 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9371 : BitVec 32 := 8#32
  let v11470 : BitVec 32 := Scalar.muli v81 c8_i32_9371
  let v11471 : BitVec 32 := Scalar.addi c0_i32_9372 v11470
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9373 : BitVec 32 := 4#32
  let v11472 : BitVec 32 := Scalar.muli v92 c4_i32_9373
  let v11473 : BitVec 32 := Scalar.addi v11471 v11472
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9374 : BitVec 32 := 1#32
  let v11474 : BitVec 32 := Scalar.muli v105 c1_i32_9374
  let v11475 : BitVec 32 := Scalar.addi v11473 v11474
  v11475.toNat
def k0_dev232 (d0 : Dev nD) : Nat :=
  let c0_i32_9403 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9402 : BitVec 32 := 8#32
  let v11507 : BitVec 32 := Scalar.muli v160 c8_i32_9402
  let v11508 : BitVec 32 := Scalar.addi c0_i32_9403 v11507
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9404 : BitVec 32 := 4#32
  let v11509 : BitVec 32 := Scalar.muli v171 c4_i32_9404
  let v11510 : BitVec 32 := Scalar.addi v11508 v11509
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9405 : BitVec 32 := 1#32
  let v11511 : BitVec 32 := Scalar.muli v184 c1_i32_9405
  let v11512 : BitVec 32 := Scalar.addi v11510 v11511
  v11512.toNat
def k0_dev233 (d0 : Dev nD) : Nat :=
  let c0_i32_9434 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9433 : BitVec 32 := 8#32
  let v11544 : BitVec 32 := Scalar.muli v81 c8_i32_9433
  let v11545 : BitVec 32 := Scalar.addi c0_i32_9434 v11544
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9435 : BitVec 32 := 4#32
  let v11546 : BitVec 32 := Scalar.muli v92 c4_i32_9435
  let v11547 : BitVec 32 := Scalar.addi v11545 v11546
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9436 : BitVec 32 := 1#32
  let v11548 : BitVec 32 := Scalar.muli v105 c1_i32_9436
  let v11549 : BitVec 32 := Scalar.addi v11547 v11548
  v11549.toNat
def k0_dev234 (d0 : Dev nD) : Nat :=
  let c0_i32_9465 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9464 : BitVec 32 := 8#32
  let v11581 : BitVec 32 := Scalar.muli v160 c8_i32_9464
  let v11582 : BitVec 32 := Scalar.addi c0_i32_9465 v11581
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9466 : BitVec 32 := 4#32
  let v11583 : BitVec 32 := Scalar.muli v171 c4_i32_9466
  let v11584 : BitVec 32 := Scalar.addi v11582 v11583
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9467 : BitVec 32 := 1#32
  let v11585 : BitVec 32 := Scalar.muli v184 c1_i32_9467
  let v11586 : BitVec 32 := Scalar.addi v11584 v11585
  v11586.toNat
def k0_dev235 (d0 : Dev nD) : Nat :=
  let c0_i32_9496 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9495 : BitVec 32 := 8#32
  let v11618 : BitVec 32 := Scalar.muli v81 c8_i32_9495
  let v11619 : BitVec 32 := Scalar.addi c0_i32_9496 v11618
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9497 : BitVec 32 := 4#32
  let v11620 : BitVec 32 := Scalar.muli v92 c4_i32_9497
  let v11621 : BitVec 32 := Scalar.addi v11619 v11620
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9498 : BitVec 32 := 1#32
  let v11622 : BitVec 32 := Scalar.muli v105 c1_i32_9498
  let v11623 : BitVec 32 := Scalar.addi v11621 v11622
  v11623.toNat
def k0_dev236 (d0 : Dev nD) : Nat :=
  let c0_i32_9527 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9526 : BitVec 32 := 8#32
  let v11655 : BitVec 32 := Scalar.muli v160 c8_i32_9526
  let v11656 : BitVec 32 := Scalar.addi c0_i32_9527 v11655
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9528 : BitVec 32 := 4#32
  let v11657 : BitVec 32 := Scalar.muli v171 c4_i32_9528
  let v11658 : BitVec 32 := Scalar.addi v11656 v11657
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9529 : BitVec 32 := 1#32
  let v11659 : BitVec 32 := Scalar.muli v184 c1_i32_9529
  let v11660 : BitVec 32 := Scalar.addi v11658 v11659
  v11660.toNat
def k0_dev237 (d0 : Dev nD) : Nat :=
  let c0_i32_9558 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9557 : BitVec 32 := 8#32
  let v11692 : BitVec 32 := Scalar.muli v81 c8_i32_9557
  let v11693 : BitVec 32 := Scalar.addi c0_i32_9558 v11692
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9559 : BitVec 32 := 4#32
  let v11694 : BitVec 32 := Scalar.muli v92 c4_i32_9559
  let v11695 : BitVec 32 := Scalar.addi v11693 v11694
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9560 : BitVec 32 := 1#32
  let v11696 : BitVec 32 := Scalar.muli v105 c1_i32_9560
  let v11697 : BitVec 32 := Scalar.addi v11695 v11696
  v11697.toNat
def k0_dev238 (d0 : Dev nD) : Nat :=
  let c0_i32_9589 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9588 : BitVec 32 := 8#32
  let v11729 : BitVec 32 := Scalar.muli v160 c8_i32_9588
  let v11730 : BitVec 32 := Scalar.addi c0_i32_9589 v11729
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9590 : BitVec 32 := 4#32
  let v11731 : BitVec 32 := Scalar.muli v171 c4_i32_9590
  let v11732 : BitVec 32 := Scalar.addi v11730 v11731
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9591 : BitVec 32 := 1#32
  let v11733 : BitVec 32 := Scalar.muli v184 c1_i32_9591
  let v11734 : BitVec 32 := Scalar.addi v11732 v11733
  v11734.toNat
def k0_dev239 (d0 : Dev nD) : Nat :=
  let c0_i32_9620 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9619 : BitVec 32 := 8#32
  let v11766 : BitVec 32 := Scalar.muli v81 c8_i32_9619
  let v11767 : BitVec 32 := Scalar.addi c0_i32_9620 v11766
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9621 : BitVec 32 := 4#32
  let v11768 : BitVec 32 := Scalar.muli v92 c4_i32_9621
  let v11769 : BitVec 32 := Scalar.addi v11767 v11768
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9622 : BitVec 32 := 1#32
  let v11770 : BitVec 32 := Scalar.muli v105 c1_i32_9622
  let v11771 : BitVec 32 := Scalar.addi v11769 v11770
  v11771.toNat
def k0_dev240 (d0 : Dev nD) : Nat :=
  let c0_i32_9651 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9650 : BitVec 32 := 8#32
  let v11803 : BitVec 32 := Scalar.muli v160 c8_i32_9650
  let v11804 : BitVec 32 := Scalar.addi c0_i32_9651 v11803
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9652 : BitVec 32 := 4#32
  let v11805 : BitVec 32 := Scalar.muli v171 c4_i32_9652
  let v11806 : BitVec 32 := Scalar.addi v11804 v11805
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9653 : BitVec 32 := 1#32
  let v11807 : BitVec 32 := Scalar.muli v184 c1_i32_9653
  let v11808 : BitVec 32 := Scalar.addi v11806 v11807
  v11808.toNat
def k0_dev241 (d0 : Dev nD) : Nat :=
  let c0_i32_9682 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_10 : BitVec 32 := 1#32
  let v27 : BitVec 32 := Scalar.addi v26 c1_i32_10
  let c16_i32 : BitVec 32 := 16#32
  let c0_i32_11 : BitVec 32 := 0#32
  let v28 : BitVec 1 := Scalar.cmpi .eq c16_i32 c0_i32_11
  let c1_i32_12 : BitVec 32 := 1#32
  let v29 : BitVec 32 := Scalar.select v28 c1_i32_12 c16_i32
  let v30 : BitVec 32 := Scalar.remsi v27 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c0_i32_17 : BitVec 32 := 0#32
  let v39 : BitVec 1 := Scalar.cmpi .sgt v37 c0_i32_17
  let v40 : BitVec 32 := Scalar.extui v39
  let c0_i32_18 : BitVec 32 := 0#32
  let v41 : BitVec 1 := Scalar.cmpi .slt v37 c0_i32_18
  let v42 : BitVec 32 := Scalar.extui v41
  let v43 : BitVec 32 := Scalar.subi v40 v42
  let c4_i32_16 : BitVec 32 := 4#32
  let c0_i32_19 : BitVec 32 := 0#32
  let v44 : BitVec 1 := Scalar.cmpi .sgt c4_i32_16 c0_i32_19
  let v45 : BitVec 32 := Scalar.extui v44
  let c0_i32_20 : BitVec 32 := 0#32
  let v46 : BitVec 1 := Scalar.cmpi .slt c4_i32_16 c0_i32_20
  let v47 : BitVec 32 := Scalar.extui v46
  let v48 : BitVec 32 := Scalar.subi v45 v47
  let v49 : BitVec 1 := Scalar.cmpi .ne v43 v48
  let v50 : BitVec 32 := Scalar.remsi v37 c4_i32_16
  let c0_i32_21 : BitVec 32 := 0#32
  let v51 : BitVec 1 := Scalar.cmpi .ne v50 c0_i32_21
  let v52 : BitVec 1 := Scalar.andi v49 v51
  let v38 : BitVec 32 := Scalar.divsi v37 c4_i32_16
  let c1_i32_22 : BitVec 32 := 1#32
  let v53 : BitVec 32 := Scalar.subi v38 c1_i32_22
  let v54 : BitVec 32 := Scalar.select v52 v53 v38
  let c0_i32_30 : BitVec 32 := 0#32
  let v66 : BitVec 1 := Scalar.cmpi .sgt v54 c0_i32_30
  let v67 : BitVec 32 := Scalar.extui v66
  let c0_i32_31 : BitVec 32 := 0#32
  let v68 : BitVec 1 := Scalar.cmpi .slt v54 c0_i32_31
  let v69 : BitVec 32 := Scalar.extui v68
  let v70 : BitVec 32 := Scalar.subi v67 v69
  let c2_i32_29 : BitVec 32 := 2#32
  let c0_i32_32 : BitVec 32 := 0#32
  let v71 : BitVec 1 := Scalar.cmpi .sgt c2_i32_29 c0_i32_32
  let v72 : BitVec 32 := Scalar.extui v71
  let c0_i32_33 : BitVec 32 := 0#32
  let v73 : BitVec 1 := Scalar.cmpi .slt c2_i32_29 c0_i32_33
  let v74 : BitVec 32 := Scalar.extui v73
  let v75 : BitVec 32 := Scalar.subi v72 v74
  let v76 : BitVec 1 := Scalar.cmpi .ne v70 v75
  let v77 : BitVec 32 := Scalar.remsi v54 c2_i32_29
  let c0_i32_34 : BitVec 32 := 0#32
  let v78 : BitVec 1 := Scalar.cmpi .ne v77 c0_i32_34
  let v79 : BitVec 1 := Scalar.andi v76 v78
  let v65 : BitVec 32 := Scalar.divsi v54 c2_i32_29
  let c1_i32_35 : BitVec 32 := 1#32
  let v80 : BitVec 32 := Scalar.subi v65 c1_i32_35
  let v81 : BitVec 32 := Scalar.select v79 v80 v65
  let c8_i32_9681 : BitVec 32 := 8#32
  let v11840 : BitVec 32 := Scalar.muli v81 c8_i32_9681
  let v11841 : BitVec 32 := Scalar.addi c0_i32_9682 v11840
  let c2_i32_36 : BitVec 32 := 2#32
  let c0_i32_37 : BitVec 32 := 0#32
  let v82 : BitVec 1 := Scalar.cmpi .eq c2_i32_36 c0_i32_37
  let c1_i32_38 : BitVec 32 := 1#32
  let v83 : BitVec 32 := Scalar.select v82 c1_i32_38 c2_i32_36
  let v84 : BitVec 32 := Scalar.remsi v54 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let v92 : BitVec 32 := Scalar.xori v81 v91
  let c4_i32_9683 : BitVec 32 := 4#32
  let v11842 : BitVec 32 := Scalar.muli v92 c4_i32_9683
  let v11843 : BitVec 32 := Scalar.addi v11841 v11842
  let c2_i32_42 : BitVec 32 := 2#32
  let c0_i32_43 : BitVec 32 := 0#32
  let v93 : BitVec 1 := Scalar.cmpi .eq c2_i32_42 c0_i32_43
  let c1_i32_44 : BitVec 32 := 1#32
  let v94 : BitVec 32 := Scalar.select v93 c1_i32_44 c2_i32_42
  let v95 : BitVec 32 := Scalar.remsi v54 v94
  let c0_i32_46 : BitVec 32 := 0#32
  let v97 : BitVec 1 := Scalar.cmpi .slt v95 c0_i32_46
  let c0_i32_47 : BitVec 32 := 0#32
  let v98 : BitVec 1 := Scalar.cmpi .slt v94 c0_i32_47
  let v99 : BitVec 1 := Scalar.xori v97 v98
  let c0_i32_45 : BitVec 32 := 0#32
  let v96 : BitVec 1 := Scalar.cmpi .ne v95 c0_i32_45
  let v100 : BitVec 1 := Scalar.andi v99 v96
  let v101 : BitVec 32 := Scalar.addi v95 v94
  let v102 : BitVec 32 := Scalar.select v100 v101 v95
  let c0_i32_48 : BitVec 32 := 0#32
  let v103 : BitVec 1 := Scalar.cmpi .eq v102 c0_i32_48
  let c4_i32_23 : BitVec 32 := 4#32
  let c0_i32_24 : BitVec 32 := 0#32
  let v55 : BitVec 1 := Scalar.cmpi .eq c4_i32_23 c0_i32_24
  let c1_i32_25 : BitVec 32 := 1#32
  let v56 : BitVec 32 := Scalar.select v55 c1_i32_25 c4_i32_23
  let v57 : BitVec 32 := Scalar.remsi v37 v56
  let c0_i32_27 : BitVec 32 := 0#32
  let v59 : BitVec 1 := Scalar.cmpi .slt v57 c0_i32_27
  let c0_i32_28 : BitVec 32 := 0#32
  let v60 : BitVec 1 := Scalar.cmpi .slt v56 c0_i32_28
  let v61 : BitVec 1 := Scalar.xori v59 v60
  let c0_i32_26 : BitVec 32 := 0#32
  let v58 : BitVec 1 := Scalar.cmpi .ne v57 c0_i32_26
  let v62 : BitVec 1 := Scalar.andi v61 v58
  let v63 : BitVec 32 := Scalar.addi v57 v56
  let v64 : BitVec 32 := Scalar.select v62 v63 v57
  let c3_i32_49 : BitVec 32 := 3#32
  let v104 : BitVec 32 := Scalar.subi c3_i32_49 v64
  let v105 : BitVec 32 := Scalar.select v103 v64 v104
  let c1_i32_9684 : BitVec 32 := 1#32
  let v11844 : BitVec 32 := Scalar.muli v105 c1_i32_9684
  let v11845 : BitVec 32 := Scalar.addi v11843 v11844
  v11845.toNat
def k0_dev242 (d0 : Dev nD) : Nat :=
  let c0_i32_9713 : BitVec 32 := 0#32
  let c4_i32_9 : BitVec 32 := 4#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.xori v2 v5
  let v11 : BitVec 32 := Scalar.addi v9 v10
  let v25 : BitVec 32 := Scalar.muli c4_i32_9 v11
  let c2_i32_3 : BitVec 32 := 2#32
  let c0_i32 : BitVec 32 := 0#32
  let v12 : BitVec 1 := Scalar.cmpi .eq c2_i32_3 c0_i32
  let c1_i32_4 : BitVec 32 := 1#32
  let v13 : BitVec 32 := Scalar.select v12 c1_i32_4 c2_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c0_i32_8 : BitVec 32 := 0#32
  let v22 : BitVec 1 := Scalar.cmpi .eq v21 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v23 : BitVec 32 := Scalar.subi c3_i32 v8
  let v24 : BitVec 32 := Scalar.select v22 v8 v23
  let v26 : BitVec 32 := Scalar.addi v25 v24
  let c1_i32_50 : BitVec 32 := 1#32
  let v106 : BitVec 32 := Scalar.subi v26 c1_i32_50
  let c16_i32_51 : BitVec 32 := 16#32
  let c0_i32_52 : BitVec 32 := 0#32
  let v107 : BitVec 1 := Scalar.cmpi .eq c16_i32_51 c0_i32_52
  let c1_i32_53 : BitVec 32 := 1#32
  let v108 : BitVec 32 := Scalar.select v107 c1_i32_53 c16_i32_51
  let v109 : BitVec 32 := Scalar.remsi v106 v108
  let c0_i32_55 : BitVec 32 := 0#32
  let v111 : BitVec 1 := Scalar.cmpi .slt v109 c0_i32_55
  let c0_i32_56 : BitVec 32 := 0#32
  let v112 : BitVec 1 := Scalar.cmpi .slt v108 c0_i32_56
  let v113 : BitVec 1 := Scalar.xori v111 v112
  let c0_i32_54 : BitVec 32 := 0#32
  let v110 : BitVec 1 := Scalar.cmpi .ne v109 c0_i32_54
  let v114 : BitVec 1 := Scalar.andi v113 v110
  let v115 : BitVec 32 := Scalar.addi v109 v108
  let v116 : BitVec 32 := Scalar.select v114 v115 v109
  let c0_i32_58 : BitVec 32 := 0#32
  let v118 : BitVec 1 := Scalar.cmpi .sgt v116 c0_i32_58
  let v119 : BitVec 32 := Scalar.extui v118
  let c0_i32_59 : BitVec 32 := 0#32
  let v120 : BitVec 1 := Scalar.cmpi .slt v116 c0_i32_59
  let v121 : BitVec 32 := Scalar.extui v120
  let v122 : BitVec 32 := Scalar.subi v119 v121
  let c4_i32_57 : BitVec 32 := 4#32
  let c0_i32_60 : BitVec 32 := 0#32
  let v123 : BitVec 1 := Scalar.cmpi .sgt c4_i32_57 c0_i32_60
  let v124 : BitVec 32 := Scalar.extui v123
  let c0_i32_61 : BitVec 32 := 0#32
  let v125 : BitVec 1 := Scalar.cmpi .slt c4_i32_57 c0_i32_61
  let v126 : BitVec 32 := Scalar.extui v125
  let v127 : BitVec 32 := Scalar.subi v124 v126
  let v128 : BitVec 1 := Scalar.cmpi .ne v122 v127
  let v129 : BitVec 32 := Scalar.remsi v116 c4_i32_57
  let c0_i32_62 : BitVec 32 := 0#32
  let v130 : BitVec 1 := Scalar.cmpi .ne v129 c0_i32_62
  let v131 : BitVec 1 := Scalar.andi v128 v130
  let v117 : BitVec 32 := Scalar.divsi v116 c4_i32_57
  let c1_i32_63 : BitVec 32 := 1#32
  let v132 : BitVec 32 := Scalar.subi v117 c1_i32_63
  let v133 : BitVec 32 := Scalar.select v131 v132 v117
  let c0_i32_71 : BitVec 32 := 0#32
  let v145 : BitVec 1 := Scalar.cmpi .sgt v133 c0_i32_71
  let v146 : BitVec 32 := Scalar.extui v145
  let c0_i32_72 : BitVec 32 := 0#32
  let v147 : BitVec 1 := Scalar.cmpi .slt v133 c0_i32_72
  let v148 : BitVec 32 := Scalar.extui v147
  let v149 : BitVec 32 := Scalar.subi v146 v148
  let c2_i32_70 : BitVec 32 := 2#32
  let c0_i32_73 : BitVec 32 := 0#32
  let v150 : BitVec 1 := Scalar.cmpi .sgt c2_i32_70 c0_i32_73
  let v151 : BitVec 32 := Scalar.extui v150
  let c0_i32_74 : BitVec 32 := 0#32
  let v152 : BitVec 1 := Scalar.cmpi .slt c2_i32_70 c0_i32_74
  let v153 : BitVec 32 := Scalar.extui v152
  let v154 : BitVec 32 := Scalar.subi v151 v153
  let v155 : BitVec 1 := Scalar.cmpi .ne v149 v154
  let v156 : BitVec 32 := Scalar.remsi v133 c2_i32_70
  let c0_i32_75 : BitVec 32 := 0#32
  let v157 : BitVec 1 := Scalar.cmpi .ne v156 c0_i32_75
  let v158 : BitVec 1 := Scalar.andi v155 v157
  let v144 : BitVec 32 := Scalar.divsi v133 c2_i32_70
  let c1_i32_76 : BitVec 32 := 1#32
  let v159 : BitVec 32 := Scalar.subi v144 c1_i32_76
  let v160 : BitVec 32 := Scalar.select v158 v159 v144
  let c8_i32_9712 : BitVec 32 := 8#32
  let v11877 : BitVec 32 := Scalar.muli v160 c8_i32_9712
  let v11878 : BitVec 32 := Scalar.addi c0_i32_9713 v11877
  let c2_i32_77 : BitVec 32 := 2#32
  let c0_i32_78 : BitVec 32 := 0#32
  let v161 : BitVec 1 := Scalar.cmpi .eq c2_i32_77 c0_i32_78
  let c1_i32_79 : BitVec 32 := 1#32
  let v162 : BitVec 32 := Scalar.select v161 c1_i32_79 c2_i32_77
  let v163 : BitVec 32 := Scalar.remsi v133 v162
  let c0_i32_81 : BitVec 32 := 0#32
  let v165 : BitVec 1 := Scalar.cmpi .slt v163 c0_i32_81
  let c0_i32_82 : BitVec 32 := 0#32
  let v166 : BitVec 1 := Scalar.cmpi .slt v162 c0_i32_82
  let v167 : BitVec 1 := Scalar.xori v165 v166
  let c0_i32_80 : BitVec 32 := 0#32
  let v164 : BitVec 1 := Scalar.cmpi .ne v163 c0_i32_80
  let v168 : BitVec 1 := Scalar.andi v167 v164
  let v169 : BitVec 32 := Scalar.addi v163 v162
  let v170 : BitVec 32 := Scalar.select v168 v169 v163
  let v171 : BitVec 32 := Scalar.xori v160 v170
  let c4_i32_9714 : BitVec 32 := 4#32
  let v11879 : BitVec 32 := Scalar.muli v171 c4_i32_9714
  let v11880 : BitVec 32 := Scalar.addi v11878 v11879
  let c2_i32_83 : BitVec 32 := 2#32
  let c0_i32_84 : BitVec 32 := 0#32
  let v172 : BitVec 1 := Scalar.cmpi .eq c2_i32_83 c0_i32_84
  let c1_i32_85 : BitVec 32 := 1#32
  let v173 : BitVec 32 := Scalar.select v172 c1_i32_85 c2_i32_83
  let v174 : BitVec 32 := Scalar.remsi v133 v173
  let c0_i32_87 : BitVec 32 := 0#32
  let v176 : BitVec 1 := Scalar.cmpi .slt v174 c0_i32_87
  let c0_i32_88 : BitVec 32 := 0#32
  let v177 : BitVec 1 := Scalar.cmpi .slt v173 c0_i32_88
  let v178 : BitVec 1 := Scalar.xori v176 v177
  let c0_i32_86 : BitVec 32 := 0#32
  let v175 : BitVec 1 := Scalar.cmpi .ne v174 c0_i32_86
  let v179 : BitVec 1 := Scalar.andi v178 v175
  let v180 : BitVec 32 := Scalar.addi v174 v173
  let v181 : BitVec 32 := Scalar.select v179 v180 v174
  let c0_i32_89 : BitVec 32 := 0#32
  let v182 : BitVec 1 := Scalar.cmpi .eq v181 c0_i32_89
  let c4_i32_64 : BitVec 32 := 4#32
  let c0_i32_65 : BitVec 32 := 0#32
  let v134 : BitVec 1 := Scalar.cmpi .eq c4_i32_64 c0_i32_65
  let c1_i32_66 : BitVec 32 := 1#32
  let v135 : BitVec 32 := Scalar.select v134 c1_i32_66 c4_i32_64
  let v136 : BitVec 32 := Scalar.remsi v116 v135
  let c0_i32_68 : BitVec 32 := 0#32
  let v138 : BitVec 1 := Scalar.cmpi .slt v136 c0_i32_68
  let c0_i32_69 : BitVec 32 := 0#32
  let v139 : BitVec 1 := Scalar.cmpi .slt v135 c0_i32_69
  let v140 : BitVec 1 := Scalar.xori v138 v139
  let c0_i32_67 : BitVec 32 := 0#32
  let v137 : BitVec 1 := Scalar.cmpi .ne v136 c0_i32_67
  let v141 : BitVec 1 := Scalar.andi v140 v137
  let v142 : BitVec 32 := Scalar.addi v136 v135
  let v143 : BitVec 32 := Scalar.select v141 v142 v136
  let c3_i32_90 : BitVec 32 := 3#32
  let v183 : BitVec 32 := Scalar.subi c3_i32_90 v143
  let v184 : BitVec 32 := Scalar.select v182 v143 v183
  let c1_i32_9715 : BitVec 32 := 1#32
  let v11881 : BitVec 32 := Scalar.muli v184 c1_i32_9715
  let v11882 : BitVec 32 := Scalar.addi v11880 v11881
  v11882.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x4x2048x1024 : Shape := ⟨5, ![2, 2, 4, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2x4x2048x1024, .f32⟩
  | .hbm, ⟨1, _⟩ => ⟨S_, .f32⟩
  | .hbm, ⟨2, _⟩ => ⟨S2048x1024, .f32⟩
  | _, _ => ⟨S2x2x4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ops.lean ====
/-
# The body as a list of operations

`cc0_body` is one long text. It is the barrier handshake followed by a list of operations of seven kinds, each
named by its hop `h`, its sub-chunk `s` and its direction `d`: a transfer of the reduce-scatter started, received
and added, or waited out at its source, and the same of the all-gather (which adds nothing). This module defines
the operations and the list, and states the printed body as the run of the list.
-/
module

public import proofs.«01_k».proof.Proof.Gen.KernelIdeal

@[expose] public section

noncomputable section

namespace Cert.AllReduce

open Cert.KernelIdeal Cert.KernelIdeal.Gen
open Idealize.ShloMosaic Idealize.SL.Sem
open Idealize.ShloMosaic.TcCoe

variable {F : FTy → Type} [FloatOps F]

/-! ## The buffers, semaphores and places the operations name -/

abbrev xM : Memref sig .tc .vmem S2048x1024 .f32 := Memref.whole cc0_stg0_0
abbrev oM : Memref sig .tc .vmem S2048x1024 .f32 := Memref.whole cc0_stg1_0
/-- The landing buffer of direction `d`. -/
abbrev rB (d : Fin 2) : Memref sig .tc .vmem S15x64x1024 .f32 := match d with | 0 => Memref.whole cc0_scratch0 | 1 => Memref.whole cc0_scratch1

theorem rb_inb (h : Fin 15) (s : Fin 4) : ∀ a, (![h.val, 16 * s.val, 0] : Fin 3 → ℕ) a + S1x16x1024.size a ≤ S15x64x1024.size a := by
  decide +revert
theorem sem_inb (h : Fin 15) (s : Fin 4) : ∀ a, (![h.val, s.val] : Fin 2 → ℕ) a + S1x1.size a ≤ S15x4.size a := by
  decide +revert

/-- The landing buffer's block of hop `h`, sub-chunk `s`, as the loads address it. -/
abbrev rbRect (h : Fin 15) (s : Fin 4) : Rect S15x64x1024 :=
  Rect.unit (s := S15x64x1024) ![h.val, 16 * s.val, 0] S1x16x1024.size (rb_inb h s)
/-- The same block as the transfers address it. -/
abbrev rbM (h : Fin 15) (s : Fin 4) (d : Fin 2) : Memref sig .tc .vmem S16x1024 .f32 := match d with
  | 0 => ((Memref.whole cc0_scratch0 : Memref sig .tc .vmem S15x64x1024 .f32).slice (rbRect h s) (fun _ => rfl)).squeeze S16x1024 squeezes_S1x16x1024_S16x1024
  | 1 => ((Memref.whole cc0_scratch1 : Memref sig .tc .vmem S15x64x1024 .f32).slice (rbRect h s) (fun _ => rfl)).squeeze S16x1024 squeezes_S1x16x1024_S16x1024

abbrev semAt (a : DmaSems sig S15x4) (h : Fin 15) (s : Fin 4) : DmaSem sig :=
  ((a.slice (Rect.unit (s := S15x4) ![h.val, s.val] S1x1.size (sem_inb h s))).squeeze S_ squeezes_S1x1_S_).sem
abbrev rsSendS (h : Fin 15) (s : Fin 4) (d : Fin 2) : DmaSem sig := semAt (match d with | 0 => cc0_scratch2 | 1 => cc0_scratch6) h s
abbrev rsRecvS (h : Fin 15) (s : Fin 4) (d : Fin 2) : DmaSem sig := semAt (match d with | 0 => cc0_scratch3 | 1 => cc0_scratch7) h s
abbrev agSendS (h : Fin 15) (s : Fin 4) (d : Fin 2) : DmaSem sig := semAt (match d with | 0 => cc0_scratch4 | 1 => cc0_scratch8) h s
abbrev agRecvS (h : Fin 15) (s : Fin 4) (d : Fin 2) : DmaSem sig := semAt (match d with | 0 => cc0_scratch5 | 1 => cc0_scratch9) h s

/-- The neighbour a transfer of direction `d` goes to. -/
abbrev nbr (d : Fin 2) (c : Dev nD) : Dev nD := match d with
  | 0 => ⟨k0_dev3 c, k0_dev3_lt c⟩
  | 1 => ⟨k0_dev4 c, k0_dev4_lt c⟩

abbrev rsRect (c : Dev nD) (h : Fin 15) (s : Fin 4) (d : Fin 2) : Rect S2048x1024 := match d with
  | 0 => Rect.unit (s := S2048x1024) (k0_off1 c (BitVec.ofNat 32 h.val) (BitVec.ofNat 32 (16 * s.val))) S16x1024.size (k0_off1_inb c h s)
  | 1 => Rect.unit (s := S2048x1024) (k0_off2 c (BitVec.ofNat 32 h.val) (BitVec.ofNat 32 (16 * s.val))) S16x1024.size (k0_off2_inb c h s)
abbrev addOff (c : Dev nD) (h : Fin 15) (s : Fin 4) (d : Fin 2) : Fin 2 → ℕ := match d with
  | 0 => k0_off3 c (BitVec.ofNat 32 h.val) (BitVec.ofNat 32 (16 * s.val))
  | 1 => k0_off4 c (BitVec.ofNat 32 h.val) (BitVec.ofNat 32 (16 * s.val))
theorem addOff_inb (c : Dev nD) (h : Fin 15) (s : Fin 4) (d : Fin 2) : ∀ a, addOff c h s d a + S16x1024.size a ≤ S2048x1024.size a :=
  match d with
  | 0 => k0_off3_inb c h s
  | 1 => k0_off4_inb c h s
/-- The rows the add of hop `h` reads of `x` and writes of the result. -/
abbrev addRect (c : Dev nD) (h : Fin 15) (s : Fin 4) (d : Fin 2) : Rect S2048x1024 :=
  Rect.unit (s := S2048x1024) (addOff c h s d) S16x1024.size (addOff_inb c h s d)

/-- The rows a reduce-scatter transfer reads: of `x` at hop 0, of the result afterwards. -/
abbrev rsSrc (c : Dev nD) (h : Fin 15) (s : Fin 4) (d : Fin 2) : Memref sig .tc .vmem S16x1024 .f32 := match d, h.val with
  | 0, 0 => xM.slice (Rect.unit (s := S2048x1024) (k0_off1 c (BitVec.ofNat 32 h.val) (BitVec.ofNat 32 (16 * s.val))) S16x1024.size (k0_off1_inb c h s)) (fun _ => rfl)
  | 1, 0 => xM.slice (Rect.unit (s := S2048x1024) (k0_off2 c (BitVec.ofNat 32 h.val) (BitVec.ofNat 32 (16 * s.val))) S16x1024.size (k0_off2_inb c h s)) (fun _ => rfl)
  | 0, _ => oM.slice (Rect.unit (s := S2048x1024) (k0_off1 c (BitVec.ofNat 32 h.val) (BitVec.ofNat 32 (16 * s.val))) S16x1024.size (k0_off1_inb c h s)) (fun _ => rfl)
  | 1, _ => oM.slice (Rect.unit (s := S2048x1024) (k0_off2 c (BitVec.ofNat 32 h.val) (BitVec.ofNat 32 (16 * s.val))) S16x1024.size (k0_off2_inb c h s)) (fun _ => rfl)
/-- The rows of the result an all-gather transfer reads, and writes on the neighbour. -/
abbrev agM (c : Dev nD) (h : Fin 15) (s : Fin 4) (d : Fin 2) : Memref sig .tc .vmem S16x1024 .f32 := match d with
  | 0 => oM.slice (Rect.unit (s := S2048x1024) (k0_off5 c (BitVec.ofNat 32 h.val) (BitVec.ofNat 32 (16 * s.val))) S16x1024.size (k0_off5_inb c h s)) (fun _ => rfl)
  | 1 => oM.slice (Rect.unit (s := S2048x1024) (k0_off6 c (BitVec.ofNat 32 h.val) (BitVec.ofNat 32 (16 * s.val))) S16x1024.size (k0_off6_inb c h s)) (fun _ => rfl)

theorem wordExact (m : Memref sig .tc .vmem S16x1024 .f32) : m.view.WordExact := View.wordExact_bits rfl

theorem rb_notSc (h : Fin 15) (s : Fin 4) (d : Fin 2) : (rbM h s d).view.ref.isScScratch = false := match d with
  | 0 => rfl
  | 1 => rfl
theorem ag_notSc (c : Dev nD) (h : Fin 15) (s : Fin 4) (d : Fin 2) : (agM c h s d).view.ref.isScScratch = false := match d with
  | 0 => rfl
  | 1 => rfl

/-- What an add stores: the block of `x` plus the landed block. -/
def pay (v : Vec F S16x1024 .f32) (w : Vec F S1x16x1024 .f32) : FVec F S16x1024 .f32 :=
  addf (shapeCast S16x1024 v shapeCasts_S16x1024_S16x1024) (shapeCast S16x1024 w shapeCasts_S1x16x1024_S16x1024)

/-! ## The operations and their programs -/

inductive Op
  | rsStart (h : Fin 15) (s : Fin 4) (d : Fin 2)
  | rsRecv (h : Fin 15) (s : Fin 4) (d : Fin 2)
  | rsAdd (h : Fin 15) (s : Fin 4) (d : Fin 2)
  | rsSent (h : Fin 15) (s : Fin 4) (d : Fin 2)
  | agStart (h : Fin 15) (s : Fin 4) (d : Fin 2)
  | agRecv (h : Fin 15) (s : Fin 4) (d : Fin 2)
  | agSent (h : Fin 15) (s : Fin 4) (d : Fin 2)
  deriving DecidableEq

abbrev P (F : FTy → Type) (α : Type) := Prog (TpuEff nD τ sig (Elt F) Λ₀ .tc) α

/-- An operation of device `c`, then `k`. -/
def Op.run {α : Type} (c : Dev nD) (k : P F α) : Op → P F α
  | .rsStart h s d => .op (.enqueueDma (rsSrc c h s d) (.remote (Dev.tc (nbr d c)) (rbM h s d) (.dma (rsSendS h s d)) (rb_notSc h s d)) (.dma (rsRecvS h s d))
      (wordExact _) (wordExact _) ⟨⟨rfl, Or.inl rfl⟩, trivial⟩) fun _ => k
  | .rsRecv h s d => .op (.waitDma2 (rsRecvS h s d) (rsSrc c h s d) (rbM h s d) (wordExact _) (wordExact _)) fun _ => k
  | .rsAdd h s d => .op (.load xM (addRect c h s d).toLoadRect (View.loadsAt_vmem h_S16x1024)) fun v =>
      .op (.load (rB d) (rbRect h s).toLoadRect (View.loadsAt_vmem h_S1x16x1024)) fun w =>
      .op (.load oM (addRect c h s d).toLoadRect (View.loadsAt_vmem h_S16x1024)) fun _ =>
      .op (.store oM (addRect c h s d) (pay v w) Finset.univ (View.stores_vmem_bits_univ h_S16x1024 rfl) (.inl rfl)) fun _ => k
  | .rsSent h s d => .op (.waitDma2 (rsSendS h s d) (rbM h s d) (rsSrc c h s d) (wordExact _) (wordExact _)) fun _ => k
  | .agStart h s d => .op (.enqueueDma (agM c h s d) (.remote (Dev.tc (nbr d c)) (agM c h s d) (.dma (agSendS h s d)) (ag_notSc c h s d)) (.dma (agRecvS h s d))
      (wordExact _) (wordExact _) ⟨⟨rfl, Or.inl rfl⟩, trivial⟩) fun _ => k
  | .agRecv h s d => .op (.waitDma2 (agRecvS h s d) (agM c h s d) (agM c h s d) (wordExact _) (wordExact _)) fun _ => k
  | .agSent h s d => .op (.waitDma2 (agSendS h s d) (agM c h s d) (agM c h s d) (wordExact _) (wordExact _)) fun _ => k

/-- The operations of a list in order, then `k`. -/
def runs {α : Type} (c : Dev nD) (k : P F α) : List Op → P F α
  | [] => k
  | o :: l => o.run c (runs c k l)

/-! ## The list -/

/-- The transfers in the order they are issued: by phase, hop, sub-chunk and direction. -/
def startOf (k : ℕ) : Op :=
  if k < 120 then .rsStart (Fin.ofNat 15 (k / 8)) (Fin.ofNat 4 (k % 8 / 2)) (Fin.ofNat 2 (k % 2))
  else .agStart (Fin.ofNat 15 (k / 8 - 15)) (Fin.ofNat 4 (k % 8 / 2)) (Fin.ofNat 2 (k % 2))
def recvOf (k : ℕ) : Op :=
  if k < 120 then .rsRecv (Fin.ofNat 15 (k / 8)) (Fin.ofNat 4 (k % 8 / 2)) (Fin.ofNat 2 (k % 2))
  else .agRecv (Fin.ofNat 15 (k / 8 - 15)) (Fin.ofNat 4 (k % 8 / 2)) (Fin.ofNat 2 (k % 2))
def addOf (k : ℕ) : Op := .rsAdd (Fin.ofNat 15 (k / 8)) (Fin.ofNat 4 (k % 8 / 2)) (Fin.ofNat 2 (k % 2))
def sentOf (k : ℕ) : Op :=
  if k < 120 then .rsSent (Fin.ofNat 15 (k / 8)) (Fin.ofNat 4 (k % 8 / 2)) (Fin.ofNat 2 (k % 2))
  else .agSent (Fin.ofNat 15 (k / 8 - 15)) (Fin.ofNat 4 (k % 8 / 2)) (Fin.ofNat 2 (k % 2))

/-- Eight transfers are under way at a time: the receipt of one starts the one eight later. -/
def midOf (j : ℕ) : List Op :=
  if j < 120 then [recvOf j, addOf j, startOf (j + 8)]
  else if j < 232 then [recvOf j, startOf (j + 8)] else [recvOf j]

def ops : List Op := (List.range 8).map startOf ++ ((List.range 240).flatMap midOf ++ (List.range 240).map sentOf)

end Cert.AllReduce

end
-- ==== Proof.Geo.lean ====
/-
# Positions on the ring, and the rows each transfer touches

A transfer is named by its number `k` below 240 in the order of issue: lane `k % 8` (a sub-chunk and a direction), turn
`k / 8`, the first fifteen turns the reduce-scatter's and the last fifteen the all-gather's. In direction `d` a device
has a position on the ring, the neighbour it sends to being at the next one. Turn `t` of a lane, on the device at
position `P`, sends the rows of slot `P - t`, and receives those of slot `P - 1 - t`.
-/
module

public import proofs.«01_k».proof.Proof.Ops
public import Mathlib.Data.ZMod.Basic

@[expose] public section

noncomputable section

namespace Cert.AllReduce

open Cert.KernelIdeal Cert.KernelIdeal.Gen
open Idealize.ShloMosaic Idealize.SL.Sem
open Idealize.ShloMosaic.TcCoe

variable {F : FTy → Type} [FloatOps F]

/-! ## The ring -/

/-- The device at each place of the ring that direction 0 goes round. -/
def ringTab : Fin 16 → Dev nD := ![0, 1, 2, 3, 7, 6, 5, 4, 12, 13, 14, 15, 11, 10, 9, 8]
def ringPos : Dev nD → ZMod 16 := (![0, 1, 2, 3, 7, 6, 5, 4, 15, 14, 13, 12, 8, 9, 10, 11] : Fin 16 → Fin 16)

/-- A device's position in direction `d`; direction 1 goes round the other way. -/
def pos (d : Fin 2) (c : Dev nD) : ZMod 16 := if d = 0 then ringPos c else - ringPos c
/-- The device at a position. -/
def dev (d : Fin 2) (p : ZMod 16) : Dev nD := ringTab (if d = 0 then p else - p : ZMod 16)

theorem dev_pos (d : Fin 2) (c : Dev nD) : dev d (pos d c) = c := by revert d c; decide +kernel
theorem pos_dev (d : Fin 2) (p : ZMod 16) : pos d (dev d p) = p := by revert d p; decide +kernel
theorem pos_nbr (d : Fin 2) (c : Dev nD) : pos d (nbr d c) = pos d c + 1 := by revert d c; decide +kernel
theorem dev_succ (d : Fin 2) (c : Dev nD) : dev d (pos d c + 1) = nbr d c := by rw [← pos_nbr, dev_pos]

def ringEquiv (d : Fin 2) : Dev nD ≃ ZMod 16 := ⟨pos d, dev d, dev_pos d, pos_dev d⟩

theorem nbr_nbr (d : Fin 2) (c : Dev nD) : nbr d (nbr (1 - d) c) = c := by revert d c; decide +kernel
theorem nbr_nbr' (d : Fin 2) (c : Dev nD) : nbr (1 - d) (nbr d c) = c := by revert d c; decide +kernel
/-- Each device to its neighbour. -/
def nbrEquiv (d : Fin 2) : Dev nD ≃ Dev nD := ⟨nbr d, nbr (1 - d), nbr_nbr' d, nbr_nbr d⟩

theorem dev1_eq (c : Dev nD) : (⟨k0_dev1 c, k0_dev1_lt c⟩ : Dev nD) = nbr 1 c := by revert c; decide +kernel
theorem dev2_eq (c : Dev nD) : (⟨k0_dev2 c, k0_dev2_lt c⟩ : Dev nD) = nbr 0 c := by revert c; decide +kernel

/-! ## The slots: sixteen rows each -/

/-- The first row of a slot. -/
def row (d : Fin 2) (q : ZMod 16) (s : Fin 4) : ℕ := 16 * (64 * d.val + 4 * q.val + s.val)

theorem row_inb (d : Fin 2) (q : ZMod 16) (s : Fin 4) : ∀ a, (![row d q s, 0] : Fin 2 → ℕ) a + S16x1024.size a ≤ S2048x1024.size a := by
  revert d q s; decide +kernel

abbrev slot (d : Fin 2) (q : ZMod 16) (s : Fin 4) : Rect S2048x1024 := Rect.unit (s := S2048x1024) ![row d q s, 0] S16x1024.size (row_inb d q s)
abbrev xS (d : Fin 2) (q : ZMod 16) (s : Fin 4) : Memref sig .tc .vmem S16x1024 .f32 := xM.slice (slot d q s) (fun _ => rfl)
abbrev oS (d : Fin 2) (q : ZMod 16) (s : Fin 4) : Memref sig .tc .vmem S16x1024 .f32 := oM.slice (slot d q s) (fun _ => rfl)

theorem off1_eq : ∀ (c : Dev nD) (h : Fin 15) (s : Fin 4), k0_off1 c (BitVec.ofNat 32 h.val) (BitVec.ofNat 32 (16 * s.val)) = ![row 0 (pos 0 c - (h.val : ZMod 16)) s, 0] := by
  decide +kernel
theorem off2_eq : ∀ (c : Dev nD) (h : Fin 15) (s : Fin 4), k0_off2 c (BitVec.ofNat 32 h.val) (BitVec.ofNat 32 (16 * s.val)) = ![row 1 (pos 1 c - (h.val : ZMod 16)) s, 0] := by
  decide +kernel
theorem off3_eq : ∀ (c : Dev nD) (h : Fin 15) (s : Fin 4), k0_off3 c (BitVec.ofNat 32 h.val) (BitVec.ofNat 32 (16 * s.val)) = ![row 0 (pos 0 c - 1 - (h.val : ZMod 16)) s, 0] := by
  decide +kernel
theorem off4_eq : ∀ (c : Dev nD) (h : Fin 15) (s : Fin 4), k0_off4 c (BitVec.ofNat 32 h.val) (BitVec.ofNat 32 (16 * s.val)) = ![row 1 (pos 1 c - 1 - (h.val : ZMod 16)) s, 0] := by
  decide +kernel
theorem off5_eq : ∀ (c : Dev nD) (h : Fin 15) (s : Fin 4), k0_off5 c (BitVec.ofNat 32 h.val) (BitVec.ofNat 32 (16 * s.val)) = ![row 0 (pos 0 c - ((h.val + 15 : ℕ) : ZMod 16)) s, 0] := by
  decide +kernel
theorem off6_eq : ∀ (c : Dev nD) (h : Fin 15) (s : Fin 4), k0_off6 c (BitVec.ofNat 32 h.val) (BitVec.ofNat 32 (16 * s.val)) = ![row 1 (pos 1 c - ((h.val + 15 : ℕ) : ZMod 16)) s, 0] := by
  decide +kernel

theorem xslice_congr {o o' : Fin 2 → ℕ} (h : o = o') (p : ∀ a, o a + S16x1024.size a ≤ S2048x1024.size a) (p' : ∀ a, o' a + S16x1024.size a ≤ S2048x1024.size a) :
    xM.slice (Rect.unit (s := S2048x1024) o S16x1024.size p) (fun _ => rfl) = xM.slice (Rect.unit (s := S2048x1024) o' S16x1024.size p') (fun _ => rfl) := by
  subst h; rfl
theorem oslice_congr {o o' : Fin 2 → ℕ} (h : o = o') (p : ∀ a, o a + S16x1024.size a ≤ S2048x1024.size a) (p' : ∀ a, o' a + S16x1024.size a ≤ S2048x1024.size a) :
    oM.slice (Rect.unit (s := S2048x1024) o S16x1024.size p) (fun _ => rfl) = oM.slice (Rect.unit (s := S2048x1024) o' S16x1024.size p') (fun _ => rfl) := by
  subst h; rfl

/-- The rows a first-turn transfer reads, of `x`; -/
theorem rsSrc_zero (c : Dev nD) (h : Fin 15) (s : Fin 4) (d : Fin 2) (h0 : h.val = 0) : rsSrc c h s d = xS d (pos d c - (h.val : ZMod 16)) s := by
  obtain rfl : h = 0 := Fin.ext h0
  match d with
  | 0 => exact xslice_congr (off1_eq c 0 s) _ _
  | 1 => exact xslice_congr (off2_eq c 0 s) _ _
/-- a later reduce-scatter transfer, of the result; -/
theorem rsSrc_pos (c : Dev nD) (h : Fin 15) (s : Fin 4) (d : Fin 2) (h0 : h.val ≠ 0) : rsSrc c h s d = oS d (pos d c - (h.val : ZMod 16)) s := by
  obtain ⟨n, hn⟩ := h
  obtain ⟨n, rfl⟩ := Nat.exists_eq_succ_of_ne_zero h0
  match d with
  | 0 => exact oslice_congr (off1_eq c ⟨n + 1, hn⟩ s) _ _
  | 1 => exact oslice_congr (off2_eq c ⟨n + 1, hn⟩ s) _ _
/-- an all-gather transfer, of the result. -/
theorem agM_eq (c : Dev nD) (h : Fin 15) (s : Fin 4) (d : Fin 2) : agM c h s d = oS d (pos d c - ((h.val + 15 : ℕ) : ZMod 16)) s := by
  match d with
  | 0 => exact oslice_congr (off5_eq c h s) _ _
  | 1 => exact oslice_congr (off6_eq c h s) _ _
theorem addOff_eq (c : Dev nD) (h : Fin 15) (s : Fin 4) (d : Fin 2) : addOff c h s d = ![row d (pos d c - 1 - (h.val : ZMod 16)) s, 0] := by
  match d with
  | 0 => exact off3_eq c h s
  | 1 => exact off4_eq c h s
theorem addRect_eq (c : Dev nD) (h : Fin 15) (s : Fin 4) (d : Fin 2) : addRect c h s d = slot d (pos d c - 1 - (h.val : ZMod 16)) s := by
  have := addOff_eq c h s d
  revert this
  unfold addRect
  generalize addOff_inb c h s d = p
  revert p
  generalize addOff c h s d = o
  rintro p rfl; rfl

/-! ## The transfers by number -/

abbrev tk (k : ℕ) : ℕ := k / 8
abbrev sk (k : ℕ) : Fin 4 := Fin.ofNat 4 (k % 8 / 2)
abbrev dk (k : ℕ) : Fin 2 := Fin.ofNat 2 (k % 2)
/-- The hop of transfer `k` within its phase. -/
abbrev hk (k : ℕ) : Fin 15 := if k < 120 then Fin.ofNat 15 (k / 8) else Fin.ofNat 15 (k / 8 - 15)

def sendS (k : ℕ) : DmaSem sig := if k < 120 then rsSendS (hk k) (sk k) (dk k) else agSendS (hk k) (sk k) (dk k)
def recvS (k : ℕ) : DmaSem sig := if k < 120 then rsRecvS (hk k) (sk k) (dk k) else agRecvS (hk k) (sk k) (dk k)

/-- The transfer, and whether at its receiving end, that a semaphore serves. -/
def semDec (n : ℕ) : ℕ × Bool :=
  let m := (n - 2) % 240; let r := m % 120 % 60
  (120 * (m / 120) + 8 * (r / 4) + 2 * (r % 4) + (n - 2) / 240, 60 ≤ m % 120)

theorem semDec_send : ∀ k : Fin 240, semDec (sendS k.val).val = (k.val, false) := by decide +kernel
theorem semDec_recv : ∀ k : Fin 240, semDec (recvS k.val).val = (k.val, true) := by decide +kernel
theorem sem_pos : ∀ k : Fin 240, 2 ≤ (sendS k.val).val ∧ 2 ≤ (recvS k.val).val := by decide +kernel

end Cert.AllReduce

end
-- ==== Proof.Proto.lean ====
/-
# The protocol: what is held where, and what each semaphore hands over

Every slot of the result travels with the permission to write it. A slot `q` of direction `d` is summed along the ring
from the device at position `q`: each device adds its own rows of `x`, keeps the sum in its own result, and sends it
on, giving up its own copy of the slot with the transfer. So the permissions for the slot at the devices already
passed arrive together with the sum, and the all-gather, which goes round once more, writes them in order.
-/
module

public import proofs.«01_k».proof.Proof.Geo
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.Writes

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The library's copy of the rounds, and the kernel's, whose cells have up to two duties. -/
abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Sixteen rows of some vector memory. -/
abbrev Rows : Type := Memref sig .tc .vmem S16x1024 .f32

/-- The rows `M` of device `c` held at the values `v`; -/
def hold (c : Dev nD) (M : Rows) (v : Vec F S16x1024 .f32) : sProp 𝕄 :=
  M.view.loc (c : Thread nD τ) ↦[M.view.set]{fullShare} M.view.write (Elt F) M.view.junk v Finset.univ
/-- at any. -/
def free (c : Dev nD) (M : Rows) : sProp 𝕄 :=
  iprop(∃ f : Buf (Elt F) (M.view.loc (c : Thread nD τ)), M.view.loc (c : Thread nD τ) ↦[M.view.set]{fullShare} f)

theorem hold_free (c : Dev nD) (M : Rows) (v : Vec F S16x1024 .f32) : hold c M v ⊢ (free c M : sProp 𝕄) := by
  unfold hold free; iintro H; iexists _; iexact H

instance hold_storable (c : Dev nD) (M : Rows) (v : Vec F S16x1024 .f32) : BI.Storable (upEmb : UEmb _ 𝕄) (hold c M v) := by unfold hold; infer_instance
instance free_storable (c : Dev nD) (M : Rows) : BI.Storable (upEmb : UEmb _ 𝕄) (free (F := F) c M) := by unfold free; infer_instance

/-! ## Values -/

section Proto

variable (X : Dev nD → (cc0_stg0_0 : Ref sig .tc).ty.Contents (Elt F))

/-- Device `c`'s rows of `x` at a slot. -/
def xv (c : Dev nD) (d : Fin 2) (q : ZMod 16) (s : Fin 4) : Vec F S16x1024 .f32 := (xS d q s).view.read (Elt F) (X c)

/-- The slot summed over `n + 1` devices, from the one at position `q` on. -/
def acc (d : Fin 2) (q : ZMod 16) (s : Fin 4) : ℕ → Vec F S16x1024 .f32
  | 0 => xv X (dev d q) d q s
  | n + 1 => addf (s := S16x1024) (φ := .f32) (xv X (dev d (q + ((n + 1 : ℕ) : ZMod 16))) d q s) (acc d q s n)

/-! ## What is handed over -/

/-- The slot at the devices of places `a` to `b` from its own position. -/
def perms (d : Fin 2) (q : ZMod 16) (s : Fin 4) (a b : ℕ) : sProp 𝕄 :=
  bigSep (Finset.Ico a b) fun i => free (F := F) (dev d (q + (i : ZMod 16))) (oS d q s)

instance perms_storable (d : Fin 2) (q : ZMod 16) (s : Fin 4) (a b : ℕ) : BI.Storable (upEmb : UEmb _ 𝕄) (perms (F := F) d q s a b) := by
  unfold perms; infer_instance

/-- The slot that turn `t` of lane `k % 8` sends, on device `c`. -/
def at_ (c : Dev nD) (k t : ℕ) : ZMod 16 := pos (dk k) c - (t : ZMod 16)

def xRows (c : Dev nD) (k t : ℕ) : sProp 𝕄 := hold c (xS (dk k) (at_ c k t) (sk k)) (xv X c (dk k) (at_ c k t) (sk k))
def oRows (c : Dev nD) (k t : ℕ) (n : ℕ) : sProp 𝕄 := hold c (oS (dk k) (at_ c k t) (sk k)) (acc X (dk k) (at_ c k t) (sk k) n)
def oFree (c : Dev nD) (k t : ℕ) : sProp 𝕄 := free (F := F) c (oS (dk k) (at_ c k t) (sk k))
def rRows (c : Dev nD) (k : ℕ) : Rows := rbM (hk k) (sk k) (dk k)

/-- What comes back to the sender. -/
def sendPay (c : Dev nD) (k : ℕ) : sProp 𝕄 :=
  if tk k = 0 then xRows X c k 0 else if tk k < 15 then iprop(emp) else oRows X c k (tk k) 15
/-- What arrives. -/
def recvPay (c : Dev nD) (k : ℕ) : sProp 𝕄 :=
  if tk k < 15 then iprop(hold c (rRows c k) (acc X (dk k) (at_ c k (tk k + 1)) (sk k) (tk k)) ∗ perms (dk k) (at_ c k (tk k + 1)) (sk k) 0 (tk k + 1))
  else iprop(oRows X c k (tk k + 1) 15 ∗ perms (dk k) (at_ c k (tk k + 1)) (sk k) (tk k + 1 - 15) 15)
/-- What a device must hold to start transfer `k`. -/
def ready (c : Dev nD) (k : ℕ) : sProp 𝕄 :=
  if tk k = 0 then iprop(xRows X c k 0 ∗ oFree c k 0)
  else iprop(oRows X c k (tk k) (min (tk k) 15) ∗ perms (dk k) (at_ c k (tk k)) (sk k) (tk k - 15) (min (tk k) 15))
/-- The landing buffer that transfer `k` fills on device `c`. -/
def land (c : Dev nD) (k : ℕ) : sProp 𝕄 := free (F := F) c (rRows c k)
/-- A neighbour's landing buffers of one direction, and that its semaphores of that direction are in use. -/
def barPay (c : Dev nD) (d : Fin 2) : sProp 𝕄 :=
  iprop((bigSep ((Finset.range 120).filter fun k => dk k = d) fun k => land (F := F) (nbr d c) k)
    ∗ bigSep ((Finset.range 240).filter fun k => dk k = d) fun k => reached ER ((nbr d c : Thread nD τ), .dma (recvS k)) 0)

instance sendPay_storable (c : Dev nD) (k : ℕ) : BI.Storable (upEmb : UEmb _ 𝕄) (sendPay X c k) := by
  unfold sendPay xRows oRows; (repeat' split) <;> infer_instance
instance recvPay_storable (c : Dev nD) (k : ℕ) : BI.Storable (upEmb : UEmb _ 𝕄) (recvPay X c k) := by
  unfold recvPay oRows; (repeat' split) <;> infer_instance
instance barPay_storable (c : Dev nD) (d : Fin 2) : BI.Storable (upEmb : UEmb _ 𝕄) (barPay (F := F) c d) := by
  unfold barPay land; infer_instance

/-! ## The cells and the schedule -/

abbrev barSem : Sem sig := (SemArray.scalar (sig.barrier 0 rfl) : Sems sig S_).sem
abbrev barCell (c : Dev nD) : GSem nD τ sig := ((c : Thread nD τ), .reg barSem)
abbrev sendCell (c : Dev nD) (k : ℕ) : GSem nD τ sig := ((c : Thread nD τ), .dma (sendS k))
abbrev recvCell (c : Dev nD) (k : ℕ) : GSem nD τ sig := ((c : Thread nD τ), .dma (recvS k))

/-- The semaphores of the kernel: the barrier's and the transfers' 480. -/
abbrev osem (i : Fin 480) : SemLoc sig := .dma ⟨i.val + 2, by have := i.isLt; show _ < 482; omega⟩
abbrev csem : Option (Fin 480) → SemLoc sig := fun | none => .reg barSem | some i => osem i
abbrev kcell (ck : Dev nD × Option (Fin 480)) : GSem nD τ sig := ((ck.1 : Thread nD τ), csem ck.2)

/-- The credit of sixteen rows. -/
abbrev N : ℕ := (oS 0 0 0).view.dmaCredit
theorem N_pos : 0 < N := View.dmaCredit_pos _ (by decide)
theorem credit_o (d : Fin 2) (q : ZMod 16) (s : Fin 4) : (oS d q s).view.dmaCredit = N := rfl
theorem credit_x (d : Fin 2) (q : ZMod 16) (s : Fin 4) : (xS d q s).view.dmaCredit = N := rfl
theorem credit_r (h : Fin 15) (s : Fin 4) (d : Fin 2) : (rbM h s d).view.dmaCredit = N := match d with
  | 0 => rfl
  | 1 => rfl

def ringRd : Rounds.Schedule (GSem nD τ sig) (Fin 2) 𝕄 where
  duties g r := if r = 0 ∧ g.1.2 = .tc then (match g.2 with | .reg _ => {0, 1} | .dma q => if 2 ≤ q.val then {0} else ∅) else ∅
  unitless _ := False
  amount g _ _ := match g.2 with | .reg _ => 1 | .dma _ => N
  payload g _ u := match g.2 with
    | .reg _ => barPay g.1.1 u
    | .dma q => if (semDec q.val).2 then recvPay X g.1.1 (semDec q.val).1 else sendPay X g.1.1 (semDec q.val).1
  amount_pos g _ _ _ := by
    rcases g with ⟨c, s | s⟩
    · exact Nat.one_pos
    · exact N_pos

instance ringRd_payload_storable (g : GSem nD τ sig) (r : ℕ) (u : Fin 2) : BI.Storable (upEmb : UEmb _ 𝕄) ((ringRd X).payload g r u) := by
  rcases g with ⟨c, s | s⟩
  · show BI.Storable upEmb (barPay c.1 u); infer_instance
  · show BI.Storable upEmb (if (semDec s.val).2 then recvPay X c.1 (semDec s.val).1 else sendPay X c.1 (semDec s.val).1)
    split <;> infer_instance

theorem duties_bar (c : Dev nD) : (ringRd X).duties (barCell c) 0 = {0, 1} := by dsimp only [ringRd]; exact if_pos ⟨rfl, rfl⟩
theorem duties_send (c : Dev nD) (k : ℕ) (h : k < 240) : (ringRd X).duties (sendCell c k) 0 = {0} := by
  dsimp only [ringRd]; rw [if_pos ⟨rfl, rfl⟩, if_pos (sem_pos ⟨k, h⟩).1]
theorem duties_recv (c : Dev nD) (k : ℕ) (h : k < 240) : (ringRd X).duties (recvCell c k) 0 = {0} := by
  dsimp only [ringRd]; rw [if_pos ⟨rfl, rfl⟩, if_pos (sem_pos ⟨k, h⟩).2]
theorem duties_later (g : GSem nD τ sig) : ∀ r, 1 ≤ r → (ringRd X).duties g r = ∅ :=
  fun r hr => by dsimp only [ringRd]; exact if_neg fun h => by omega
theorem payload_bar (c : Dev nD) (u : Fin 2) : (ringRd X).payload (barCell c) 0 u = barPay c u := rfl
theorem payload_send (c : Dev nD) (k : ℕ) (h : k < 240) (u : Fin 2) : (ringRd X).payload (sendCell c k) 0 u = sendPay X c k := by
  dsimp only [ringRd]; rw [semDec_send ⟨k, h⟩]; rfl
theorem payload_recv (c : Dev nD) (k : ℕ) (h : k < 240) (u : Fin 2) : (ringRd X).payload (recvCell c k) 0 u = recvPay X c k := by
  dsimp only [ringRd]; rw [semDec_recv ⟨k, h⟩]; rfl
theorem expect_bar (c : Dev nD) : (ringRd X).expect (barCell c) 0 = 2 := by
  unfold Schedule.expect Schedule.amountOf; rw [duties_bar]; rfl
theorem expect_send (c : Dev nD) (k : ℕ) (h : k < 240) : (ringRd X).expect (sendCell c k) 0 = N := by
  unfold Schedule.expect Schedule.amountOf; rw [duties_send X c k h, Finset.sum_singleton]; rfl
theorem expect_recv (c : Dev nD) (k : ℕ) (h : k < 240) : (ringRd X).expect (recvCell c k) 0 = N := by
  unfold Schedule.expect Schedule.amountOf; rw [duties_recv X c k h, Finset.sum_singleton]; rfl
theorem rest_bar (c : Dev nD) : bigSep ((ringRd X).duties (barCell c) 0 \ ∅) (fun u => (ringRd X).payload (barCell c) 0 u) = iprop(barPay (F := F) c 0 ∗ barPay c 1) := by
  rw [Finset.sdiff_empty, duties_bar, bigSep_insert (by decide), bigSep_singleton]; rfl
theorem rest_send (c : Dev nD) (k : ℕ) (h : k < 240) : bigSep ((ringRd X).duties (sendCell c k) 0 \ ∅) (fun u => (ringRd X).payload (sendCell c k) 0 u) = sendPay X c k := by
  rw [Finset.sdiff_empty, duties_send X c k h, bigSep_singleton, payload_send X c k h]
theorem rest_recv (c : Dev nD) (k : ℕ) (h : k < 240) : bigSep ((ringRd X).duties (recvCell c k) 0 \ ∅) (fun u => (ringRd X).payload (recvCell c k) 0 u) = recvPay X c k := by
  rw [Finset.sdiff_empty, duties_recv X c k h, bigSep_singleton, payload_recv X c k h]

/-! ## What is owed, and the order of waiting -/

/-- What device `c` owes once it has started the transfers below `n`: the credits of those after. -/
def Ow (c : Dev nD) (n : ℕ) : CellTallies nD τ sig Unit := ∑ k ∈ Finset.Ico n 240, tallyAt (recvCell (nbr (dk k) c) k) () N
/-- At launch, its two barrier signals too, in the order it gives them. -/
def O₁ (c : Dev nD) : CellTallies nD τ sig Unit := Ow c 0 + tallyAt (barCell (nbr 0 c)) () 1
def O₀ (c : Dev nD) : CellTallies nD τ sig Unit := O₁ c + tallyAt (barCell (nbr 1 c)) () 1

theorem Ow_step (c : Dev nD) (n : ℕ) (h : n < 240) : Ow c n = Ow c (n + 1) + tallyAt (recvCell (nbr (dk n) c) n) () N := by
  unfold Ow; rw [← Finset.insert_Ico_add_one_left_eq_Ico h, Finset.sum_insert (by simp), add_comm]
theorem Ow_end (c : Dev nD) (n : ℕ) (h : 240 ≤ n) : Ow c n = 0 := by unfold Ow; rw [Finset.Ico_eq_empty (by omega), Finset.sum_empty]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h
theorem Ow_pos {c : Dev nD} {n : ℕ} {g : GSem nD τ sig} {u : Unit} (h : 0 < Ow c n g u) : ∃ k, n ≤ k ∧ k < 240 ∧ g = recvCell (nbr (dk k) c) k := by
  unfold Ow at h
  rw [Finset.sum_apply, Finsupp.finset_sum_apply] at h
  obtain ⟨k, hk, hp⟩ := Finset.exists_ne_zero_of_sum_ne_zero (Nat.pos_iff_ne_zero.mp h)
  obtain ⟨h1, h2⟩ := Finset.mem_Ico.mp hk
  exact ⟨k, h1, h2, tally_pos (Nat.pos_of_ne_zero hp)⟩
theorem O₀_pos {c : Dev nD} {g : GSem nD τ sig} {u : Unit} (h : 0 < O₀ c g u) :
    (∃ k, k < 240 ∧ g = recvCell (nbr (dk k) c) k) ∨ ∃ d, g = barCell (nbr d c) := by
  unfold O₀ O₁ at h
  rw [Pi.add_apply, Finsupp.add_apply, Pi.add_apply, Finsupp.add_apply] at h
  by_cases h1 : 0 < Ow c 0 g u
  · obtain ⟨k, -, hk, hg⟩ := Ow_pos h1; exact Or.inl ⟨k, hk, hg⟩
  by_cases h2 : 0 < (tallyAt (barCell (nbr 0 c)) () 1 : CellTallies nD τ sig Unit) g u
  · exact Or.inr ⟨0, tally_pos h2⟩
  by_cases h3 : 0 < (tallyAt (barCell (nbr 1 c)) () 1 : CellTallies nD τ sig Unit) g u
  · exact Or.inr ⟨1, tally_pos h3⟩
  exact absurd h (by simp only [Nat.pos_iff_ne_zero, not_not] at h1 h2 h3 ⊢; rw [h1, h2, h3])

def L (g : GSem nD τ sig) : Finset Unit := if g.1.2 = .tc then {()} else ∅
/-- The staging semaphores first, then the barrier, then the transfers in their order. -/
def lv (g : GSem nD τ sig) (_ : Unit) : ℕ := match g.2 with
  | .reg _ => 1
  | .dma q => if 2 ≤ q.val then 2 + (semDec q.val).1 else 0
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : ℕ) (h : k < 240) (u : Unit) : lv (recvCell c k) u = 2 + k := by
  dsimp only [lv]; rw [if_pos (sem_pos ⟨k, h⟩).2, semDec_recv ⟨k, h⟩]

/-- A device may wait for transfer `k` while it owes only later ones. -/
theorem mayWait_recv (c : Dev nD) (k n : ℕ) (hk : k < 240) (hn : k < n) : (levAts L lv : sProp 𝕄) ⊢ MayWait (c : Thread nD τ) (.dma (recvS k)) () (Ow c n) :=
  MayOwe.of_cut (L := L) (lev := lv) (2 + k) (fun p hp => by rw [Finset.mem_singleton.mp hp, L_tc]; exact Finset.mem_singleton_self _)
    (fun g u hg => by obtain ⟨j, -, -, rfl⟩ := Ow_pos hg; exact Finset.mem_singleton_self _)
    (fun p hp => by rw [Finset.mem_singleton.mp hp]; exact (lv_recv c k hk ()).le)
    (fun g u hg => by obtain ⟨j, h1, h2, rfl⟩ := Ow_pos hg; rw [lv_recv _ j h2]; omega)
theorem mayWait_bar (c : Dev nD) : (levAts L lv : sProp 𝕄) ⊢ MayWait (c : Thread nD τ) (.reg barSem) () (Ow c 0) :=
  MayOwe.of_cut (L := L) (lev := lv) 1 (fun p hp => by rw [Finset.mem_singleton.mp hp, L_tc]; exact Finset.mem_singleton_self _)
    (fun g u hg => by obtain ⟨j, -, -, rfl⟩ := Ow_pos hg; exact Finset.mem_singleton_self _)
    (fun p hp => by rw [Finset.mem_singleton.mp hp]; exact le_refl _)
    (fun g u hg => by obtain ⟨j, h1, h2, rfl⟩ := Ow_pos hg; rw [lv_recv _ j h2]; omega)
/-- The staging waits come below everything owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | ⟨d, rfl⟩ <;> exact Finset.mem_singleton_self _)
      (fun p hp => by rw [Finset.mem_singleton.mp hp]; dsimp only [lv]; rw [if_neg (by omega)])
      (fun g u hg => by
        rcases O₀_pos hg with ⟨k, hk, rfl⟩ | ⟨d, rfl⟩
        · rw [lv_recv _ k hk]; omega
        · exact Nat.one_pos)
  · rw [MayWait_zero]; iintro -; iempintro

end Proto

end Cert.AllReduce

end
-- ==== Proof.Steps.lean ====
/-
# One operation at a time

Each operation of the list, proved once for every device and transfer number: starting a transfer, waiting for it at
either end, and adding what landed.
-/
module

public import proofs.«01_k».proof.Proof.Proto
import Mathlib.Tactic.Ring

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev WP (c : Dev nD) (p : P F PUnit) (Q : PUnit → sProp 𝕄) : sProp 𝕄 :=
  wp frame (wpE (defs₀ (F := F)) 𝒱₀ (c : Thread nD τ) none) Set.univ p Q

/-- What a device owes, whatever waits are on record. -/
def Owes (c : Dev nD) (O : CellTallies nD τ sig Unit) : sProp 𝕄 := iprop(∃ W, owes (c : Thread nD τ) O W)

section Steps

variable (X : Dev nD → (cc0_stg0_0 : Ref sig .tc).ty.Contents (Elt F))

/-- A cell's invariant, and that its first round has begun. -/
def known (g : GSem nD τ sig) : sProp 𝕄 := iprop((∃ κ, cellInv ER (ringRd X) κ g) ∗ reached ER g 0)
instance known_persistent (g : GSem nD τ sig) : Persistent (known X g) := by unfold known; infer_instance
/-- The same of the transfers' cells that device `c` raises or waits on: its own, and its neighbours' at the arrivals. -/
def recs (c : Dev nD) : sProp 𝕄 :=
  iprop((bigSep (Finset.range 240) fun k => known X (sendCell c k)) ∗ (bigSep (Finset.range 240) fun k => known X (recvCell c k))
    ∗ bigSep (Finset.range 240) fun k => known X (recvCell (nbr (dk k) c) k))
instance recs_persistent (c : Dev nD) : Persistent (recs X c) := by unfold recs; infer_instance

theorem osem_send (k : ℕ) (h : k < 240) : osem ⟨(sendS k).val - 2, by have := (sendS k).isLt; have : (sendS k).val < 482 := this; omega⟩ = .dma (sendS k) := by
  unfold osem; congr 1; exact Fin.ext (Nat.sub_add_cancel (sem_pos ⟨k, h⟩).1)
theorem osem_recv (k : ℕ) (h : k < 240) : osem ⟨(recvS k).val - 2, by have := (recvS k).isLt; have : (recvS k).val < 482 := this; omega⟩ = .dma (recvS k) := by
  unfold osem; congr 1; exact Fin.ext (Nat.sub_add_cancel (sem_pos ⟨k, h⟩).2)
theorem in_range (n k : ℕ) (h : k < n) (Φ : ℕ → sProp 𝕄) : bigSep (Finset.range n) Φ ⊢ Φ k := bigSep_elim (Finset.mem_range.mpr h)
theorem recs_send (c : Dev nD) (k : ℕ) (h : k < 240) : recs X c ⊢ known X (sendCell c k) := by
  unfold recs; iintro ⟨H, -, -⟩; iapply (in_range 240 k h fun k => known X (sendCell c k)); iexact H
theorem recs_recv (c : Dev nD) (k : ℕ) (h : k < 240) : recs X c ⊢ known X (recvCell c k) := by
  unfold recs; iintro ⟨-, H, -⟩; iapply (in_range 240 k h fun k => known X (recvCell c k)); iexact H
theorem recs_nbr (c : Dev nD) (k : ℕ) (h : k < 240) : recs X c ⊢ known X (recvCell (nbr (dk k) c) k) := by
  unfold recs; iintro ⟨-, -, H⟩; iapply (in_range 240 k h fun k => known X (recvCell (nbr (dk k) c) k)); iexact H

/-- The rights to raise a transfer's two semaphores. -/
def toks (c : Dev nD) (k : ℕ) : sProp 𝕄 := iprop(dutyTok ER (sendCell c k) 0 (0 : Fin 2) ∗ dutyTok ER (recvCell (nbr (dk k) c) k) 0 (0 : Fin 2))

/-- Rows rewritten whole, over whatever they held. -/
theorem rewritten (c c' : Dev nD) (src dst : Rows) (v : Vec F S16x1024 .f32) (fd : Buf (Elt F) (dst.view.loc (c' : Thread nD τ))) :
    (dst.view.loc (c' : Thread nD τ) ↦[dst.view.set]{fullShare} dst.view.write (Elt F) fd (src.view.read (Elt F) (src.view.write (Elt F) src.view.junk v Finset.univ)) Finset.univ)
      ⊢ (hold c' dst v : sProp 𝕄) := by
  rw [View.read_write_univ]; unfold hold
  exact Entails.of_eq (View.pointsTo_write_univ_congr (c' : Thread nD τ) dst.view fullShare fd _ v)

theorem send_keep (c : Dev nD) (k : ℕ) (hk : k < 240) (src dst : Rows) (sS rS : DmaSem sig) (hsS : sS = sendS k) (hrS : rS = recvS k) (v : Vec F S16x1024 .f32) (Fr : sProp 𝕄)
    {hsc : dst.view.ref.isScScratch = false} {hsrc : src.view.WordExact} {hdst : dst.view.WordExact}
    {hsem : DmaTarget.Typed .vmem (.dma rS : SemLoc sig) (.remote (Dev.tc (nbr (dk k) c) : Thread nD τ) dst (.dma sS) hsc)} {K : P F PUnit} {Q : PUnit → sProp 𝕄}
    (hcr : dst.view.dmaCredit = N) (h1 : hold c src v ⊢ sendPay X c k) (h2 : iprop(hold (nbr (dk k) c) dst v ∗ Fr) ⊢ recvPay X (nbr (dk k) c) k) :
    iprop(recs X c ∗ hold c src v ∗ (free (nbr (dk k) c) dst ∗ Fr) ∗ toks c k ∗ Owes c (Ow c k))
      ⊢ iprop(((cred (tallyAt (sendCell c k) () N) ∗ Owes c (Ow c (k + 1))) -∗ WP c K Q)
          -∗ WP c (.op (.enqueueDma src (.remote (Dev.tc (nbr (dk k) c) : Thread nD τ) dst (.dma sS) hsc) (.dma rS) hsrc hdst hsem) fun _ => K) Q) := by
  subst hsS hrS
  unfold free toks Owes
  iintro ⟨#HR, Hs, ⟨⟨%fd, Hd⟩, HF⟩, ⟨Ht1, Ht2⟩, ⟨%W, HO⟩⟩ HK
  ihave #Hk1 := (recs_send X c k hk) $$ HR
  ihave #Hk2 := (recs_nbr X c k hk) $$ HR
  unfold known
  icases Hk1 with ⟨⟨%κ₁, HI1⟩, Hr1⟩
  icases Hk2 with ⟨⟨%κ₂, HI2⟩, Hr2⟩
  unfold hold
  iapply (Rounds.wp_send_pointsTo_with 𝒱₀ ER (ringRd X) (c : Thread nD τ) none (κ₁ := κ₁) (κ₂ := κ₂)
    (r₁ := 0) (r₂ := 0) (d₁ := 0) (d₂ := 0) (fd := fd) (F := Fr)
    (by rw [duties_send X c k hk]; exact Finset.mem_singleton_self _) (by rw [duties_recv X _ k hk]; exact Finset.mem_singleton_self _)
    () () N (by exact hcr) rfl rfl (Ow c (k + 1)) (Ow_step c k hk) (W := W)
    (by rw [payload_send X c k hk]; exact h1)
    (by rw [payload_recv X _ k hk]; exact (sep_mono_left (rewritten c (nbr (dk k) c) src dst v fd)).trans h2)) $$ [Hs Hd HF HO Ht1 Ht2]
  · isplitr; · iexact HI1
    isplitr; · iexact HI2
    isplitl [Hs]; · iexact Hs
    isplitl [Hd HF]; · isplitl [Hd] <;> iassumption
    isplitl [HO]; · iexact HO
    isplitl [Ht1]; · iexact Ht1
    isplitr; · iexact Hr1
    isplitl [Ht2]; · iexact Ht2
    iexact Hr2
  iintro ⟨Hc, HO⟩
  iapply HK
  isplitl [Hc]; · iexact Hc
  iexists W; iexact HO

theorem send_give (c : Dev nD) (k : ℕ) (hk : k < 240) (src dst : Rows) (sS rS : DmaSem sig) (hsS : sS = sendS k) (hrS : rS = recvS k) (v : Vec F S16x1024 .f32) (Fr : sProp 𝕄)
    {hsc : dst.view.ref.isScScratch = false} {hsrc : src.view.WordExact} {hdst : dst.view.WordExact}
    {hsem : DmaTarget.Typed .vmem (.dma rS : SemLoc sig) (.remote (Dev.tc (nbr (dk k) c) : Thread nD τ) dst (.dma sS) hsc)} {K : P F PUnit} {Q : PUnit → sProp 𝕄}
    (hcr : dst.view.dmaCredit = N) (h1 : (emp : sProp 𝕄) ⊢ sendPay X c k) (h2 : iprop((hold (nbr (dk k) c) dst v ∗ Fr) ∗ hold c src v) ⊢ recvPay X (nbr (dk k) c) k) :
    iprop(recs X c ∗ hold c src v ∗ (free (nbr (dk k) c) dst ∗ Fr) ∗ toks c k ∗ Owes c (Ow c k))
      ⊢ iprop(((cred (tallyAt (sendCell c k) () N) ∗ Owes c (Ow c (k + 1))) -∗ WP c K Q)
          -∗ WP c (.op (.enqueueDma src (.remote (Dev.tc (nbr (dk k) c) : Thread nD τ) dst (.dma sS) hsc) (.dma rS) hsrc hdst hsem) fun _ => K) Q) := by
  subst hsS hrS
  unfold free toks Owes
  iintro ⟨#HR, Hs, ⟨⟨%fd, Hd⟩, HF⟩, ⟨Ht1, Ht2⟩, ⟨%W, HO⟩⟩ HK
  ihave #Hk1 := (recs_send X c k hk) $$ HR
  ihave #Hk2 := (recs_nbr X c k hk) $$ HR
  unfold known
  icases Hk1 with ⟨⟨%κ₁, HI1⟩, Hr1⟩
  icases Hk2 with ⟨⟨%κ₂, HI2⟩, Hr2⟩
  unfold hold
  iapply (Rounds.wp_send_landing_pointsTo_with 𝒱₀ ER (ringRd X) (c : Thread nD τ) none (κ₁ := κ₁) (κ₂ := κ₂)
    (r₁ := 0) (r₂ := 0) (d₁ := 0) (d₂ := 0) (fd := fd) (F := Fr)
    (by rw [duties_send X c k hk]; exact Finset.mem_singleton_self _) (by rw [duties_recv X _ k hk]; exact Finset.mem_singleton_self _)
    () () N (by exact hcr) rfl rfl (Ow c (k + 1)) (Ow_step c k hk) (W := W)
    (by rw [payload_send X c k hk]; exact h1)
    (by rw [payload_recv X _ k hk]; exact (sep_mono_left (sep_mono_left (rewritten c (nbr (dk k) c) src dst v fd))).trans h2)) $$ [Hs Hd HF HO Ht1 Ht2]
  · isplitr; · iexact HI1
    isplitr; · iexact HI2
    isplitl [Hs]; · iexact Hs
    isplitl [Hd HF]; · isplitl [Hd] <;> iassumption
    isplitl [HO]; · iexact HO
    isplitl [Ht1]; · iexact Ht1
    isplitr; · iexact Hr1
    isplitl [Ht2]; · iexact Ht2
    iexact Hr2
  iintro ⟨Hc, HO⟩
  iapply HK
  isplitl [Hc]; · iexact Hc
  iexists W; iexact HO

/-- A wait, after which the cell is done with. -/
theorem wait_cell (c : Dev nD) (q : DmaSem sig) (Pay : sProp 𝕄) (hexp : (ringRd X).expect ((c : Thread nD τ), .dma q) 0 = N)
    (hrest : bigSep ((ringRd X).duties ((c : Thread nD τ), .dma q) 0 \ ∅) (fun u => (ringRd X).payload ((c : Thread nD τ), .dma q) 0 u) = Pay)
    (O : CellTallies nD τ sig Unit) (src dst : Rows) (hcr : dst.view.dmaCredit = N) {h1 : src.view.WordExact} {h2 : dst.view.WordExact} {K : P F PUnit} {Q : PUnit → sProp 𝕄} :
    iprop(known X ((c : Thread nD τ), .dma q) ∗ cred (tallyAt ((c : Thread nD τ), .dma q) () N) ∗ Owes c O ∗ MayWait (c : Thread nD τ) (.dma q) () O ∗ atPos ER ((c : Thread nD τ), .dma q) 0 ∅ 0)
      ⊢ iprop(((Owes c O ∗ semVal ((c : Thread nD τ), .dma q) 0 ∗ Pay) -∗ WP c K Q) -∗ WP c (.op (.waitDma2 q src dst h1 h2) fun _ => K) Q) := by
  unfold known Owes
  iintro ⟨#Hk, Hc, ⟨%W, HO⟩, Hm, Ha⟩ HK
  icases Hk with ⟨⟨%κ, HI⟩, -⟩
  rw [← hcr] at hexp
  iapply (Rounds.wp_wait_rest_token 𝒱₀ ER (ringRd X) (c : Thread nD τ) none (κ := κ)
      (wpE_waitDma2_eq 𝒱₀ (c : Thread nD τ) none Set.univ) (Set.mem_univ _) () (O := O) (W := W) (R := 0) (m := 0) (T := ∅)
      (by rw [Nat.zero_add, hexp])) $$ [Hc HO Hm Ha]
  · isplitr; · iexact HI
    isplitl [Hc]; · rw [hcr]; iexact Hc
    isplitl [HO]; · iexact HO
    isplitl [Hm]; · iexact Hm
    iexact Ha
  iintro ⟨HO, Ha, -, Hp⟩
  ihave Hp := (Entails.of_eq hrest) $$ Hp
  imod (Rounds.cell_close ER (ringRd X) (Set.mem_univ κ) (fun h => h) (R := 0 + 1) (duties_later X _)) $$ [Ha] with Hz
  · isplitr; · iexact HI
    iexact Ha
  iapply HK
  isplitl [HO]; · iexists _; iexact HO
  isplitl [Hz] <;> iassumption

/-! ## Adding -/

abbrev rG (m : Memref sig .tc .vmem S15x64x1024 .f32) (h : Fin 15) (s : Fin 4) : Rows := (m.slice (rbRect h s) (fun _ => rfl)).squeeze S16x1024 squeezes_S1x16x1024_S16x1024
theorem rbM_eq (h : Fin 15) (s : Fin 4) (d : Fin 2) : rbM h s d = rG (rB d) h s := match d with
  | 0 => rfl
  | 1 => rfl

theorem add_gen (c : Dev nD) (m : Memref sig .tc .vmem S15x64x1024 .f32) (h : Fin 15) (s' : Fin 4) (d : Fin 2) (q : ZMod 16) (s : Fin 4)
    (o : Fin 2 → ℕ) (ho : o = ![row d q s, 0]) (p : ∀ a, o a + S16x1024.size a ≤ S2048x1024.size a) (v w : Vec F S16x1024 .f32)
    {hl1 : xM.view.LoadsAt (Rect.unit (s := S2048x1024) o S16x1024.size p).toLoadRect} {hl2 : m.view.LoadsAt (rbRect h s').toLoadRect}
    {hl3 : oM.view.LoadsAt (Rect.unit (s := S2048x1024) o S16x1024.size p).toLoadRect}
    {hx : (oM.access (Rect.unit (s := S2048x1024) o S16x1024.size p)).Stores Finset.univ} {hm : (Finset.univ : Finset (Rect.unit (s := S2048x1024) o S16x1024.size p).shape.Idx) = Finset.univ ∨ ∀ a, (Rect.unit (s := S2048x1024) o S16x1024.size p).stride a = 1}
    {K : P F PUnit} {Q : PUnit → sProp 𝕄} :
    iprop(hold c (xS d q s) v ∗ hold c (rG m h s') w ∗ free c (oS d q s))
      ⊢ iprop(((hold c (xS d q s) v ∗ hold c (rG m h s') w ∗ hold c (oS d q s) (addf (s := S16x1024) (φ := .f32) v w)) -∗ WP c K Q)
        -∗ WP c (.op (.load xM (Rect.unit (s := S2048x1024) o S16x1024.size p).toLoadRect hl1) fun v =>
            .op (.load m (rbRect h s').toLoadRect hl2) fun w =>
            .op (.load oM (Rect.unit (s := S2048x1024) o S16x1024.size p).toLoadRect hl3) fun _ =>
            .op (.store oM (Rect.unit (s := S2048x1024) o S16x1024.size p) (pay v w) Finset.univ hx hm) fun _ => K) Q) := by
  subst ho
  unfold hold free
  iintro ⟨Hx, Hr, ⟨%f, Ho⟩⟩ HK
  iapply (wp_load_rect 𝒱₀ (c : Thread nD τ) none Set.univ (m := xM) (r := slot d q s) (Finset.Subset.refl _)) $$ Hx; iintro Hx
  have hrs : (m.access (rbRect h s')).set ⊆ (rG m h s').view.set := by
    rw [show (rG m h s').view.set = (m.access (rbRect h s')).set from View.set_reshape _ _]
  iapply (wp_load_rect 𝒱₀ (c : Thread nD τ) none Set.univ (m := m) (r := rbRect h s') hrs) $$ Hr; iintro Hr
  iapply (wp_load_rect 𝒱₀ (c : Thread nD τ) none Set.univ (m := oM) (r := slot d q s) (Finset.Subset.refl _)) $$ Ho; iintro Ho
  iapply (wp_store 𝒱₀ (c : Thread nD τ) none Set.univ (m := oM) (r := slot d q s) (Mk := Finset.univ) (by rw [View.setOn_univ])) $$ Ho; iintro Ho
  iapply HK
  isplitl [Hx]; · iexact Hx
  isplitl [Hr]; · iexact Hr
  have hv : (xM.access (slot d q s)).read (Elt F) ((xS d q s).view.write (Elt F) (xS d q s).view.junk v Finset.univ) = v := View.read_write_univ (v := (xS d q s).view) _ v
  have hw : shapeCast S16x1024 ((m.access (rbRect h s')).read (Elt F) ((rG m h s').view.write (Elt F) (rG m h s').view.junk w Finset.univ)) shapeCasts_S1x16x1024_S16x1024 = w := by
    rw [show (rG m h s').view.write (Elt F) (rG m h s').view.junk w Finset.univ
        = (m.access (rbRect h s')).write (Elt F) (rG m h s').view.junk (fun x => w ((Shape.reshapeEquiv _).symm x)) Finset.univ from View.write_reshape_univ _ _ _ _,
      View.read_write_univ]
    funext i
    exact congrArg w (Equiv.symm_apply_apply _ i)
  have hp : pay ((xM.access (slot d q s)).read (Elt F) ((xS d q s).view.write (Elt F) (xS d q s).view.junk v Finset.univ))
      ((m.access (rbRect h s')).read (Elt F) ((rG m h s').view.write (Elt F) (rG m h s').view.junk w Finset.univ)) = addf (s := S16x1024) (φ := .f32) v w := by
    unfold pay; rw [hw, hv, Idealize.ShloMosaic.shapeCast_self]
  rw [hp]
  ihave Ho := (Entails.of_eq (View.pointsTo_write_univ_congr (c : Thread nD τ) (oS d q s).view fullShare f (oS d q s).view.junk (addf (s := S16x1024) (φ := .f32) v w))) $$ Ho
  iexact Ho

/-! ## The operations of the list -/

theorem at_nbr (c : Dev nD) (k t : ℕ) : at_ (nbr (dk k) c) k (t + 1) = at_ c k t := by
  unfold at_; rw [pos_nbr]; push_cast; ring
theorem dev_at (c : Dev nD) (k t : ℕ) : dev (dk k) (at_ c k t + (t : ZMod 16)) = c := by
  unfold at_; rw [sub_add_cancel, dev_pos]
theorem dev_at_nbr (c : Dev nD) (k t : ℕ) (ht : 15 ≤ t) : dev (dk k) (at_ c k t + ((t - 15 : ℕ) : ZMod 16)) = nbr (dk k) c := by
  unfold at_
  rw [← dev_succ]; congr 1
  have h : ((t - 15 : ℕ) : ZMod 16) = (t : ZMod 16) - 15 := by push_cast [Nat.cast_sub ht]; rfl
  rw [h, show (15 : ZMod 16) = -1 from by decide]; ring

theorem bigSep_ins {I : Type} [DecidableEq I] {A : Finset I} {i : I} (hi : i ∉ A) (Φ : I → sProp 𝕄) : bigSep (insert i A) Φ = iprop(Φ i ∗ bigSep A Φ) := BI.bigSep_insert hi

theorem perms_one (d : Fin 2) (q : ZMod 16) (s : Fin 4) : free (F := F) (dev d (q + ((0 : ℕ) : ZMod 16))) (oS d q s) ⊢ (perms d q s 0 1 : sProp 𝕄) := by
  unfold perms; rw [show Finset.Ico 0 1 = {0} from rfl, bigSep_singleton]
theorem perms_grow (d : Fin 2) (q : ZMod 16) (s : Fin 4) (t : ℕ) :
    iprop(perms d q s 0 t ∗ free (F := F) (dev d (q + (t : ZMod 16))) (oS d q s)) ⊢ (perms d q s 0 (t + 1) : sProp 𝕄) := by
  unfold perms; rw [← Finset.insert_Ico_right_eq_Ico_add_one (Nat.zero_le t), bigSep_ins Finset.right_notMem_Ico]
  iintro ⟨H1, H2⟩; isplitl [H2] <;> iassumption
theorem perms_take (d : Fin 2) (q : ZMod 16) (s : Fin 4) (a : ℕ) (h : a < 15) :
    (perms d q s a 15 : sProp 𝕄) ⊢ iprop(free (F := F) (dev d (q + (a : ZMod 16))) (oS d q s) ∗ perms d q s (a + 1) 15) := by
  unfold perms; rw [← Finset.insert_Ico_add_one_left_eq_Ico h, bigSep_ins (by simp)]

theorem tk_lt (k : ℕ) : tk k < 15 ↔ k < 120 := by unfold tk; omega
theorem hk_rs (k : ℕ) (h : k < 120) : hk k = Fin.ofNat 15 (k / 8) ∧ (hk k).val = tk k := by
  unfold hk; rw [if_pos h]; exact ⟨rfl, Nat.mod_eq_of_lt (by omega)⟩
theorem hk_ag (k : ℕ) (h : ¬ k < 120) (h' : k < 240) : hk k = Fin.ofNat 15 (k / 8 - 15) ∧ (hk k).val + 15 = tk k := by
  have : (Fin.ofNat 15 (k / 8 - 15)).val = k / 8 - 15 := Nat.mod_eq_of_lt (by omega)
  unfold hk; rw [if_neg h]; exact ⟨rfl, by rw [this]; unfold tk; omega⟩
theorem sendS_rs (k : ℕ) (h : k < 120) : rsSendS (hk k) (sk k) (dk k) = sendS k := (if_pos h).symm
theorem recvS_rs (k : ℕ) (h : k < 120) : rsRecvS (hk k) (sk k) (dk k) = recvS k := (if_pos h).symm
theorem sendS_ag (k : ℕ) (h : ¬ k < 120) : agSendS (hk k) (sk k) (dk k) = sendS k := (if_neg h).symm
theorem recvS_ag (k : ℕ) (h : ¬ k < 120) : agRecvS (hk k) (sk k) (dk k) = recvS k := (if_neg h).symm
theorem startOf_rs (k : ℕ) (h : k < 120) : startOf k = .rsStart (hk k) (sk k) (dk k) := by rw [(hk_rs k h).1]; exact if_pos h
theorem startOf_ag (k : ℕ) (h : ¬ k < 120) (h' : k < 240) : startOf k = .agStart (hk k) (sk k) (dk k) := by rw [(hk_ag k h h').1]; exact if_neg h
theorem recvOf_rs (k : ℕ) (h : k < 120) : recvOf k = .rsRecv (hk k) (sk k) (dk k) := by rw [(hk_rs k h).1]; exact if_pos h
theorem recvOf_ag (k : ℕ) (h : ¬ k < 120) (h' : k < 240) : recvOf k = .agRecv (hk k) (sk k) (dk k) := by rw [(hk_ag k h h').1]; exact if_neg h
theorem sentOf_rs (k : ℕ) (h : k < 120) : sentOf k = .rsSent (hk k) (sk k) (dk k) := by rw [(hk_rs k h).1]; exact if_pos h
theorem sentOf_ag (k : ℕ) (h : ¬ k < 120) (h' : k < 240) : sentOf k = .agSent (hk k) (sk k) (dk k) := by rw [(hk_ag k h h').1]; exact if_neg h
theorem addOf_rs (k : ℕ) (h : k < 120) : addOf k = .rsAdd (hk k) (sk k) (dk k) := by rw [(hk_rs k h).1]; rfl

theorem src_zero (c : Dev nD) (k : ℕ) (h : k < 120) (h0 : tk k = 0) : rsSrc c (hk k) (sk k) (dk k) = xS (dk k) (at_ c k 0) (sk k) := by
  rw [rsSrc_zero _ _ _ _ ((hk_rs k h).2.trans h0), (hk_rs k h).2, h0]; rfl
theorem src_pos (c : Dev nD) (k : ℕ) (h : k < 120) (h0 : tk k ≠ 0) : rsSrc c (hk k) (sk k) (dk k) = oS (dk k) (at_ c k (tk k)) (sk k) := by
  rw [rsSrc_pos _ _ _ _ (by rw [(hk_rs k h).2]; exact h0), (hk_rs k h).2]; rfl
theorem ag_at (c : Dev nD) (k : ℕ) (h : ¬ k < 120) (h' : k < 240) : agM c (hk k) (sk k) (dk k) = oS (dk k) (at_ c k (tk k)) (sk k) := by
  rw [agM_eq, (hk_ag k h h').2]; rfl
theorem credit_src (c : Dev nD) (k : ℕ) (h : k < 120) : (rsSrc c (hk k) (sk k) (dk k)).view.dmaCredit = N := by
  by_cases h0 : tk k = 0
  · rw [src_zero c k h h0]
  · rw [src_pos c k h h0]
theorem credit_ag (c : Dev nD) (k : ℕ) (h : ¬ k < 120) (h' : k < 240) : (agM c (hk k) (sk k) (dk k)).view.dmaCredit = N := by
  rw [ag_at c k h h']

/-- What a start spends beside the rows it sends. -/
def before (c : Dev nD) (k : ℕ) : sProp 𝕄 := iprop(toks c k ∗ if tk k < 15 then land (F := F) (nbr (dk k) c) k else emp)

/-- Starting a transfer. -/
theorem start_step (c : Dev nD) (k : ℕ) (hk' : k < 240) (K : P F PUnit) (Q : PUnit → sProp 𝕄) :
    iprop(recs X c ∗ ready X c k ∗ before c k ∗ Owes c (Ow c k))
      ⊢ iprop(((cred (tallyAt (sendCell c k) () N) ∗ Owes c (Ow c (k + 1))) -∗ WP c K Q) -∗ WP c ((startOf k).run c K) Q) := by
  by_cases h : k < 120
  · have ht : tk k < 15 := (tk_lt k).mpr h
    rw [startOf_rs k h]
    show _ ⊢ iprop(_ -∗ WP c (.op (.enqueueDma (rsSrc c (hk k) (sk k) (dk k)) (.remote (Dev.tc (nbr (dk k) c)) (rbM (hk k) (sk k) (dk k)) (.dma (rsSendS (hk k) (sk k) (dk k))) _) (.dma (rsRecvS (hk k) (sk k) (dk k))) _ _ _) fun _ => K) Q)
    unfold ready before land rRows
    rw [if_pos ht]
    by_cases h0 : tk k = 0
    · rw [if_pos h0]
      have hsrc := src_zero c k h h0
      refine BIBase.Entails.trans ?_ (send_keep X c k hk' (rsSrc c (hk k) (sk k) (dk k)) (rbM (hk k) (sk k) (dk k)) _ _ (sendS_rs k h) (recvS_rs k h) (xv X c (dk k) (at_ c k 0) (sk k)) (oFree c k 0) (credit_r _ _ _) ?_ ?_)
      · rw [hsrc]; unfold xRows
        iintro ⟨HR, ⟨Hx, Ho⟩, ⟨Ht, Hl⟩, HO⟩
        isplitl [HR]; · iexact HR
        isplitl [Hx]; · iexact Hx
        isplitl [Hl Ho]; · isplitl [Hl] <;> iassumption
        isplitl [Ht] <;> iassumption
      · rw [hsrc]; unfold sendPay; rw [if_pos h0]; exact BI.Entails.refl _
      · unfold recvPay; rw [if_pos ht, h0, at_nbr]
        have hd : dev (dk k) (at_ c k 0 + ((0 : ℕ) : ZMod 16)) = c := dev_at c k 0
        have hd' : dev (dk k) (at_ c k 0) = c := by rw [Nat.cast_zero, add_zero] at hd; exact hd
        refine BI.sep_mono ?_ ?_
        · unfold acc rRows; rw [hd']; exact BI.Entails.refl _
        · refine BIBase.Entails.trans ?_ (perms_one _ _ _)
          rw [hd]; exact BI.Entails.refl _
    · rw [if_neg h0, min_eq_left ht.le, Nat.sub_eq_zero_of_le ht.le]
      have hsrc := src_pos c k h h0
      refine BIBase.Entails.trans ?_ (send_give X c k hk' (rsSrc c (hk k) (sk k) (dk k)) (rbM (hk k) (sk k) (dk k)) _ _ (sendS_rs k h) (recvS_rs k h) (acc X (dk k) (at_ c k (tk k)) (sk k) (tk k)) (perms (dk k) (at_ c k (tk k)) (sk k) 0 (tk k)) (credit_r _ _ _) ?_ ?_)
      · rw [hsrc]; unfold oRows
        iintro ⟨HR, ⟨Hx, Ho⟩, ⟨Ht, Hl⟩, HO⟩
        isplitl [HR]; · iexact HR
        isplitl [Hx]; · iexact Hx
        isplitl [Hl Ho]; · isplitl [Hl] <;> iassumption
        isplitl [Ht] <;> iassumption
      · unfold sendPay; rw [if_neg h0, if_pos ht]
      · rw [hsrc]; unfold recvPay; rw [if_pos ht, at_nbr]
        iintro ⟨⟨Hr, Hp⟩, Ho⟩
        isplitl [Hr]; · iexact Hr
        iapply (perms_grow (dk k) (at_ c k (tk k)) (sk k) (tk k))
        isplitl [Hp]; · iexact Hp
        rw [dev_at]
        iapply (hold_free c (oS (dk k) (at_ c k (tk k)) (sk k)) (acc X (dk k) (at_ c k (tk k)) (sk k) (tk k))); iexact Ho
  · have ht : ¬ tk k < 15 := fun hh => h ((tk_lt k).mp hh)
    have ht' : tk k - 15 < 15 := by unfold tk; omega
    rw [startOf_ag k h hk']
    show _ ⊢ iprop(_ -∗ WP c (.op (.enqueueDma (agM c (hk k) (sk k) (dk k)) (.remote (Dev.tc (nbr (dk k) c)) (agM c (hk k) (sk k) (dk k)) (.dma (agSendS (hk k) (sk k) (dk k))) _) (.dma (agRecvS (hk k) (sk k) (dk k))) _ _ _) fun _ => K) Q)
    unfold ready before
    rw [if_neg ht, if_neg (by omega : ¬ tk k = 0), min_eq_right (by omega : 15 ≤ tk k)]
    have hsrc := ag_at c k h hk'
    have hd := dev_at_nbr c k (tk k) (by omega)
    refine BIBase.Entails.trans ?_ (send_keep X c k hk' (agM c (hk k) (sk k) (dk k)) (agM c (hk k) (sk k) (dk k)) _ _ (sendS_ag k h) (recvS_ag k h) (acc X (dk k) (at_ c k (tk k)) (sk k) 15)
      (perms (dk k) (at_ c k (tk k)) (sk k) (tk k - 15 + 1) 15) (credit_ag c k h hk') ?_ ?_)
    · rw [hsrc]; unfold oRows
      iintro ⟨HR, ⟨Hx, Ho⟩, ⟨Ht, -⟩, HO⟩
      ihave Ho := (perms_take (F := F) (dk k) (at_ c k (tk k)) (sk k) (tk k - 15) ht') $$ Ho
      rw [hd]
      isplitl [HR]; · iexact HR
      isplitl [Hx]; · iexact Hx
      isplitl [Ho]; · iexact Ho
      isplitl [Ht] <;> iassumption
    · rw [hsrc]; unfold sendPay oRows; rw [if_neg (by omega : ¬ tk k = 0), if_neg ht]
    · rw [hsrc]; unfold recvPay oRows; rw [if_neg ht, at_nbr, show tk k + 1 - 15 = tk k - 15 + 1 by omega]

/-- What a wait at the receiving end spends. -/
def awaits (c : Dev nD) (k : ℕ) : sProp 𝕄 := iprop(atPos ER (recvCell c k) 0 ∅ 0 ∗ cred (tallyAt (recvCell c k) () N))

/-- Waiting for a transfer at its receiving end, while owing only later ones. -/
theorem recv_step (c : Dev nD) (k n : ℕ) (hk' : k < 240) (hn : k < n) (K : P F PUnit) (Q : PUnit → sProp 𝕄) :
    iprop(recs X c ∗ levAts L lv ∗ awaits c k ∗ Owes c (Ow c n))
      ⊢ iprop(((Owes c (Ow c n) ∗ semVal (recvCell c k) 0 ∗ recvPay X c k) -∗ WP c K Q) -∗ WP c ((recvOf k).run c K) Q) := by
  have key (src dst : Rows) (q : DmaSem sig) (hq : q = recvS k) (hcr : dst.view.dmaCredit = N) (h1 : src.view.WordExact) (h2 : dst.view.WordExact) :
      iprop(recs X c ∗ levAts L lv ∗ awaits c k ∗ Owes c (Ow c n))
      ⊢ iprop(((Owes c (Ow c n) ∗ semVal (recvCell c k) 0 ∗ recvPay X c k) -∗ WP c K Q) -∗ WP c (.op (.waitDma2 q src dst h1 h2) fun _ => K) Q) := by
    subst hq
    refine BIBase.Entails.trans ?_ (wait_cell X c (recvS k) (recvPay X c k) (expect_recv X c k hk') (rest_recv X c k hk') (Ow c n) src dst hcr)
    unfold awaits
    iintro ⟨HR, Hl, ⟨Ha, Hc⟩, HO⟩
    isplitl [HR]; · iapply (recs_recv X c k hk'); iexact HR
    isplitl [Hc]; · iexact Hc
    isplitl [HO]; · iexact HO
    isplitl [Hl]; · iapply (mayWait_recv c k n hk' hn); iexact Hl
    iexact Ha
  by_cases h : k < 120
  · rw [recvOf_rs k h]; exact key _ _ _ (recvS_rs k h) (credit_r _ _ _) _ _
  · rw [recvOf_ag k h hk']; exact key _ _ _ (recvS_ag k h) (credit_ag c k h hk') _ _

/-- Waiting for a transfer at its source, when nothing is owed. -/
theorem sent_step (c : Dev nD) (k : ℕ) (hk' : k < 240) (K : P F PUnit) (Q : PUnit → sProp 𝕄) :
    iprop(recs X c ∗ (cred (tallyAt (sendCell c k) () N) ∗ atPos ER (sendCell c k) 0 ∅ 0) ∗ Owes c 0)
      ⊢ iprop(((Owes c 0 ∗ semVal (sendCell c k) 0 ∗ sendPay X c k) -∗ WP c K Q) -∗ WP c ((sentOf k).run c K) Q) := by
  have key (src dst : Rows) (q : DmaSem sig) (hq : q = sendS k) (hcr : dst.view.dmaCredit = N) (h1 : src.view.WordExact) (h2 : dst.view.WordExact) :
      iprop(recs X c ∗ (cred (tallyAt (sendCell c k) () N) ∗ atPos ER (sendCell c k) 0 ∅ 0) ∗ Owes c 0)
      ⊢ iprop(((Owes c 0 ∗ semVal (sendCell c k) 0 ∗ sendPay X c k) -∗ WP c K Q) -∗ WP c (.op (.waitDma2 q src dst h1 h2) fun _ => K) Q) := by
    subst hq
    refine BIBase.Entails.trans ?_ (wait_cell X c (sendS k) (sendPay X c k) (expect_send X c k hk') (rest_send X c k hk') 0 src dst hcr)
    iintro ⟨HR, ⟨Hc, Ha⟩, HO⟩
    isplitl [HR]; · iapply (recs_send X c k hk'); iexact HR
    isplitl [Hc]; · iexact Hc
    isplitl [HO]; · iexact HO
    isplitr; · rw [MayWait_zero]; iempintro
    iexact Ha
  by_cases h : k < 120
  · rw [sentOf_rs k h]; exact key _ _ _ (sendS_rs k h) (credit_src c k h) _ _
  · rw [sentOf_ag k h hk']; exact key _ _ _ (sendS_ag k h) (credit_ag c k h hk') _ _

end Steps

end Cert.AllReduce

end
-- ==== Proof.Add.lean ====
/-
# The add

What landed is added to the device's own rows, for every device and transfer number at once.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps

variable (X : Dev nD → (cc0_stg0_0 : Ref sig .tc).ty.Contents (Elt F))

theorem acc_succ (d : Fin 2) (q : ZMod 16) (s : Fin 4) (n : ℕ) :
    acc X d q s (n + 1) = addf (s := S16x1024) (φ := .f32) (xv X (dev d (q + ((n + 1 : ℕ) : ZMod 16))) d q s) (acc X d q s n) := rfl

theorem addOp_run (c : Dev nD) (h : Fin 15) (s : Fin 4) (d : Fin 2) (K : P F PUnit) : (Op.rsAdd h s d).run c K
    = .op (.load xM (Rect.unit (s := S2048x1024) (addOff c h s d) S16x1024.size (addOff_inb c h s d)).toLoadRect (View.loadsAt_vmem h_S16x1024)) fun v =>
      .op (.load (rB d) (rbRect h s).toLoadRect (View.loadsAt_vmem h_S1x16x1024)) fun w =>
      .op (.load oM (Rect.unit (s := S2048x1024) (addOff c h s d) S16x1024.size (addOff_inb c h s d)).toLoadRect (View.loadsAt_vmem h_S16x1024)) fun _ =>
      .op (.store oM (Rect.unit (s := S2048x1024) (addOff c h s d) S16x1024.size (addOff_inb c h s d)) (pay v w) Finset.univ (View.stores_vmem_bits_univ h_S16x1024 rfl) (.inl rfl)) fun _ => K := rfl

/-- Adding what landed: the slot is ready to go on, one device further. -/
theorem add_step (c : Dev nD) (k : ℕ) (h : k < 120) (K : P F PUnit) (Q : PUnit → sProp 𝕄) :
    iprop(recvPay X c k ∗ xRows X c k (tk k + 1) ∗ oFree c k (tk k + 1))
      ⊢ iprop(((ready X c (k + 8) ∗ xRows X c k (tk k + 1) ∗ land c k) -∗ WP c K Q) -∗ WP c ((addOf k).run c K) Q) := by
  have ht : tk k < 15 := (tk_lt k).mpr h
  have e1 : tk (k + 8) = tk k + 1 := by unfold tk; omega
  have e2 : dk (k + 8) = dk k := by unfold dk; rw [show (k + 8) % 2 = k % 2 by omega]
  have e3 : sk (k + 8) = sk k := by unfold sk; rw [show (k + 8) % 8 = k % 8 by omega]
  have e4 (t : ℕ) : at_ c (k + 8) t = at_ c k t := by unfold at_; rw [e2]
  have hd : dev (dk k) (at_ c k (tk k + 1) + ((tk k + 1 : ℕ) : ZMod 16)) = c := dev_at c k (tk k + 1)
  have ho : addOff c (hk k) (sk k) (dk k) = ![row (dk k) (at_ c k (tk k + 1)) (sk k), 0] := by
    rw [addOff_eq, (hk_rs k h).2]; unfold at_; push_cast; rw [sub_sub, add_comm 1]
  rw [addOf_rs k h]
  rw [addOp_run]
  unfold recvPay; rw [if_pos ht]
  unfold xRows oFree land rRows ready
  rw [if_neg (by omega : ¬ tk (k + 8) = 0), e1, e2, e3, min_eq_left (by omega : tk k + 1 ≤ 15), Nat.sub_eq_zero_of_le (by omega : tk k + 1 ≤ 15)]
  unfold oRows
  rw [e2, e3, e4, rbM_eq]
  iintro ⟨⟨Hr, Hp⟩, Hx, Ho⟩ HK
  iapply (add_gen c (rB (dk k)) (hk k) (sk k) (dk k) (at_ c k (tk k + 1)) (sk k) (addOff c (hk k) (sk k) (dk k)) ho (addOff_inb c (hk k) (sk k) (dk k))
    (xv X c (dk k) (at_ c k (tk k + 1)) (sk k)) (acc X (dk k) (at_ c k (tk k + 1)) (sk k) (tk k))) $$ [Hx Hr Ho]
  · isplitl [Hx]; · iexact Hx
    isplitl [Hr] <;> iassumption
  iintro ⟨Hx, Hr, Ho⟩
  iapply HK
  isplitl [Ho Hp]
  · isplitl [Ho]
    · rw [acc_succ, hd]; iexact Ho
    · iexact Hp
  isplitl [Hx]; · iexact Hx
  iapply (hold_free c (rG (rB (dk k)) (hk k) (sk k)) (acc X (dk k) (at_ c k (tk k + 1)) (sk k) (tk k))); iexact Hr

end Steps

end Cert.AllReduce

end
-- ==== Proof.Run.lean ====
/-
# The whole list

The three stretches of the list, each by one induction: the first eight starts, the 240 receipts (each with what
follows it), and the 240 waits at the source.
-/
module

public import proofs.«01_k».proof.Proof.Add

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps

variable (X : Dev nD → (cc0_stg0_0 : Ref sig .tc).ty.Contents (Elt F))

/-- `n` of `M` things done: `B` holds of those, `A` of the rest. -/
def part (M n : ℕ) (A B : ℕ → sProp 𝕄) : sProp 𝕄 := iprop(bigSep (Finset.range n) B ∗ bigSep (Finset.Ico n M) A)

theorem part_step (M n : ℕ) (h : n < M) (A B : ℕ → sProp 𝕄) : part M n A B ⊢ iprop(A n ∗ (B n -∗ part M (n + 1) A B)) := by
  unfold part
  rw [← Finset.insert_Ico_add_one_left_eq_Ico h, bigSep_ins (by simp), Finset.range_add_one, bigSep_ins Finset.notMem_range_self]
  iintro ⟨HB, HA, HR⟩
  isplitl [HA]; · iexact HA
  iintro Hn
  isplitl [HB Hn]; · isplitl [Hn] <;> iassumption
  iexact HR
theorem part_start (M : ℕ) (A B : ℕ → sProp 𝕄) : bigSep (Finset.range M) A ⊢ part M 0 A B := by
  unfold part; rw [Finset.range_zero, bigSep_empty, Finset.range_eq_Ico]
  iintro H; isplitr; · iempintro
  iexact H
theorem part_end (M : ℕ) (A B : ℕ → sProp 𝕄) : part M M A B ⊢ bigSep (Finset.range M) B := by
  unfold part; iintro ⟨H, -⟩; iexact H

theorem runs_append {α : Type} (c : Dev nD) (K : P F α) (l l' : List Op) : runs c K (l ++ l') = runs c (runs c K l') l := by
  induction l with
  | nil => rfl
  | cons o l ih => exact congrArg (fun k => Op.run c k o) ih
theorem runs_cons {α : Type} (c : Dev nD) (K : P F α) (o : Op) (l : List Op) : runs c K (o :: l) = o.run c (runs c K l) := rfl
theorem runs_nil {α : Type} (c : Dev nD) (K : P F α) : runs c K [] = K := rfl

/-! ## What each transfer has before and after -/

abbrev sentCred (c : Dev nD) (k : ℕ) : sProp 𝕄 := cred (tallyAt (sendCell c k) () N)
/-- After its receipt: the cell is done with, and the last of a lane leaves its slot. -/
abbrev received (c : Dev nD) (k : ℕ) : sProp 𝕄 := iprop(semVal (recvCell c k) 0 ∗ if tk k = 29 then oRows X c k 30 15 else emp)
/-- What the add of transfer `k` needs, and what it leaves. -/
abbrev slots (c : Dev nD) (k : ℕ) : sProp 𝕄 := iprop(xRows X c k (tk k + 1) ∗ oFree c k (tk k + 1))
abbrev added (c : Dev nD) (k : ℕ) : sProp 𝕄 := iprop(xRows X c k (tk k + 1) ∗ land c k)
abbrev sending (c : Dev nD) (k : ℕ) : sProp 𝕄 := iprop(sentCred (F := F) c k ∗ atPos ER (sendCell c k) 0 ∅ 0)
abbrev sent (c : Dev nD) (k : ℕ) : sProp 𝕄 := iprop(semVal (sendCell c k) 0 ∗ sendPay X c k)

/-! ## The first eight starts -/

def startInv (c : Dev nD) (j : ℕ) : sProp 𝕄 :=
  iprop(bigSep (Finset.Ico j 8) (ready X c) ∗ part 240 j (before c) (sentCred c) ∗ Owes c (Ow c j))

theorem starts_run (c : Dev nD) (K : P F PUnit) (Q : PUnit → sProp 𝕄) : ∀ n j, j + n = 8 →
    iprop(recs X c ∗ startInv X c j) ⊢ iprop((startInv X c 8 -∗ WP c K Q) -∗ WP c (runs c K ((List.range' j n).map startOf)) Q)
  | 0, j, h => by
    obtain rfl : j = 8 := by omega
    show _ ⊢ iprop(_ -∗ WP c K Q)
    iintro ⟨-, H⟩ HK; iapply HK; iexact H
  | n + 1, j, h => by
    have hj : j < 8 := by omega
    rw [List.range'_succ, List.map_cons, runs_cons]
    have e : startInv X c j = iprop((ready X c j ∗ bigSep (Finset.Ico (j + 1) 8) (ready X c)) ∗ part 240 j (before c) (sentCred c) ∗ Owes c (Ow c j)) := by
      unfold startInv; rw [← Finset.insert_Ico_add_one_left_eq_Ico hj, bigSep_ins (by simp)]
    rw [e]
    iintro ⟨#HR, ⟨Hr, Hrs⟩, Hp, HO⟩ HK
    ihave Hp := (part_step 240 j (by omega) (before (F := F) c) (sentCred c)) $$ Hp
    icases Hp with ⟨Hb, Hp⟩
    iapply (start_step X c j (by omega) (runs c K ((List.range' (j + 1) n).map startOf)) Q) $$ [Hr Hb HO]
    · isplitr; · iexact HR
      isplitl [Hr]; · iexact Hr
      isplitl [Hb] <;> iassumption
    iintro ⟨Hc, HO⟩
    ihave Hp := Hp $$ Hc
    iapply (starts_run c K Q n (j + 1) (by omega)) $$ [Hrs Hp HO]
    · isplitr; · iexact HR
      unfold startInv
      isplitl [Hrs]; · iexact Hrs
      isplitl [Hp] <;> iassumption
    iexact HK

/-! ## The receipts -/

def midInv (c : Dev nD) (j : ℕ) : sProp 𝕄 :=
  iprop(part 240 (min (j + 8) 240) (before c) (sentCred c) ∗ part 240 j (awaits c) (received X c) ∗ part 120 (min j 120) (slots X c) (added X c) ∗ Owes c (Ow c (j + 8)))

theorem lane_next (c : Dev nD) (k : ℕ) : tk (k + 8) = tk k + 1 ∧ dk (k + 8) = dk k ∧ sk (k + 8) = sk k ∧ ∀ t, at_ c (k + 8) t = at_ c k t := by
  have e2 : dk (k + 8) = dk k := by unfold dk; rw [show (k + 8) % 2 = k % 2 by omega]
  exact ⟨by unfold tk; omega, e2, by unfold sk; rw [show (k + 8) % 8 = k % 8 by omega], fun t => by unfold at_; rw [e2]⟩

/-- In the all-gather what arrives goes on as it is. -/
theorem recv_ready (c : Dev nD) (k : ℕ) (h : 120 ≤ k) : recvPay X c k = ready X c (k + 8) := by
  obtain ⟨e1, e2, e3, e4⟩ := lane_next c k
  have ht : 15 ≤ tk k := by unfold tk; omega
  unfold recvPay ready oRows
  rw [if_neg (by omega), if_neg (by omega), e1, e2, e3, e4, min_eq_right (by omega)]
theorem recv_last (c : Dev nD) (k : ℕ) (h : 232 ≤ k) (h' : k < 240) : recvPay X c k ⊢ oRows X c k 30 15 := by
  have ht : tk k = 29 := by unfold tk; omega
  unfold recvPay; rw [if_neg (by omega), ht]
  iintro ⟨H, -⟩; iexact H

theorem mid_step (c : Dev nD) (j : ℕ) (hj : j < 240) (K : P F PUnit) (Q : PUnit → sProp 𝕄) :
    iprop(recs X c ∗ levAts L lv ∗ midInv X c j) ⊢ iprop((midInv X c (j + 1) -∗ WP c K Q) -∗ WP c (runs c K (midOf j)) Q) := by
  have hrec : midInv X c j ⊢ iprop(awaits c j ∗ (received X c j -∗ part 240 (j + 1) (awaits c) (received X c)) ∗ Owes c (Ow c (j + 8))
      ∗ part 240 (min (j + 8) 240) (before c) (sentCred c) ∗ part 120 (min j 120) (slots X c) (added X c)) := by
    unfold midInv
    iintro ⟨H1, H2, H3, H4⟩
    ihave H2 := (part_step 240 j hj (awaits (F := F) c) (received X c)) $$ H2
    icases H2 with ⟨H2, H5⟩
    isplitl [H2]; · iexact H2
    isplitl [H5]; · iexact H5
    isplitl [H4]; · iexact H4
    isplitl [H1] <;> iassumption
  by_cases h1 : j < 120
  · rw [show midOf j = [recvOf j, addOf j, startOf (j + 8)] from if_pos h1, runs_cons, runs_cons, runs_cons, runs_nil]
    iintro ⟨#HR, #Hl, Hi⟩ HK
    ihave Hi := hrec $$ Hi
    icases Hi with ⟨Ha, Hb, HO, Hs, Hx⟩
    iapply (recv_step X c j (j + 8) hj (by omega) _ Q) $$ [Ha HO]
    · isplitr; · iexact HR
      isplitr; · iexact Hl
      isplitl [Ha] <;> iassumption
    iintro ⟨HO, Hz, Hp⟩
    rw [min_eq_left h1.le, min_eq_left (by omega : j + 8 ≤ 240)]
    ihave Hx := (part_step 120 j h1 (slots X c) (added X c)) $$ Hx
    icases Hx with ⟨Hx, Hxs⟩
    iapply (add_step X c j h1 _ Q) $$ [Hp Hx]
    · isplitl [Hp]; · iexact Hp
      iexact Hx
    iintro ⟨Hr, Hx⟩
    ihave Hx := Hxs $$ [Hx]
    · iexact Hx
    ihave Hs := (part_step 240 (j + 8) (by omega) (before (F := F) c) (sentCred c)) $$ Hs
    icases Hs with ⟨Hs, Hss⟩
    iapply (start_step X c (j + 8) (by omega) K Q) $$ [Hr Hs HO]
    · isplitr; · iexact HR
      isplitl [Hr]; · iexact Hr
      isplitl [Hs] <;> iassumption
    iintro ⟨Hc, HO⟩
    ihave Hs := Hss $$ Hc
    ihave Hb := Hb $$ [Hz]
    · unfold received; rw [if_neg (by unfold tk; omega)]
      isplitl [Hz]; · iexact Hz
      iempintro
    iapply HK
    unfold midInv
    rw [min_eq_left (by omega : j + 1 ≤ 120), min_eq_left (by omega : j + 1 + 8 ≤ 240), show j + 1 + 8 = j + 8 + 1 by omega]
    isplitl [Hs]; · iexact Hs
    isplitl [Hb]; · iexact Hb
    isplitl [Hx] <;> iassumption
  by_cases h2 : j < 232
  · rw [show midOf j = [recvOf j, startOf (j + 8)] from (if_neg h1).trans (if_pos h2), runs_cons, runs_cons, runs_nil]
    rw [min_eq_right (by omega : 120 ≤ j), min_eq_left (by omega : j + 8 ≤ 240)] at hrec
    iintro ⟨#HR, #Hl, Hi⟩ HK
    ihave Hi := hrec $$ Hi
    icases Hi with ⟨Ha, Hb, HO, Hs, Hx⟩
    iapply (recv_step X c j (j + 8) hj (by omega) _ Q) $$ [Ha HO]
    · isplitr; · iexact HR
      isplitr; · iexact Hl
      isplitl [Ha] <;> iassumption
    iintro ⟨HO, Hz, Hr⟩
    ihave Hr := (Entails.of_eq (recv_ready X c j (by omega))) $$ Hr
    ihave Hs := (part_step 240 (j + 8) (by omega) (before (F := F) c) (sentCred c)) $$ Hs
    icases Hs with ⟨Hs, Hss⟩
    iapply (start_step X c (j + 8) (by omega) K Q) $$ [Hr Hs HO]
    · isplitr; · iexact HR
      isplitl [Hr]; · iexact Hr
      isplitl [Hs] <;> iassumption
    iintro ⟨Hc, HO⟩
    ihave Hs := Hss $$ Hc
    ihave Hb := Hb $$ [Hz]
    · unfold received; rw [if_neg (by unfold tk; omega)]
      isplitl [Hz]; · iexact Hz
      iempintro
    iapply HK
    unfold midInv
    rw [min_eq_right (by omega : 120 ≤ j + 1), min_eq_left (by omega : j + 1 + 8 ≤ 240), show j + 1 + 8 = j + 8 + 1 by omega]
    isplitl [Hs]; · iexact Hs
    isplitl [Hb]; · iexact Hb
    isplitl [Hx] <;> iassumption
  · rw [show midOf j = [recvOf j] from (if_neg h1).trans (if_neg h2), runs_cons, runs_nil]
    iintro ⟨#HR, #Hl, Hi⟩ HK
    ihave Hi := hrec $$ Hi
    icases Hi with ⟨Ha, Hb, HO, Hs, Hx⟩
    iapply (recv_step X c j (j + 8) hj (by omega) _ Q) $$ [Ha HO]
    · isplitr; · iexact HR
      isplitr; · iexact Hl
      isplitl [Ha] <;> iassumption
    iintro ⟨HO, Hz, Hr⟩
    ihave Hb := Hb $$ [Hz Hr]
    · unfold received; rw [if_pos (by unfold tk; omega)]
      isplitl [Hz]; · iexact Hz
      iapply (recv_last X c j (by omega) hj); iexact Hr
    iapply HK
    unfold midInv
    rw [min_eq_right (by omega : 120 ≤ j + 1), min_eq_right (by omega : 240 ≤ j + 1 + 8), min_eq_right (by omega : 120 ≤ j), min_eq_right (by omega : 240 ≤ j + 8),
      Ow_end c (j + 8) (by omega), Ow_end c (j + 1 + 8) (by omega)]
    isplitl [Hs]; · iexact Hs
    isplitl [Hb]; · iexact Hb
    isplitl [Hx] <;> iassumption

theorem mids_run (c : Dev nD) (K : P F PUnit) (Q : PUnit → sProp 𝕄) : ∀ n j, j + n = 240 →
    iprop(recs X c ∗ levAts L lv ∗ midInv X c j) ⊢ iprop((midInv X c 240 -∗ WP c K Q) -∗ WP c (runs c K ((List.range' j n).flatMap midOf)) Q)
  | 0, j, h => by
    obtain rfl : j = 240 := by omega
    show _ ⊢ iprop(_ -∗ WP c K Q)
    iintro ⟨-, -, H⟩ HK; iapply HK; iexact H
  | n + 1, j, h => by
    rw [List.range'_succ, List.flatMap_cons, runs_append]
    iintro ⟨#HR, #Hl, Hi⟩ HK
    iapply (mid_step X c j (by omega) (runs c K ((List.range' (j + 1) n).flatMap midOf)) Q) $$ [Hi]
    · isplitr; · iexact HR
      isplitr; · iexact Hl
      iexact Hi
    iintro Hi
    iapply (mids_run c K Q n (j + 1) (by omega)) $$ [Hi]
    · isplitr; · iexact HR
      isplitr; · iexact Hl
      iexact Hi
    iexact HK

/-! ## The waits at the source -/

theorem sents_run (c : Dev nD) (K : P F PUnit) (Q : PUnit → sProp 𝕄) : ∀ n j, j + n = 240 →
    iprop(recs X c ∗ part 240 j (sending c) (sent X c) ∗ Owes c 0)
      ⊢ iprop(((part 240 240 (sending c) (sent X c) ∗ Owes c 0) -∗ WP c K Q) -∗ WP c (runs c K ((List.range' j n).map sentOf)) Q)
  | 0, j, h => by
    obtain rfl : j = 240 := by omega
    show _ ⊢ iprop(_ -∗ WP c K Q)
    iintro ⟨-, H⟩ HK; iapply HK; iexact H
  | n + 1, j, h => by
    rw [List.range'_succ, List.map_cons, runs_cons]
    iintro ⟨#HR, Hp, HO⟩ HK
    ihave Hp := (part_step 240 j (by omega) (sending (F := F) c) (sent X c)) $$ Hp
    icases Hp with ⟨Hs, Hp⟩
    iapply (sent_step X c j (by omega) (runs c K ((List.range' (j + 1) n).map sentOf)) Q) $$ [Hs HO]
    · isplitr; · iexact HR
      isplitl [Hs]; · iexact Hs
      iexact HO
    iintro ⟨HO, Hs⟩
    ihave Hp := Hp $$ [Hs]
    · iexact Hs
    iapply (sents_run c K Q n (j + 1) (by omega)) $$ [Hp HO]
    · isplitr; · iexact HR
      isplitl [Hp] <;> iassumption
    iexact HK

/-! ## Together -/

/-- What the list needs, and what it leaves. -/
def listPre (c : Dev nD) : sProp 𝕄 :=
  iprop(bigSep (Finset.range 8) (ready X c) ∗ bigSep (Finset.range 240) (before c) ∗ bigSep (Finset.range 240) (awaits c) ∗ bigSep (Finset.range 120) (slots X c)
    ∗ bigSep (Finset.range 240) (fun k => atPos ER (sendCell c k) 0 ∅ 0))
def listPost (c : Dev nD) : sProp 𝕄 :=
  iprop(bigSep (Finset.range 240) (received X c) ∗ bigSep (Finset.range 120) (added X c) ∗ bigSep (Finset.range 240) (sent X c))

theorem list_run (c : Dev nD) (K : P F PUnit) (Q : PUnit → sProp 𝕄) :
    iprop(recs X c ∗ levAts L lv ∗ listPre X c ∗ Owes c (Ow c 0)) ⊢ iprop(((listPost X c ∗ Owes c 0) -∗ WP c K Q) -∗ WP c (runs c K ops) Q) := by
  unfold ops listPre listPost
  rw [runs_append, runs_append, List.range_eq_range', List.range_eq_range']
  iintro ⟨#HR, #Hl, ⟨Hr, Hb, Ha, Hs, Ht⟩, HO⟩ HK
  iapply (starts_run X c _ Q 8 0 rfl) $$ [Hr Hb HO]
  · isplitr; · iexact HR
    unfold startInv
    isplitl [Hr]; · rw [← Finset.range_eq_Ico]; iexact Hr
    isplitl [Hb]; · iapply (part_start (F := F) 240 (before c) (sentCred c)); iexact Hb
    iexact HO
  unfold startInv
  iintro ⟨-, Hb, HO⟩
  iapply (mids_run X c _ Q 240 0 rfl) $$ [Hb Ha Hs HO]
  · isplitr; · iexact HR
    isplitr; · iexact Hl
    unfold midInv
    isplitl [Hb]; · iexact Hb
    isplitl [Ha]; · iapply (part_start (F := F) 240 (awaits c) (received X c)); iexact Ha
    isplitl [Hs]; · iapply (part_start (F := F) 120 (slots X c) (added X c)); iexact Hs
    iexact HO
  unfold midInv
  rw [show min (240 + 8) 240 = 240 from rfl, show min 240 120 = 120 from rfl, Ow_end c (240 + 8) (by omega)]
  iintro ⟨Hb, Ha, Hs, HO⟩
  ihave Hb := (part_end 240 (before (F := F) c) (sentCred c)) $$ Hb
  iapply (sents_run X c K Q 240 0 rfl) $$ [Hb Ht HO]
  · isplitr; · iexact HR
    isplitl [Hb Ht]
    · iapply (part_start (F := F) 240 (sending c) (sent X c))
      unfold sending
      rw [bigSep_sep']
      isplitl [Hb] <;> iassumption
    iexact HO
  iintro ⟨Hd, HO⟩
  iapply HK
  isplitl [Ha Hs Hd]
  · isplitl [Ha]; · iapply (part_end 240 (awaits (F := F) c) (received X c)); iexact Ha
    isplitl [Hs]; · iapply (part_end 120 (slots (F := F) X c) (added X c)); iexact Hs
    iapply (part_end 240 (sending (F := F) c) (sent X c)); iexact Hd
  iexact HO

end Steps

end Cert.AllReduce

end
-- ==== Proof.Body.lean ====
module

public import proofs.«01_k».proof.Proof.Ops
public import Idealize.ShloMosaic.Lib.Pipeline.Regions

@[expose] public section

noncomputable section

namespace Cert.AllReduce

open Cert.KernelIdeal Cert.KernelIdeal.Gen
open Idealize.ShloMosaic Idealize.SL.Sem
open Idealize.ShloMosaic.TcCoe

variable {F : FTy → Type} [FloatOps F]

abbrev barS : Sems sig S_ := SemArray.scalar (sig.barrier 0 rfl)

/-- The body: the device reads its id, signals its two neighbours, waits for both, and runs the list. -/
def bodyOf (l : List Op) : P F PUnit :=
  .op .deviceId fun c =>
    .op (.semSignal ((⟨k0_dev1 c, k0_dev1_lt c⟩ : Dev nD), .tc) barS.sem (1#32 : BitVec 32).toInt) fun _ =>
    .op (.semSignal ((⟨k0_dev2 c, k0_dev2_lt c⟩ : Dev nD), .tc) barS.sem (1#32 : BitVec 32).toInt) fun _ =>
    .op (.semWait barS.sem (2#32 : BitVec 32).toInt) fun _ =>
    runs c (.ret ⟨⟩) l

set_option maxRecDepth 65536 in
theorem body_eq :
    cc0_body (F := F) xM (Memref.isWhole_whole _) oM (Memref.isWhole_whole _) (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 = bodyOf ops := by
  chain_rfl

end Cert.AllReduce

end
-- ==== Proof.Split.lean ====
/-
# The buffers, whole and in slots

The staged `x` and result are 128 slots of sixteen rows, a landing buffer sixty blocks. A device meets each slot once in
128 turns, in an order that depends on its place in the ring.
-/
module

public import proofs.«01_k».proof.Proof.Proto
public import Idealize.ShloMosaic.Lib.Ring
public import Idealize.ShloMosaic.Lib.Pipeline.ValueKit.Geometry

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Indices -/

/-- The direction, place and sub-chunk of the slot that lies `b`-th in the buffer. -/
abbrev sd (b : Fin 128) : Fin 2 := ⟨b.val / 64, by omega⟩
abbrev sq (b : Fin 128) : ZMod 16 := ((b.val / 4 : ℕ) : ZMod 16)
abbrev ss (b : Fin 128) : Fin 4 := ⟨b.val % 4, by omega⟩

theorem row_eq (b : Fin 128) : row (sd b) (sq b) (ss b) = 16 * b.val := by revert b; decide +kernel

/-- The slot that device `c` meets at turn `j`, and the turn at which it meets a slot. -/
def turnSlot (c : Dev nD) (j : Fin 128) : Fin 128 := ⟨(64 * (dk j.val).val + 4 * (at_ c j.val (tk j.val)).val + (sk j.val).val) % 128, Nat.mod_lt _ (by decide)⟩
def slotTurn (c : Dev nD) (b : Fin 128) : Fin 128 := ⟨(8 * (pos (sd b) c - sq b).val + 2 * (ss b).val + (sd b).val) % 128, Nat.mod_lt _ (by decide)⟩

theorem slot_turn : ∀ c j, slotTurn c (turnSlot c j) = j := by decide +kernel
theorem turn_slot : ∀ c b, turnSlot c (slotTurn c b) = b := by decide +kernel
theorem turn_parts : ∀ c j, sd (turnSlot c j) = dk j.val ∧ sq (turnSlot c j) = at_ c j.val (tk j.val) ∧ ss (turnSlot c j) = sk j.val := by decide +kernel

def turns (c : Dev nD) : Fin 128 ≃ Fin 128 := ⟨turnSlot c, slotTurn c, slot_turn c, turn_slot c⟩

theorem bigSep_range (n : ℕ) (Φ : ℕ → sProp 𝕄) : bigSep (Finset.range n) Φ = bigSep Finset.univ fun i : Fin n => Φ i.val := by
  rw [show Finset.range n = (Finset.univ : Finset (Fin n)).map Fin.valEmbedding from by ext i; simp, bigSep_map]; rfl

/-- All slots, in the order of the turns. -/
theorem by_turns (c : Dev nD) (Φ : Fin 2 → ZMod 16 → Fin 4 → sProp 𝕄) :
    (bigSep Finset.univ fun b => Φ (sd b) (sq b) (ss b)) = bigSep (Finset.range 128) fun j => Φ (dk j) (at_ c j (tk j)) (sk j) := by
  rw [bigSep_range, bigSep_univ_equiv (turns c)]
  exact bigSep_congr fun j _ => by
    obtain ⟨h1, h2, h3⟩ := turn_parts c j
    show Φ (sd (turnSlot c j)) (sq (turnSlot c j)) (ss (turnSlot c j)) = _
    rw [h1, h2, h3]

/-- Numbers below `n`, by direction. -/
theorem by_dir (n : ℕ) (Φ : ℕ → sProp 𝕄) :
    bigSep (Finset.range n) Φ = iprop(bigSep ((Finset.range n).filter fun k => dk k = 0) Φ ∗ bigSep ((Finset.range n).filter fun k => dk k = 1) Φ) := by
  rw [bigSep_filter_split (Finset.range n) fun k => dk k = 0]
  rw [show ((Finset.range n).filter fun k => ¬ dk k = 0) = (Finset.range n).filter fun k => dk k = 1 from
    Finset.filter_congr fun k _ => by generalize dk k = d; revert d; decide]
  rfl

/-! ## `x` and the result -/

/-- Rows held are rows held at what they read. -/
theorem hold_of (c : Dev nD) (M : Rows) (f : Buf (Elt F) (M.view.loc (c : Thread nD τ))) :
    (M.view.loc (c : Thread nD τ) ↦[M.view.set]{fullShare} f : sProp 𝕄) = hold c M (M.view.read (Elt F) f) := by
  unfold hold
  refine pointsTo_congr fun i hi => ?_
  obtain ⟨x, -, rfl⟩ := Finset.mem_map.mp hi
  rw [View.write_emb_of_mem _ _ (Finset.mem_univ _), View.read_apply, cast_cast, cast_eq]

theorem slots_disjoint (b b' : Fin 128) (h : b ≠ b') : Disjoint (slot (sd b) (sq b) (ss b)).set (slot (sd b') (sq b') (ss b')).set :=
  Ring.lead_disjoint (s := S2048x1024) (NB := 128) 0 16 (fun b => ![row (sd b) (sq b) (ss b), 0]) S16x1024.size (fun b => row_inb (sd b) (sq b) (ss b))
    (fun b => row_eq b) rfl b b' h
theorem slots_cover : Finset.univ.biUnion (fun b : Fin 128 => (slot (sd b) (sq b) (ss b)).set) = Finset.univ :=
  Ring.lead_cover (s := S2048x1024) (NB := 128) 0 16 (fun b => ![row (sd b) (sq b) (ss b), 0]) S16x1024.size (fun b => row_inb (sd b) (sq b) (ss b))
    (fun b => row_eq b) (fun b a ha => by obtain rfl : a = 1 := by revert a; decide
                                          rfl) rfl (fun a ha => by obtain rfl : a = 1 := by revert a; decide
                                                                   rfl) rfl

/-- The staged `x`, whole, is its slots; -/
theorem x_slots (c : Dev nD) (f : (cc0_stg0_0 : Ref sig .tc).ty.Contents (Elt F)) :
    ((c : Thread nD τ).loc cc0_stg0_0 ↦{fullShare} f : sProp 𝕄)
      = bigSep Finset.univ fun b : Fin 128 => hold c (xS (sd b) (sq b) (ss b)) ((xS (sd b) (sq b) (ss b)).view.read (Elt F) f) := by
  rw [Ring.pointsTo_blocks (ℓ := (c : Thread nD τ).loc cc0_stg0_0) (fun b : Fin 128 => (slot (sd b) (sq b) (ss b)).set) slots_disjoint slots_cover f]
  refine bigSep_congr fun b _ => ?_
  rw [← hold_of]
  show _ = ((c : Thread nD τ).loc cc0_stg0_0 ↦[((View.whole (cc0_stg0_0 : Ref sig .tc)).slice (slot (sd b) (sq b) (ss b))).set]{fullShare} f)
  rw [View.set_slice_whole]
/-- and so is the result. -/
theorem o_slots (c : Dev nD) (f : (cc0_stg1_0 : Ref sig .tc).ty.Contents (Elt F)) :
    ((c : Thread nD τ).loc cc0_stg1_0 ↦{fullShare} f : sProp 𝕄)
      = bigSep Finset.univ fun b : Fin 128 => hold c (oS (sd b) (sq b) (ss b)) ((oS (sd b) (sq b) (ss b)).view.read (Elt F) f) := by
  rw [Ring.pointsTo_blocks (ℓ := (c : Thread nD τ).loc cc0_stg1_0) (fun b : Fin 128 => (slot (sd b) (sq b) (ss b)).set) slots_disjoint slots_cover f]
  refine bigSep_congr fun b _ => ?_
  rw [← hold_of]
  show _ = ((c : Thread nD τ).loc cc0_stg1_0 ↦[((View.whole (cc0_stg1_0 : Ref sig .tc)).slice (slot (sd b) (sq b) (ss b))).set]{fullShare} f)
  rw [View.set_slice_whole]

/-- The slot in which a row lies. -/
def slotOf (i : S2048x1024.Idx) : Fin 128 := ⟨(i 0).val / 16, by have : (i 0).val < 2048 := (i 0).isLt; omega⟩

/-- A result given slot by slot. -/
def gather (v : Fin 2 → ZMod 16 → Fin 4 → Vec F S16x1024 .f32) : (cc0_stg1_0 : Ref sig .tc).ty.Contents (Elt F) := fun i =>
  let b := slotOf i
  (oS (sd b) (sq b) (ss b)).view.write (Elt F) (oS (sd b) (sq b) (ss b)).view.junk (v (sd b) (sq b) (ss b)) Finset.univ i

theorem slotOf_emb (b : Fin 128) (x : S16x1024.Idx) : slotOf ((oS (sd b) (sq b) (ss b)).view.emb x) = b := by
  refine Fin.ext ?_
  show ((oS (sd b) (sq b) (ss b)).view.emb x 0).val / 16 = b.val
  have h : ((oS (sd b) (sq b) (ss b)).view.emb x 0).val = row (sd b) (sq b) (ss b) + (x 0).val :=
    ValueKit.view_emb_slice_whole_unit_val (cc0_stg1_0 : Ref sig .tc) ![row (sd b) (sq b) (ss b), 0] S16x1024.size (row_inb _ _ _) x 0
  have hx : (x 0).val < 16 := (x 0).isLt
  rw [h, row_eq]; omega

theorem gather_emb (v : Fin 2 → ZMod 16 → Fin 4 → Vec F S16x1024 .f32) (b : Fin 128) (x : S16x1024.Idx) :
    gather v ((oS (sd b) (sq b) (ss b)).view.emb x) = v (sd b) (sq b) (ss b) x := by
  unfold gather
  rw [slotOf_emb]
  exact View.write_emb_of_mem _ _ (Finset.mem_univ x)

theorem read_gather (v : Fin 2 → ZMod 16 → Fin 4 → Vec F S16x1024 .f32) (b : Fin 128) :
    (oS (sd b) (sq b) (ss b)).view.read (Elt F) (gather v) = v (sd b) (sq b) (ss b) :=
  funext fun x => (View.read_apply _ _).trans (gather_emb v b x)

theorem o_gather (c : Dev nD) (v : Fin 2 → ZMod 16 → Fin 4 → Vec F S16x1024 .f32) :
    ((c : Thread nD τ).loc cc0_stg1_0 ↦{fullShare} gather v : sProp 𝕄)
      = bigSep Finset.univ fun b : Fin 128 => hold c (oS (sd b) (sq b) (ss b)) (v (sd b) (sq b) (ss b)) := by
  rw [o_slots]
  exact bigSep_congr fun b _ => by rw [read_gather]

/-! ## The landing buffers -/

abbrev scr (d : Fin 2) : Ref sig .tc := match d with | 0 => cc0_scratch0 | 1 => cc0_scratch1

/-- The hop and sub-chunk of a block. -/
abbrev bh (b : Fin 60) : Fin 15 := ⟨b.val / 4, by omega⟩
abbrev bs (b : Fin 60) : Fin 4 := ⟨b.val % 4, by omega⟩
abbrev rbSet (b : Fin 60) : Finset S15x64x1024.Idx := (rbRect (bh b) (bs b)).set

theorem mem_rbSet (b : Fin 60) (i : S15x64x1024.Idx) : i ∈ rbSet b ↔ 4 * (i 0).val + (i 1).val / 16 = b.val := by
  have h1 : (i 1).val < 64 := (i 1).isLt
  have h2 : (i 2).val < 1024 := (i 2).isLt
  have hb := b.isLt
  rw [Rect.mem_set_unit]
  constructor
  · intro h
    have a0 := h 0
    have a1 := h 1
    have e0 : b.val / 4 ≤ (i 0).val ∧ (i 0).val < b.val / 4 + 1 := a0
    have e1 : 16 * (b.val % 4) ≤ (i 1).val ∧ (i 1).val < 16 * (b.val % 4) + 16 := a1
    omega
  · intro h a
    match a with
    | 0 => show b.val / 4 ≤ (i 0).val ∧ (i 0).val < b.val / 4 + 1; omega
    | 1 => show 16 * (b.val % 4) ≤ (i 1).val ∧ (i 1).val < 16 * (b.val % 4) + 16; omega
    | 2 => show 0 ≤ (i 2).val ∧ (i 2).val < 0 + 1024; omega

theorem rb_disjoint (b b' : Fin 60) (h : b ≠ b') : Disjoint (rbSet b) (rbSet b') := by
  rw [Finset.disjoint_left]
  intro i hi hi'
  exact h (Fin.ext (((mem_rbSet b i).mp hi).symm.trans ((mem_rbSet b' i).mp hi')))
theorem rb_cover : Finset.univ.biUnion (fun b : Fin 60 => rbSet b) = Finset.univ := by
  ext i
  simp only [Finset.mem_biUnion, Finset.mem_univ, true_and, iff_true]
  have h0 : (i 0).val < 15 := (i 0).isLt
  have h1 : (i 1).val < 64 := (i 1).isLt
  exact ⟨⟨4 * (i 0).val + (i 1).val / 16, by omega⟩, (mem_rbSet _ i).mpr rfl⟩

/-- The transfers into the blocks of direction `d`'s landing buffer. -/
def landEmb (d : Fin 2) : Fin 60 ↪ ℕ := ⟨fun b => 2 * b.val + d.val, fun a b h => Fin.ext (by have h : 2 * a.val + d.val = 2 * b.val + d.val := h; omega)⟩
theorem land_map (d : Fin 2) : ((Finset.range 120).filter fun k => dk k = d) = Finset.univ.map (landEmb d) := by
  revert d; decide +kernel
theorem land_parts : ∀ (d : Fin 2) (b : Fin 60), hk (2 * b.val + d.val) = bh b ∧ sk (2 * b.val + d.val) = bs b ∧ dk (2 * b.val + d.val) = d := by
  decide +kernel

theorem free_rb (c : Dev nD) (d : Fin 2) (b : Fin 60) :
    (free c (rbM (bh b) (bs b) d) : sProp 𝕄) =
      match d with
      | 0 => iprop(∃ f : Buf (Elt F) ((c : Thread nD τ).loc cc0_scratch0), (c : Thread nD τ).loc cc0_scratch0 ↦[rbSet b]{fullShare} f)
      | 1 => iprop(∃ f : Buf (Elt F) ((c : Thread nD τ).loc cc0_scratch1), (c : Thread nD τ).loc cc0_scratch1 ↦[rbSet b]{fullShare} f) := by
  match d with
  | 0 =>
    have h : (rbM (bh b) (bs b) 0).view.set = rbSet b :=
      (View.set_reshape _ _).trans (View.set_slice_whole (cc0_scratch0 : Ref sig .tc) _)
    unfold free
    show iprop(∃ f : Buf (Elt F) ((c : Thread nD τ).loc cc0_scratch0), (c : Thread nD τ).loc cc0_scratch0 ↦[(rbM (bh b) (bs b) 0).view.set]{fullShare} f) = _
    rw [h]
  | 1 =>
    have h : (rbM (bh b) (bs b) 1).view.set = rbSet b :=
      (View.set_reshape _ _).trans (View.set_slice_whole (cc0_scratch1 : Ref sig .tc) _)
    unfold free
    show iprop(∃ f : Buf (Elt F) ((c : Thread nD τ).loc cc0_scratch1), (c : Thread nD τ).loc cc0_scratch1 ↦[(rbM (bh b) (bs b) 1).view.set]{fullShare} f) = _
    rw [h]

theorem lands_eq (c : Dev nD) (d : Fin 2) :
    (bigSep ((Finset.range 120).filter fun k => dk k = d) fun k => land (F := F) c k)
      = bigSep Finset.univ fun b : Fin 60 => (free c (rbM (bh b) (bs b) d) : sProp 𝕄) := by
  rw [land_map, bigSep_map]
  refine bigSep_congr fun b _ => ?_
  obtain ⟨h1, h2, h3⟩ := land_parts d b
  unfold land rRows
  show free c (rbM (hk (2 * b.val + d.val)) (sk (2 * b.val + d.val)) (dk (2 * b.val + d.val))) = _
  rw [h1, h2, h3]

theorem blocks_mono {Φ Ψ : Fin 60 → sProp 𝕄} (h : ∀ b, Φ b ⊢ Ψ b) : bigSep Finset.univ Φ ⊢ bigSep Finset.univ Ψ := bigSep_mono fun b _ => h b

/-- A landing buffer, whole, is its blocks, -/
theorem lands_split0 (c : Dev nD) : iprop(∃ f : Buf (Elt F) ((c : Thread nD τ).loc cc0_scratch0), (c : Thread nD τ).loc cc0_scratch0 ↦{fullShare} f)
    ⊢ (bigSep ((Finset.range 120).filter fun k => dk k = 0) fun k => land (F := F) c k : sProp 𝕄) := by
  rw [lands_eq]
  iintro ⟨%f, H⟩
  ihave H := (Entails.of_eq (Ring.pointsTo_blocks (ℓ := (c : Thread nD τ).loc cc0_scratch0) rbSet rb_disjoint rb_cover f)) $$ H
  iapply (blocks_mono fun b => show ((c : Thread nD τ).loc cc0_scratch0 ↦[rbSet b]{fullShare} f : sProp 𝕄) ⊢ _ from by
    rw [free_rb]; iintro H; iexists f; iexact H)
  iexact H
theorem lands_split1 (c : Dev nD) : iprop(∃ f : Buf (Elt F) ((c : Thread nD τ).loc cc0_scratch1), (c : Thread nD τ).loc cc0_scratch1 ↦{fullShare} f)
    ⊢ (bigSep ((Finset.range 120).filter fun k => dk k = 1) fun k => land (F := F) c k : sProp 𝕄) := by
  rw [lands_eq]
  iintro ⟨%f, H⟩
  ihave H := (Entails.of_eq (Ring.pointsTo_blocks (ℓ := (c : Thread nD τ).loc cc0_scratch1) rbSet rb_disjoint rb_cover f)) $$ H
  iapply (blocks_mono fun b => show ((c : Thread nD τ).loc cc0_scratch1 ↦[rbSet b]{fullShare} f : sProp 𝕄) ⊢ _ from by
    rw [free_rb]; iintro H; iexists f; iexact H)
  iexact H
/-- which join again. -/
theorem lands_join0 (c : Dev nD) : (bigSep ((Finset.range 120).filter fun k => dk k = 0) fun k => land (F := F) c k : sProp 𝕄)
    ⊢ iprop(∃ f : Buf (Elt F) ((c : Thread nD τ).loc cc0_scratch0), (c : Thread nD τ).loc cc0_scratch0 ↦{fullShare} f) := by
  rw [lands_eq, bigSep_congr fun b _ => free_rb (F := F) c 0 b]
  exact Ring.pointsTo_blocks_join_exists (ℓ := (c : Thread nD τ).loc cc0_scratch0) rbSet rb_disjoint rb_cover (View.whole (cc0_scratch0 : Ref sig .tc)).junk
theorem lands_join1 (c : Dev nD) : (bigSep ((Finset.range 120).filter fun k => dk k = 1) fun k => land (F := F) c k : sProp 𝕄)
    ⊢ iprop(∃ f : Buf (Elt F) ((c : Thread nD τ).loc cc0_scratch1), (c : Thread nD τ).loc cc0_scratch1 ↦{fullShare} f) := by
  rw [lands_eq, bigSep_congr fun b _ => free_rb (F := F) c 1 b]
  exact Ring.pointsTo_blocks_join_exists (ℓ := (c : Thread nD τ).loc cc0_scratch1) rbSet rb_disjoint rb_cover (View.whole (cc0_scratch1 : Ref sig .tc)).junk

end Cert.AllReduce

end
-- ==== Proof.Device.lean ====
/-
# One device, from its launch to its end

The signals to the two neighbours, the wait for theirs, and the list: what a device starts from and what it leaves.
-/
module

public import proofs.«01_k».proof.Proof.Run
public import proofs.«01_k».proof.Proof.Body
public import proofs.«01_k».proof.Proof.Split

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Numbers of transfers -/

theorem range_add (a b : ℕ) (Φ : ℕ → sProp 𝕄) :
    bigSep (Finset.range (b + a)) Φ = iprop(bigSep (Finset.range a) Φ ∗ bigSep (Finset.range b) fun k => Φ (k + a)) := by
  have h : Finset.range (b + a) = Finset.range a ∪ (Finset.range b).map (addRightEmbedding a) := by
    ext i
    simp only [Finset.mem_range, Finset.mem_union, Finset.mem_map, addRightEmbedding_apply]
    constructor
    · intro hi
      by_cases h : i < a
      · exact Or.inl h
      · exact Or.inr ⟨i - a, by omega, by omega⟩
    · rintro (h | ⟨j, hj, rfl⟩) <;> omega
  have hd : Disjoint (Finset.range a) ((Finset.range b).map (addRightEmbedding a)) := by
    rw [Finset.disjoint_left]
    intro i hi hi'
    obtain ⟨j, -, rfl⟩ := Finset.mem_map.mp hi'
    have : j + a < a := Finset.mem_range.mp hi
    omega
  rw [h, bigSep_union hd, bigSep_map]
  rfl

theorem sep_same {A B A' B' : sProp 𝕄} (h : A = A') (h' : B = B') : iprop(A ∗ B) = iprop(A' ∗ B') := by rw [h, h']
theorem turn_round_to (A B C : sProp 𝕄) : iprop((A ∗ B) ∗ C) ⊢ iprop((C ∗ A) ∗ B) := by
  iintro ⟨⟨HA, HB⟩, HC⟩
  isplitl [HC HA]
  · isplitl [HC] <;> iassumption
  · iassumption
theorem turn_round (A B C : sProp 𝕄) : iprop((A ∗ B) ∗ C) = iprop((C ∗ A) ∗ B) :=
  BI.equiv_iff.mp ⟨turn_round_to A B C, (turn_round_to C A B).trans (turn_round_to B C A)⟩

/-- Lanes and turns, some turns later. -/
theorem lane_add (k n : ℕ) : dk (k + 8 * n) = dk k ∧ sk (k + 8 * n) = sk k ∧ tk (k + 8 * n) = tk k + n := by
  refine ⟨?_, ?_, ?_⟩
  · exact congrArg (Fin.ofNat 2) (by omega)
  · exact congrArg (Fin.ofNat 4) (by omega)
  · show (k + 8 * n) / 8 = k / 8 + n; omega

section Device

variable (X : Dev nD → (cc0_stg0_0 : Ref sig .tc).ty.Contents (Elt F))

/-- The result on every device: each slot summed over all sixteen. -/
def outv : (cc0_stg1_0 : Ref sig .tc).ty.Contents (Elt F) := gather fun d q s => acc X d q s 15

theorem xRows_add (c : Dev nD) (k n t : ℕ) : xRows X c (k + 8 * n) t = xRows X c k t := by
  unfold xRows at_; rw [(lane_add k n).1, (lane_add k n).2.1]
theorem oRows_add (c : Dev nD) (k n t m : ℕ) : oRows X c (k + 8 * n) t m = oRows X c k t m := by
  unfold oRows at_; rw [(lane_add k n).1, (lane_add k n).2.1]
theorem oFree_add (c : Dev nD) (k n t : ℕ) : (oFree c (k + 8 * n) t : sProp 𝕄) = oFree c k t := by
  unfold oFree at_; rw [(lane_add k n).1, (lane_add k n).2.1]
theorem oRows_round (c : Dev nD) (k t m : ℕ) : oRows X c k (t + 16) m = oRows X c k t m := by
  unfold oRows at_
  rw [show ((t + 16 : ℕ) : ZMod 16) = (t : ZMod 16) from by rw [Nat.cast_add, show ((16 : ℕ) : ZMod 16) = 0 from rfl, add_zero]]

/-! ## What the staged buffers give, and how they are put together again -/

theorem x_turns (c : Dev nD) :
    ((c : Thread nD τ).loc cc0_stg0_0 ↦{fullShare} X c : sProp 𝕄)
      = iprop((bigSep (Finset.range 8) fun k => xRows X c k 0) ∗ bigSep (Finset.range 120) fun k => xRows X c k (tk k + 1)) := by
  refine (x_slots c (X c)).trans ((by_turns c fun d q s => hold c (xS d q s) (xv X c d q s)).trans ?_)
  refine (range_add 8 120 fun j => xRows X c j (tk j)).trans ?_
  refine sep_same (bigSep_congr fun k hk => ?_) (bigSep_congr fun k _ => ?_)
  · rw [show tk k = 0 from Nat.div_eq_of_lt (Finset.mem_range.mp hk)]
  · rw [show k + 8 = k + 8 * 1 from rfl, xRows_add, (lane_add k 1).2.2]

theorem o_turns (c : Dev nD) (f : (cc0_stg1_0 : Ref sig .tc).ty.Contents (Elt F)) :
    ((c : Thread nD τ).loc cc0_stg1_0 ↦{fullShare} f : sProp 𝕄)
      ⊢ iprop((bigSep (Finset.range 8) fun k => oFree c k 0) ∗ bigSep (Finset.range 120) fun k => oFree c k (tk k + 1)) := by
  rw [o_slots]
  refine BIBase.Entails.trans (bigSep_mono fun b _ => hold_free c _ _) (Entails.of_eq ?_)
  refine (by_turns c fun d q s => free c (oS d q s)).trans ?_
  refine (range_add 8 120 fun j => oFree c j (tk j)).trans ?_
  refine sep_same (bigSep_congr fun k hk => ?_) (bigSep_congr fun k _ => ?_)
  · rw [show tk k = 0 from Nat.div_eq_of_lt (Finset.mem_range.mp hk)]
  · rw [show k + 8 = k + 8 * 1 from rfl, oFree_add, (lane_add k 1).2.2]

theorem entry_slots (c : Dev nD) (f : (cc0_stg1_0 : Ref sig .tc).ty.Contents (Elt F)) :
    iprop(((c : Thread nD τ).loc cc0_stg0_0 ↦{fullShare} X c) ∗ ((c : Thread nD τ).loc cc0_stg1_0 ↦{fullShare} f))
      ⊢ iprop(bigSep (Finset.range 8) (ready X c) ∗ bigSep (Finset.range 120) (slots X c)) := by
  have hr : bigSep (Finset.range 8) (ready X c) = bigSep (Finset.range 8) (fun k => iprop(xRows X c k 0 ∗ oFree c k 0)) :=
    bigSep_congr fun k hk => if_pos (Nat.div_eq_of_lt (Finset.mem_range.mp hk))
  rw [x_turns, hr, bigSep_sep', bigSep_sep']
  iintro ⟨⟨H1, H2⟩, Ho⟩
  ihave Ho := (o_turns c f) $$ Ho
  icases Ho with ⟨H3, H4⟩
  isplitl [H1 H3]
  · isplitl [H1] <;> iassumption
  · isplitl [H2] <;> iassumption

/-- The slots of the result in the order in which they come back, which starts one turn earlier. -/
theorem out_turns (c : Dev nD) :
    ((c : Thread nD τ).loc cc0_stg1_0 ↦{fullShare} outv X : sProp 𝕄)
      = iprop((bigSep (Finset.range 120) fun k => oRows X c (k + 120) (tk (k + 120)) 15) ∗ bigSep (Finset.range 8) fun k => oRows X c (k + 232) 30 15) := by
  have hper (k : ℕ) : oRows X c (k + 8 + 120) (tk (k + 8 + 120)) 15 = oRows X c k (tk k) 15 := by
    rw [show k + 8 + 120 = k + 8 * 16 from rfl, oRows_add, (lane_add k 16).2.2, oRows_round]
  have hlast : (bigSep (Finset.range 8) fun k => oRows X c (k + 232) 30 15) = bigSep (Finset.range 8) fun k => oRows X c (k + 112 + 8 + 120) (tk (k + 112 + 8 + 120)) 15 := by
    refine bigSep_congr fun k hk => ?_
    rw [show k + 112 + 8 + 120 = k + 8 * 30 from rfl, show k + 232 = k + 8 * 29 from rfl, oRows_add, oRows_add, (lane_add k 30).2.2,
      show tk k = 0 from Nat.div_eq_of_lt (Finset.mem_range.mp hk)]
  have hfirst : (bigSep (Finset.range 120) fun k => oRows X c (k + 120) (tk (k + 120)) 15)
      = iprop((bigSep (Finset.range 8) fun k => oRows X c (k + 120) (tk (k + 120)) 15) ∗ bigSep (Finset.range 112) fun k => oRows X c k (tk k) 15) :=
    (range_add 8 112 fun k => oRows X c (k + 120) (tk (k + 120)) 15).trans (by simp only [hper])
  have hend : (bigSep (Finset.range 8) fun k => oRows X c (k + 112 + 8 + 120) (tk (k + 112 + 8 + 120)) 15)
      = bigSep (Finset.range 8) fun k => oRows X c (k + 112) (tk (k + 112)) 15 := bigSep_congr fun k _ => hper (k + 112)
  have hall : (bigSep (Finset.range 120) fun k => oRows X c k (tk k) 15)
      = iprop((bigSep (Finset.range 112) fun k => oRows X c k (tk k) 15) ∗ bigSep (Finset.range 8) fun k => oRows X c (k + 112) (tk (k + 112)) 15) :=
    range_add 112 8 fun k => oRows X c k (tk k) 15
  rw [hlast, hfirst, hend]
  unfold outv
  rw [o_gather]
  refine (by_turns c fun d q s => hold c (oS d q s) (acc X d q s 15)).trans ?_
  refine (range_add 120 8 fun k => oRows X c k (tk k) 15).trans ?_
  rw [hall]
  exact turn_round _ _ _

/-! ## The barrier's payloads -/

theorem emp_all (A : Finset ℕ) : (iprop(emp) : sProp 𝕄) ⊢ bigSep A fun _ => (iprop(emp) : sProp 𝕄) := Entails.of_eq (bigSep_emp_const A).symm

theorem bigSep_weaken {A : Finset ℕ} {Φ Ψ : ℕ → sProp 𝕄} (h : ∀ k ∈ A, Φ k ⊢ Ψ k) : bigSep A Φ ⊢ bigSep A Ψ := bigSep_mono h

/-- What a device hands its neighbour with a barrier signal: its own landing blocks of one direction. -/
theorem bar_give (c : Dev nD) (u v : Fin 2) (huv : nbr u (nbr v c) = c) :
    iprop((bigSep ((Finset.range 120).filter fun k => dk k = u) fun k => land (F := F) c k) ∗ bigSep (Finset.range 240) fun k => known X (recvCell c k))
      ⊢ barPay (F := F) (nbr v c) u := by
  unfold barPay
  rw [huv, by_dir 240]
  have hk (d : Fin 2) : (bigSep ((Finset.range 240).filter fun k => dk k = d) fun k => known X (recvCell c k))
      ⊢ bigSep ((Finset.range 240).filter fun k => dk k = d) fun k => (reached ER (recvCell c k) 0 : sProp 𝕄) :=
    bigSep_weaken fun k _ => by unfold known; iintro ⟨-, H⟩; iexact H
  iintro ⟨Hl, H0, H1⟩
  isplitl [Hl]; · iexact Hl
  by_cases hu : u = 0
  · rw [hu]; iapply (hk 0); iexact H0
  · rw [show u = 1 by omega]; iapply (hk 1); iexact H1

/-- What a device gets from both neighbours: a landing block for every transfer of the reduce-scatter it will send. -/
theorem bar_get (c : Dev nD) :
    iprop(barPay (F := F) c 0 ∗ barPay c 1)
      ⊢ iprop((bigSep (Finset.range 240) fun k => if tk k < 15 then land (F := F) (nbr (dk k) c) k else iprop(emp))
        ∗ bigSep (Finset.range 240) fun k => reached ER (recvCell (nbr (dk k) c) k) 0) := by
  have h1 (d : Fin 2) : (bigSep ((Finset.range 120).filter fun k => dk k = d) fun k => land (F := F) (nbr d c) k : sProp 𝕄)
      = bigSep ((Finset.range 120).filter fun k => dk k = d) fun k => land (F := F) (nbr (dk k) c) k :=
    bigSep_congr fun k hk => by rw [(Finset.mem_filter.mp hk).2]
  have h2 (d : Fin 2) : (bigSep ((Finset.range 240).filter fun k => dk k = d) fun k => reached ER (recvCell (nbr d c) k) 0 : sProp 𝕄)
      = bigSep ((Finset.range 240).filter fun k => dk k = d) fun k => reached ER (recvCell (nbr (dk k) c) k) 0 :=
    bigSep_congr fun k hk => by rw [(Finset.mem_filter.mp hk).2]
  have h3 : (bigSep (Finset.range 240) fun k => if tk k < 15 then land (F := F) (nbr (dk k) c) k else iprop(emp) : sProp 𝕄)
      = bigSep (Finset.range 120) fun k => land (F := F) (nbr (dk k) c) k := by
    refine (range_add 120 120 _).trans ?_
    rw [bigSep_congr (Φ := fun k => if tk (k + 120) < 15 then land (F := F) (nbr (dk (k + 120)) c) (k + 120) else iprop(emp)) (Ψ := fun _ => (iprop(emp) : sProp 𝕄))
      fun k _ => if_neg (by rw [show k + 120 = k + 8 * 15 from rfl, (lane_add k 15).2.2]; omega), show (bigSep (Finset.range 120) fun _ => (iprop(emp) : sProp 𝕄)) = iprop(emp) from bigSep_emp_const _]
    refine (BI.equiv_iff.mp sep_emp).trans ?_
    exact bigSep_congr fun k hk => if_pos (by have := Finset.mem_range.mp hk; show k / 8 < 15; omega)
  unfold barPay
  rw [h3, by_dir 120, by_dir 240, h1, h1, h2, h2]
  iintro ⟨⟨H1, H2⟩, H3, H4⟩
  isplitl [H1 H3]
  · isplitl [H1] <;> iassumption
  · isplitl [H2] <;> iassumption

/-! ## A device's start and its end -/

/-- What a device has of the semaphores when its body begins. -/
def start (c : Dev nD) : sProp 𝕄 :=
  iprop((known X (barCell c) ∗ known X (barCell (nbr 1 c)) ∗ known X (barCell (nbr 0 c)))
    ∗ ((bigSep (Finset.range 240) fun k => known X (sendCell c k)) ∗ (bigSep (Finset.range 240) fun k => known X (recvCell c k))
      ∗ bigSep (Finset.range 240) fun k => iprop(∃ κ, cellInv ER (ringRd X) κ (recvCell (nbr (dk k) c) k)))
    ∗ (atPos ER (barCell c) 0 ∅ 0 ∗ cred (tallyAt (barCell c) () 2) ∗ dutyTok ER (barCell (nbr 1 c)) 0 0 ∗ dutyTok ER (barCell (nbr 0 c)) 0 1)
    ∗ bigSep (Finset.range 240) (toks c) ∗ bigSep (Finset.range 240) (awaits c) ∗ (bigSep (Finset.range 240) fun k => atPos ER (sendCell c k) 0 ∅ 0)
    ∗ levAts L lv)

/-- The counters it leaves at zero. -/
def done (c : Dev nD) : sProp 𝕄 :=
  iprop((bigSep (Finset.range 240) fun k => semVal (sendCell c k) 0) ∗ (bigSep (Finset.range 240) fun k => semVal (recvCell c k) 0) ∗ semVal (barCell c) 0)

abbrev scr0 (c : Dev nD) : sProp 𝕄 := iprop(∃ f : Buf (Elt F) ((c : Thread nD τ).loc cc0_scratch0), (c : Thread nD τ).loc cc0_scratch0 ↦{fullShare} f)
abbrev scr1 (c : Dev nD) : sProp 𝕄 := iprop(∃ f : Buf (Elt F) ((c : Thread nD τ).loc cc0_scratch1), (c : Thread nD τ).loc cc0_scratch1 ↦{fullShare} f)

/-- What the list leaves, put together. -/
theorem exit_slots (c : Dev nD) :
    listPost X c ⊢ iprop(((bigSep (Finset.range 240) fun k => semVal (sendCell c k) 0) ∗ bigSep (Finset.range 240) fun k => semVal (recvCell c k) 0)
      ∗ scr0 c ∗ scr1 c ∗ ((c : Thread nD τ).loc cc0_stg0_0 ↦{fullShare} X c) ∗ ((c : Thread nD τ).loc cc0_stg1_0 ↦{fullShare} outv X)) := by
  have hs1 : (bigSep (Finset.range 240) fun k => sendPay X c k)
      = iprop((bigSep (Finset.range 120) fun k => sendPay X c k) ∗ bigSep (Finset.range 120) fun k => oRows X c (k + 120) (tk (k + 120)) 15) := by
    refine (range_add 120 120 _).trans (sep_same rfl (bigSep_congr fun k _ => ?_))
    have : tk (k + 120) = tk k + 15 := (lane_add k 15).2.2
    unfold sendPay; rw [if_neg (by omega), if_neg (by omega)]
  have hs2 : (bigSep (Finset.range 120) fun k => sendPay X c k)
      = iprop((bigSep (Finset.range 8) fun k => xRows X c k 0) ∗ bigSep (Finset.range 112) fun k => sendPay X c (k + 8)) := by
    refine (range_add 8 112 _).trans (sep_same (bigSep_congr fun k hk => ?_) rfl)
    unfold sendPay; rw [if_pos (Nat.div_eq_of_lt (Finset.mem_range.mp hk))]
  have hr : (bigSep (Finset.range 240) fun k => if tk k = 29 then oRows X c k 30 15 else iprop(emp))
      = iprop((bigSep (Finset.range 232) fun k => if tk k = 29 then oRows X c k 30 15 else iprop(emp)) ∗ bigSep (Finset.range 8) fun k => oRows X c (k + 232) 30 15) := by
    refine (range_add 232 8 _).trans (sep_same rfl (bigSep_congr fun k hk => ?_))
    have h8 := Finset.mem_range.mp hk
    exact if_pos (by show (k + 232) / 8 = 29; omega)
  unfold listPost
  rw [bigSep_sep', bigSep_sep', bigSep_sep', hs1, hs2, hr, x_turns, out_turns, by_dir 120 fun k => land (F := F) c k]
  iintro ⟨⟨Hzr, -, Hlast⟩, ⟨Hx1, Hl0, Hl1⟩, Hzs, ⟨Hx0, -⟩, Ho⟩
  isplitl [Hzr Hzs]
  · isplitl [Hzs] <;> iassumption
  isplitl [Hl0]; · iapply (lands_join0 c); iexact Hl0
  isplitl [Hl1]; · iapply (lands_join1 c); iexact Hl1
  isplitl [Hx0 Hx1]
  · isplitl [Hx0] <;> iassumption
  isplitl [Ho] <;> iassumption

/-- Both halves of what a device knows of its neighbours' arrivals. -/
theorem nbr_known (c : Dev nD) :
    iprop((bigSep (Finset.range 240) fun k => iprop(∃ κ, cellInv ER (ringRd X) κ (recvCell (nbr (dk k) c) k)))
        ∗ bigSep (Finset.range 240) fun k => reached ER (recvCell (nbr (dk k) c) k) 0)
      ⊢ bigSep (Finset.range 240) fun k => known X (recvCell (nbr (dk k) c) k) := by
  rw [← bigSep_sep']
  exact bigSep_weaken fun k _ => by unfold known; exact BI.Entails.refl _

theorem before_all (c : Dev nD) :
    iprop(bigSep (Finset.range 240) (toks c) ∗ bigSep (Finset.range 240) fun k => if tk k < 15 then land (F := F) (nbr (dk k) c) k else iprop(emp))
      ⊢ bigSep (Finset.range 240) (before c) := by
  rw [← bigSep_sep']
  exact bigSep_weaken fun k _ => by unfold before; exact BI.Entails.refl _

set_option maxHeartbeats 800000 in
theorem body_run (c : Dev nD) (fo : (cc0_stg1_0 : Ref sig .tc).ty.Contents (Elt F)) (Q : PUnit → sProp 𝕄) :
    iprop(start X c ∗ scr0 c ∗ scr1 c ∗ ((c : Thread nD τ).loc cc0_stg0_0 ↦{fullShare} X c) ∗ ((c : Thread nD τ).loc cc0_stg1_0 ↦{fullShare} fo) ∗ Owes c (O₀ c))
      ⊢ iprop(((done c ∗ scr0 c ∗ scr1 c ∗ ((c : Thread nD τ).loc cc0_stg0_0 ↦{fullShare} X c) ∗ ((c : Thread nD τ).loc cc0_stg1_0 ↦{fullShare} outv X) ∗ Owes c 0) -∗ Q ⟨⟩)
        -∗ WP c (bodyOf ops) Q) := by
  unfold bodyOf start Owes
  simp only [wp_deviceId, dev1_eq c, dev2_eq c]
  iintro ⟨⟨⟨#Hb, #Hb1, #Hb0⟩, ⟨#Hks, #Hkr, #Hin⟩, ⟨Hat, Hc, Ht1, Ht0⟩, Htk, Haw, Has, #Hl⟩, Hs0, Hs1, Hx, Ho, ⟨%W, HO⟩⟩ HQ
  ihave Hl0 := (lands_split0 c) $$ Hs0
  ihave Hl1 := (lands_split1 c) $$ Hs1
  unfold known
  icases Hb with ⟨⟨%κ, #Hi⟩, #Hr⟩
  icases Hb1 with ⟨⟨%κ1, #Hi1⟩, #Hr1⟩
  icases Hb0 with ⟨⟨%κ0, #Hi0⟩, #Hr0⟩
  iapply (Rounds.wp_signal 𝒱₀ ER (ringRd X) (c : Thread nD τ) none (dst := (nbr 1 c : Thread nD τ)) (κ := κ1) (d := 0)
      (by rw [duties_bar]; decide) (by rfl) () (O₁ c) rfl) $$ [HO Ht1 Hl0]
  · isplitr; · iexact Hi1
    isplitl [HO]; · iexact HO
    isplitl [Ht1]; · iexact Ht1
    isplitl [Hl0]
    · rw [payload_bar]
      iapply (bar_give X c 0 1 (nbr_nbr 0 c))
      isplitl [Hl0]; · iexact Hl0
      iexact Hkr
    · iexact Hr1
  iintro HO
  iapply (Rounds.wp_signal 𝒱₀ ER (ringRd X) (c : Thread nD τ) none (dst := (nbr 0 c : Thread nD τ)) (κ := κ0) (d := 1)
      (by rw [duties_bar]; decide) (by rfl) () (Ow c 0) rfl) $$ [HO Ht0 Hl1]
  · isplitr; · iexact Hi0
    isplitl [HO]; · iexact HO
    isplitl [Ht0]; · iexact Ht0
    isplitl [Hl1]
    · rw [payload_bar]
      iapply (bar_give X c 1 0 (nbr_nbr 1 c))
      isplitl [Hl1]; · iexact Hl1
      iexact Hkr
    · iexact Hr0
  iintro HO
  iapply (Rounds.wp_wait_rest_token 𝒱₀ ER (ringRd X) (c : Thread nD τ) none (κ := κ)
      (wpE_semWait_eq 𝒱₀ (c : Thread nD τ) none Set.univ) (Set.mem_univ _) () (O := Ow c 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact Hl
    iexact Hat
  iintro ⟨HO, Hat, -, Hpay⟩
  ihave Hp := (Entails.of_eq (rest_bar X c)) $$ Hpay
  ihave Hp := (bar_get c) $$ Hp
  icases Hp with ⟨Hland, #Hrc⟩
  imod (Rounds.cell_close ER (ringRd X) (Set.mem_univ κ) (fun h => h) (R := 0 + 1) (duties_later X (barCell c))) $$ [Hat] with Hz
  · isplitr; · iexact Hi
    iexact Hat
  ihave He := (entry_slots X c fo) $$ [Hx Ho]
  · isplitl [Hx] <;> iassumption
  icases He with ⟨Hready, Hslots⟩
  iapply (list_run X c (.ret ⟨⟩) Q) $$ [Hready Hslots Htk Hland Haw Has HO]
  · isplitr
    · unfold recs
      isplitr; · unfold known; iexact Hks
      isplitr; · unfold known; iexact Hkr
      iapply (nbr_known X c)
      isplitr; · iexact Hin
      iexact Hrc
    isplitr; · iexact Hl
    isplitr [HO]
    · unfold listPre
      isplitl [Hready]; · iexact Hready
      isplitl [Htk Hland]
      · iapply (before_all c)
        isplitl [Htk] <;> iassumption
      isplitl [Haw]; · iexact Haw
      isplitl [Hslots] <;> iassumption
    · unfold Owes; iexists _; iexact HO
  iintro ⟨Hpost, HO⟩
  unfold WP
  rw [wp_ret]; imodintro
  iapply HQ
  ihave Hpost := (exit_slots X c) $$ Hpost
  icases Hpost with ⟨⟨Hzs, Hzr⟩, Hs0, Hs1, Hx, Ho⟩
  unfold done
  isplitl [Hzs Hzr Hz]
  · isplitl [Hzs]; · iexact Hzs
    isplitl [Hzr] <;> iassumption
  isplitl [Hs0]; · iexact Hs0
  isplitl [Hs1]; · iexact Hs1
  isplitl [Hx]; · iexact Hx
  isplitl [Ho]; · iexact Ho
  unfold Owes; iexact HO

end Device

end Cert.AllReduce

end
-- ==== Proof.Deal.lean ====
/-
# What the launch deals

Every semaphore's invariant is allocated before the program starts: the barriers' with their counters, the transfers'
without, to be opened when the kernel is entered. The permissions to raise a semaphore go to the device that will.
-/
module

public import proofs.«01_k».proof.Proof.Device
public import Idealize.ShloMosaic.Lib.Pipeline.RegionTalk

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The transfers' semaphores: of the departures, then of the arrivals. -/
def dsem : Fin 240 ⊕ Fin 240 → SemLoc sig := Sum.elim (fun k => .dma (sendS k.val)) (fun k => .dma (recvS k.val))

theorem dma_inj {a b : DmaSem sig} (h : (SemLoc.dma a : SemLoc sig) = .dma b) : a.val = b.val := by cases h; rfl
theorem dsem_inj : Function.Injective dsem := by
  rintro (a | a) (b | b) h
  · have h' := congrArg semDec (dma_inj h)
    rw [semDec_send a, semDec_send b] at h'
    exact congrArg Sum.inl (Fin.ext (congrArg Prod.fst h'))
  · have h' := congrArg semDec (dma_inj h)
    rw [semDec_send a, semDec_recv b] at h'
    exact absurd (congrArg Prod.snd h' : _ = _) (by simp)
  · have h' := congrArg semDec (dma_inj h)
    rw [semDec_recv a, semDec_send b] at h'
    exact absurd (congrArg Prod.snd h' : _ = _) (by simp)
  · have h' := congrArg semDec (dma_inj h)
    rw [semDec_recv a, semDec_recv b] at h'
    exact congrArg Sum.inr (Fin.ext (congrArg Prod.fst h'))
theorem dsem_ne_bar (k : Fin 240 ⊕ Fin 240) : dsem k ≠ .reg barSem := by rcases k with k | k <;> exact fun h => by cases h
theorem dsem_scoped : ∀ k, (dsem k).isScoped .tc = true := by decide +kernel
theorem stage_small : ∀ (w : Fin 2) (s : Fin (spec0 w).nbuf), ((spec0 w).sem s).val < 2 := by decide
theorem dsem_facts : Pipeline.OwnSemFacts spec0 dsem where
  isScoped := dsem_scoped
  inj := dsem_inj
  disj k w s h := by
    have hs := stage_small w s
    rcases k with k | k
    · have h1 := dma_inj h; have h2 := (sem_pos k).1; omega
    · have h1 := dma_inj h; have h2 := (sem_pos k).2; omega

/-- Over those semaphores, by the transfers. -/
theorem by_kind (Φ : SemLoc sig → sProp 𝕄) :
    (bigSep Finset.univ fun k => Φ (dsem k))
      = iprop((bigSep (Finset.range 240) fun k => Φ (.dma (sendS k))) ∗ bigSep (Finset.range 240) fun k => Φ (.dma (recvS k))) := by
  rw [bigSep_range, bigSep_range]
  exact bigSep_univ_sum _

def barEmb : Dev nD ↪ GSem nD τ sig := ⟨barCell, fun _ _ h => congrArg (fun g : GSem nD τ sig => g.1.1) h⟩
def dmaEmb : Dev nD × (Fin 240 ⊕ Fin 240) ↪ GSem nD τ sig :=
  ⟨fun ck => ((ck.1 : Thread nD τ), dsem ck.2), fun _ _ h =>
    Prod.ext (congrArg (fun g : GSem nD τ sig => g.1.1) h) (dsem_inj (congrArg Prod.snd h))⟩
abbrev barCells : Finset (GSem nD τ sig) := Finset.univ.map barEmb
abbrev dmaCells : Finset (GSem nD τ sig) := Finset.univ.map dmaEmb

theorem disjoint_cells : Disjoint barCells dmaCells := by
  rw [Finset.disjoint_left]
  rintro g h₁ h₂
  obtain ⟨c, -, rfl⟩ := Finset.mem_map.mp h₁
  obtain ⟨ck, -, h⟩ := Finset.mem_map.mp h₂
  exact dsem_ne_bar ck.2 (congrArg Prod.snd h)

/-- One permission for each of a barrier's two signals and one for each transfer's semaphore. -/
def tokEmb : (Dev nD × Fin 2) ⊕ (Dev nD × (Fin 240 ⊕ Fin 240)) ↪ GSem nD τ sig × ℕ × Fin 2 :=
  ⟨Sum.elim (fun cu => (barCell cu.1, 0, cu.2)) (fun ck => (dmaEmb ck, 0, 0)), by
    rintro (a | a) (b | b) h
    · exact congrArg Sum.inl (Prod.ext (barEmb.injective (congrArg Prod.fst h)) (congrArg (fun t : GSem nD τ sig × ℕ × Fin 2 => t.2.2) h))
    · exact absurd (congrArg (fun t : GSem nD τ sig × ℕ × Fin 2 => t.1.2) h).symm (dsem_ne_bar b.2)
    · exact absurd (congrArg (fun t : GSem nD τ sig × ℕ × Fin 2 => t.1.2) h) (dsem_ne_bar a.2)
    · exact congrArg Sum.inr (dmaEmb.injective (congrArg Prod.fst h))⟩
def allToks : Finset (GSem nD τ sig × ℕ × Fin 2) := Finset.univ.map tokEmb

/-! ## The permissions, each to the device that uses it -/

theorem toks_eq : bigSep allToks (fun x => (dutyTok ER x.1 x.2.1 x.2.2 : sProp 𝕄))
    = iprop((bigSep Finset.univ fun c : Dev nD => iprop(dutyTok ER (barCell c) 0 0 ∗ dutyTok ER (barCell c) 0 1))
      ∗ bigSep Finset.univ fun c : Dev nD => iprop((bigSep (Finset.range 240) fun k => dutyTok ER (sendCell c k) 0 0)
        ∗ bigSep (Finset.range 240) fun k => dutyTok ER (recvCell c k) 0 0)) := by
  unfold allToks
  rw [bigSep_map]
  refine (bigSep_univ_sum _).trans (sep_same ?_ ?_)
  · refine (bigSep_univ_prod _).trans (bigSep_congr fun c _ => bigSep_fin_two _)
  · refine (bigSep_univ_prod _).trans (bigSep_congr fun c _ => ?_)
    exact by_kind fun s => dutyTok ER ((c : Thread nD τ), s) 0 0

/-- A device's transfer, at the device that it goes to. -/
def goesTo : Dev nD × Fin 240 ≃ Dev nD × Fin 240 where
  toFun ck := (nbr (dk ck.2) ck.1, ck.2)
  invFun ck := (nbr (1 - dk ck.2) ck.1, ck.2)
  left_inv ck := Prod.ext (nbr_nbr' _ _) rfl
  right_inv ck := Prod.ext (nbr_nbr _ _) rfl

/-- Each arrival's permission to the device before. -/
theorem recv_around : (bigSep Finset.univ fun c : Dev nD => bigSep (Finset.range 240) fun k => (dutyTok ER (recvCell c k) 0 0 : sProp 𝕄))
    = bigSep Finset.univ fun c : Dev nD => bigSep (Finset.range 240) fun k => dutyTok ER (recvCell (nbr (dk k) c) k) 0 0 := by
  rw [bigSep_congr fun c _ => bigSep_range 240 fun k => (dutyTok ER (recvCell c k) 0 0 : sProp 𝕄),
    bigSep_congr fun c _ => bigSep_range 240 fun k => (dutyTok ER (recvCell (nbr (dk k) c) k) 0 0 : sProp 𝕄)]
  refine (bigSep_univ_prod fun ck : Dev nD × Fin 240 => (dutyTok ER (recvCell ck.1 ck.2) 0 0 : sProp 𝕄)).symm.trans ?_
  rw [bigSep_univ_equiv goesTo]
  exact bigSep_univ_prod fun ck : Dev nD × Fin 240 => (dutyTok ER (recvCell (nbr (dk ck.2) ck.1) ck.2) 0 0 : sProp 𝕄)

/-- The permissions a device uses. -/
def mine (c : Dev nD) : sProp 𝕄 :=
  iprop((dutyTok ER (barCell (nbr 1 c)) 0 0 ∗ dutyTok ER (barCell (nbr 0 c)) 0 1) ∗ bigSep (Finset.range 240) (toks c))

theorem toks_around : bigSep allToks (fun x => (dutyTok ER x.1 x.2.1 x.2.2 : sProp 𝕄)) ⊢ bigSep Finset.univ fun c : Dev nD => (mine c : sProp 𝕄) := by
  have hm (c : Dev nD) : (mine c : sProp 𝕄) = iprop((dutyTok ER (barCell (nbr 1 c)) 0 0 ∗ dutyTok ER (barCell (nbr 0 c)) 0 1)
      ∗ (bigSep (Finset.range 240) fun k => dutyTok ER (sendCell c k) 0 0) ∗ bigSep (Finset.range 240) fun k => dutyTok ER (recvCell (nbr (dk k) c) k) 0 0) := by
    unfold mine toks; rw [bigSep_sep']
  rw [toks_eq, bigSep_congr fun c _ => hm c, bigSep_sep', bigSep_sep', bigSep_sep', bigSep_sep', bigSep_sep', recv_around,
    bigSep_univ_equiv (nbrEquiv 1) fun c : Dev nD => (dutyTok ER (barCell c) 0 0 : sProp 𝕄),
    bigSep_univ_equiv (nbrEquiv 0) fun c : Dev nD => (dutyTok ER (barCell c) 0 1 : sProp 𝕄)]
  exact BI.Entails.refl _

/-! ## The launch's credit: what the others will send a device -/

theorem recv_eq {c d : Dev nD} {j k : ℕ} (hj : j < 240) (hk : k < 240) (h : recvCell c j = recvCell d k) : c = d ∧ j = k := by
  refine ⟨congrArg (fun g : GSem nD τ sig => g.1.1) h, ?_⟩
  have h' := congrArg semDec (dma_inj (congrArg Prod.snd h : SemLoc.dma (recvS j) = SemLoc.dma (recvS k)))
  rw [semDec_recv ⟨j, hj⟩, semDec_recv ⟨k, hk⟩] at h'
  exact congrArg Prod.fst h'
theorem nbr_inj {d : Fin 2} {a b : Dev nD} : nbr d a = nbr d b ↔ a = b := (nbrEquiv d).injective.eq_iff

theorem owed_recv (d c : Dev nD) {k : ℕ} (hk : k < 240) : O₀ d (recvCell c k) () = if d = nbr (1 - dk k) c then N else 0 := by
  have hb (e : Dev nD) : (tallyAt (barCell e) () 1 : CellTallies nD τ sig Unit) (recvCell c k) () = 0 := by
    rw [tallyAt_apply, if_neg fun h => by cases (congrArg Prod.snd h.1 : SemLoc.dma _ = SemLoc.reg _)]
  unfold O₀ O₁ Ow
  rw [Pi.add_apply, Finsupp.add_apply, Pi.add_apply, Finsupp.add_apply, hb, hb, Finset.sum_apply, Finsupp.finset_sum_apply,
    Finset.sum_eq_single_of_mem k (Finset.mem_Ico.mpr ⟨Nat.zero_le _, hk⟩) fun j hj hne => by
      rw [tallyAt_apply, if_neg fun h => hne (recv_eq hk (Finset.mem_Ico.mp hj).2 h.1).2.symm], tallyAt_apply]
  by_cases h : d = nbr (1 - dk k) c
  · subst h; rw [nbr_nbr, if_pos ⟨rfl, rfl⟩, if_pos rfl]; rfl
  · rw [if_neg fun h' => h (by rw [(recv_eq hk hk h'.1).1, nbr_nbr']), if_neg h]

theorem owed_bar (d c : Dev nD) : O₀ d (barCell c) () = (if d = nbr 1 c then 1 else 0) + if d = nbr 0 c then 1 else 0 := by
  have hr : Ow d 0 (barCell c) () = 0 := by
    unfold Ow
    rw [Finset.sum_apply, Finsupp.finset_sum_apply]
    refine Finset.sum_eq_zero fun j _ => ?_
    rw [tallyAt_apply, if_neg fun h => by cases (congrArg Prod.snd h.1 : SemLoc.reg _ = SemLoc.dma _)]
  have hb (e : Fin 2) : (tallyAt (barCell (nbr e d)) () 1 : CellTallies nD τ sig Unit) (barCell c) () = if d = nbr (1 - e) c then 1 else 0 := by
    rw [tallyAt_apply]
    by_cases h : d = nbr (1 - e) c
    · subst h; rw [nbr_nbr, if_pos ⟨rfl, rfl⟩, if_pos rfl]
    · rw [if_neg fun h' => h (by rw [show c = nbr e d from congrArg (fun g : GSem nD τ sig => g.1.1) h'.1, nbr_nbr']), if_neg h]
  unfold O₀ O₁
  rw [Pi.add_apply, Finsupp.add_apply, Pi.add_apply, Finsupp.add_apply, hr, hb, hb, Nat.zero_add]
  rfl

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_ite_eq',
    Finset.sum_ite_eq', if_pos (Finset.mem_univ _), if_pos (Finset.mem_univ _)]
theorem credit_recv (c : Dev nD) {k : ℕ} (hk : k < 240) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c hk, Finset.sum_ite_eq', if_pos (Finset.mem_univ _)]

def creds (c : Dev nD) : sProp 𝕄 :=
  iprop(cred (tallyAt (barCell c) () 2) ∗ bigSep (Finset.range 240) fun k => cred (tallyAt (recvCell c k) () N))

theorem creds_intro (c : Dev nD) : (Pipeline.launchCred O₀ c : sProp 𝕄) ⊢ creds c := by
  have hsub : (Finset.univ.map ⟨fun k : Fin 240 => (SemLoc.dma (recvS k) : SemLoc sig), fun a b h => Sum.inr_injective (dsem_inj (show dsem (.inr a) = dsem (.inr b) from h))⟩)
      ⊆ Finset.univ.erase (SemLoc.reg barSem : SemLoc sig) := fun s hs => by
    obtain ⟨k, -, rfl⟩ := Finset.mem_map.mp hs
    exact Finset.mem_erase.mpr ⟨dsem_ne_bar (.inr k), Finset.mem_univ _⟩
  unfold Pipeline.launchCred creds
  rw [bigSep_univ_at _ (SemLoc.reg barSem), bigSep_range,
    show tallyOn ((c : Thread nD τ), SemLoc.reg barSem) (launchCredit (Pipeline.owing O₀) 0 ((c : Thread nD τ), SemLoc.reg barSem)) = _ from credit_bar c]
  refine sep_mono_right ?_
  refine BIBase.Entails.trans (bigSep_subset hsub) ?_
  rw [bigSep_map]
  exact Entails.of_eq (bigSep_congr fun k _ => congrArg _ (credit_recv c k.2))

section Deal

variable (X : Dev nD → (cc0_stg0_0 : Ref sig .tc).ty.Contents (Elt F))

/-! ## What all may consult -/

def has (g : GSem nD τ sig) : sProp 𝕄 := iprop(∃ κ, cellInv ER (ringRd X) κ g)
instance has_persistent (g : GSem nD τ sig) : Persistent (has X g) := by unfold has; infer_instance

/-- All the invariants, and that the barriers' first round has begun. -/
def records (κ : GSem nD τ sig → ℕ) : sProp 𝕄 :=
  iprop((bigSep (barCells ∪ dmaCells) fun g => cellInv ER (ringRd X) (κ g) g) ∗ bigSep barCells fun g => reached ER g 0)
instance records_persistent (κ : GSem nD τ sig → ℕ) : Persistent (records X κ) := by unfold records; infer_instance

theorem records_has (κ : GSem nD τ sig → ℕ) {g : GSem nD τ sig} (hg : g ∈ barCells ∪ dmaCells) : records X κ ⊢ has X g := by
  have h : (bigSep (barCells ∪ dmaCells) fun g => (cellInv ER (ringRd X) (κ g) g : sProp 𝕄)) ⊢ cellInv ER (ringRd X) (κ g) g := bigSep_elim hg
  unfold records has
  iintro ⟨H, -⟩; iexists (κ g); iapply h; iexact H
theorem records_bar (κ : GSem nD τ sig → ℕ) (c : Dev nD) : records X κ ⊢ iprop(∃ κ, cellInv ER (ringRd X) κ (barCell c)) :=
  records_has X κ (Finset.mem_union_left _ (Finset.mem_map_of_mem barEmb (Finset.mem_univ c)))
theorem records_known (κ : GSem nD τ sig → ℕ) (c : Dev nD) : records X κ ⊢ known X (barCell c) := by
  have h : (bigSep barCells fun g => (reached ER g 0 : sProp 𝕄)) ⊢ reached ER (barCell c) 0 := bigSep_elim (Finset.mem_map_of_mem barEmb (Finset.mem_univ c))
  unfold known
  iintro #H
  isplitr; · iapply (records_bar X κ c); iexact H
  unfold records
  icases H with ⟨-, Hr⟩
  iapply h; iexact Hr
theorem records_dma (κ : GSem nD τ sig → ℕ) (c : Dev nD) (i : Fin 240 ⊕ Fin 240) : records X κ ⊢ has X ((c : Thread nD τ), dsem i) :=
  records_has X κ (Finset.mem_union_right _ (Finset.mem_map_of_mem dmaEmb (Finset.mem_univ (c, i))))

/-- Of these, what concerns device `c`. -/
def facts (c : Dev nD) : sProp 𝕄 :=
  iprop((known X (barCell c) ∗ known X (barCell (nbr 1 c)) ∗ known X (barCell (nbr 0 c)))
    ∗ (bigSep (Finset.range 240) fun k => has X (sendCell c k)) ∗ (bigSep (Finset.range 240) fun k => has X (recvCell c k))
      ∗ bigSep (Finset.range 240) fun k => has X (recvCell (nbr (dk k) c) k))
instance facts_persistent (c : Dev nD) : Persistent (facts X c) := by unfold facts; infer_instance

theorem each_of {R : sProp 𝕄} [Persistent R] {A : Finset ℕ} {Φ : ℕ → sProp 𝕄} (h : ∀ k ∈ A, R ⊢ Φ k) : R ⊢ bigSep A Φ :=
  BIBase.Entails.trans (bigSep_of_persistent A R) (bigSep_mono h)

theorem facts_intro (κ : GSem nD τ sig → ℕ) (c : Dev nD) : records X κ ⊢ facts X c := by
  have hs (c : Dev nD) : ∀ k ∈ Finset.range 240, records X κ ⊢ has X (sendCell c k) := fun k hk => records_dma X κ c (.inl ⟨k, Finset.mem_range.mp hk⟩)
  have hr (c : ℕ → Dev nD) : ∀ k ∈ Finset.range 240, records X κ ⊢ has X (recvCell (c k) k) := fun k hk => records_dma X κ (c k) (.inr ⟨k, Finset.mem_range.mp hk⟩)
  unfold facts
  iintro #H
  isplitr
  · isplitr; · iapply (records_known X κ c); iexact H
    isplitr; · iapply (records_known X κ (nbr 1 c)); iexact H
    iapply (records_known X κ (nbr 0 c)); iexact H
  isplitr; · iapply (each_of (hs c)); iexact H
  isplitr; · iapply (each_of (hr fun _ => c)); iexact H
  iapply (each_of (hr fun k => nbr (dk k) c)); iexact H

/-! ## The kernel's entry -/

/-- What a device holds for the kernel from the launch on. -/
def linear (c : Dev nD) : sProp 𝕄 :=
  iprop(atPos ER (barCell c) 0 ∅ 0
    ∗ ((bigSep (Finset.range 240) fun k => openTok ER (sendCell c k)) ∗ bigSep (Finset.range 240) fun k => openTok ER (recvCell c k)) ∗ mine c)
def kept (c : Dev nD) : sProp 𝕄 := iprop(facts X c ∗ linear c ∗ creds c)

theorem open_one (g : GSem nD τ sig) :
    iprop(has X g ∗ openTok ER g ∗ semVal g 0) ⊢ (|={Set.univ}=> iprop(known X g ∗ atPos ER g 0 ∅ 0) : sProp 𝕄) := by
  unfold has known
  iintro ⟨⟨%κ, #Hi⟩, Ho, Hv⟩
  imod (Rounds.cell_open ER (ringRd X) (g := g) (Set.mem_univ κ)) $$ [Ho Hv] with ⟨Hat, #Hr⟩
  · isplitr; · iexact Hi
    isplitl [Ho] <;> iassumption
  imodintro
  isplitr
  · isplitr; · iexists κ; iexact Hi
    iexact Hr
  iexact Hat

theorem open_all (g : ℕ → GSem nD τ sig) :
    iprop((bigSep (Finset.range 240) fun k => has X (g k)) ∗ (bigSep (Finset.range 240) fun k => openTok ER (g k)) ∗ bigSep (Finset.range 240) fun k => semVal (g k) 0)
      ⊢ (|={Set.univ}=> iprop((bigSep (Finset.range 240) fun k => known X (g k)) ∗ bigSep (Finset.range 240) fun k => atPos ER (g k) 0 ∅ 0) : sProp 𝕄) := by
  rw [← bigSep_sep', ← bigSep_sep', ← bigSep_sep']
  exact BIBase.Entails.trans (bigSep_mono fun k _ => open_one X (g k)) (bigSep_fupd _ _)

theorem ownSems_eq (c : Dev nD) : (Pipeline.ownSems0 (Ix := Unit) (Name := ℕ) (U := UU) (Lvl := ℕ) (Val := Elt F) (τ := τ) dsem c : sProp 𝕄)
    = iprop((bigSep (Finset.range 240) fun k => semVal (sendCell c k) 0) ∗ bigSep (Finset.range 240) fun k => semVal (recvCell c k) 0) :=
  by_kind fun s => semVal ((c : Thread nD τ), s) 0

theorem kernel_open (c : Dev nD) :
    iprop(kept X c ∗ Pipeline.ownSems0 dsem c ∗ levAts L lv) ⊢ (|={Set.univ}=> start X c : sProp 𝕄) := by
  rw [ownSems_eq]
  unfold kept facts linear mine creds start awaits
  rw [bigSep_sep']
  iintro ⟨⟨⟨#Hb, #Hs, #Hr, #Hn⟩, ⟨Hat, ⟨Hos, Hor⟩, ⟨Ht1, Ht0⟩, Htk⟩, Hc, Hcr⟩, ⟨Hvs, Hvr⟩, #Hl⟩
  imod (open_all X (sendCell c)) $$ [Hos Hvs] with ⟨#Hks, Has⟩
  · isplitr; · iexact Hs
    isplitl [Hos] <;> iassumption
  imod (open_all X (recvCell c)) $$ [Hor Hvr] with ⟨#Hkr, Har⟩
  · isplitr; · iexact Hr
    isplitl [Hor] <;> iassumption
  imodintro
  isplitr; · iexact Hb
  isplitr
  · isplitr; · iexact Hks
    isplitr; · iexact Hkr
    unfold has; iexact Hn
  isplitl [Hat Hc Ht1 Ht0]
  · isplitl [Hat]; · iexact Hat
    isplitl [Hc]; · iexact Hc
    isplitl [Ht1] <;> iassumption
  isplitl [Htk]; · iexact Htk
  isplitl [Har Hcr]
  · isplitl [Har] <;> iassumption
  isplitl [Has]; · iexact Has
  iexact Hl

/-! ## The launch itself -/

/-- The protocol's ghost state at launch. -/
def seed : sProp 𝕄 := BI.own (ER (launchOf barCells dmaCells allToks))

theorem kept_intro (κ : GSem nD τ sig → ℕ) (c : Dev nD) (Y : sProp 𝕄) :
    iprop(records X κ ∗ (linear c ∗ creds c ∗ Y)) ⊢ iprop(kept X c ∗ Y) := by
  unfold kept
  iintro ⟨#H, Hl, Hc, HY⟩
  isplitr [HY]
  · isplitr; · iapply (facts_intro X κ c); iexact H
    isplitl [Hl] <;> iassumption
  iexact HY

theorem pair_up {Φ Ψ : Dev nD → sProp 𝕄} : iprop(bigSep Finset.univ Φ ∗ bigSep Finset.univ Ψ) ⊢ bigSep Finset.univ fun c => iprop(Φ c ∗ Ψ c) :=
  Entails.of_eq (bigSep_sep' Finset.univ Φ Ψ).symm

/-- From the barriers' counters, the ghost state and the credits: every device's holdings, whatever else it has. -/
theorem deal (Y : Dev nD → sProp 𝕄) :
    iprop((bigSep Finset.univ fun c : Dev nD => semVal (barCell c) 0) ∗ seed ∗ (bigSep Finset.univ fun c : Dev nD => creds c) ∗ bigSep Finset.univ Y)
      ⊢ (|={Set.univ}=> bigSep Finset.univ fun c : Dev nD => iprop(kept X c ∗ Y c) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => iprop((bigSep (Finset.range 240) fun k => openTok ER (sendCell c k)) ∗ bigSep (Finset.range 240) fun k => openTok ER (recvCell c k))) :=
    Entails.of_eq (by
      rw [bigSep_map, bigSep_univ_prod]
      exact bigSep_congr fun c _ => by_kind fun s => openTok ER ((c : Thread nD τ), s))
  unfold seed
  iintro ⟨Hv, Hu, Hc, HY⟩
  imod (Rounds.fund_launch ER (ringRd X) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records X κ) (Φ := fun c => iprop(linear c ∗ creds c ∗ Y c)) fun c _ => kept_intro X κ c (Y c))
  isplitr
  · unfold records
    isplitr; · iexact Hinv
    iexact Hr
  iapply pair_up
  isplitr [Hc HY]
  · unfold linear
    iapply pair_up; isplitl [Hat]; · iapply hat $$ Hat
    iapply pair_up; isplitl [Hopen]; · iapply hopen $$ Hopen
    iapply toks_around; iexact Htok
  iapply pair_up
  isplitl [Hc] <;> iassumption

end Deal

end Cert.AllReduce

end
-- ==== Proof.Whole.lean ====
/-
# The run of the whole program

The host reshapes each device's block, the kernel's one region copies it in, runs the body and copies the result out.
-/
module

public import proofs.«01_k».proof.Proof.Deal
public import proofs.«01_k».proof.Proof.Gen.KernelIdeal.Frame
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- Each device's buffers at launch and once the host has reshaped. -/
def V₀ (c : Dev nD) : Valuation τ sig (Elt F) := fun b => m (c, b)
def V₁ (c : Dev nD) : Valuation τ sig (Elt F) := StableHlo.after hostOps0 (V₀ m c)

/-- What the region copies in. -/
def stg (c : Dev nD) : (cc0_stg0_0 : Ref sig .tc).ty.Contents (Elt F) := iblk m c 0 t0_0

/-- What the body finds and leaves. -/
def dats (c : Dev nD) : Dat τ (Elt F) Unit ℕ UU ℕ cfg0 c where
  A w := V₁ m c (Proc.devRef .tc (Pipeline.arrRef spec0 w))
  after w _ := match w with
    | ⟨0, _⟩ => stg m c
    | ⟨1, _⟩ => outv (stg m)
  Φ t := match t with
    | ⟨0, _⟩ => iprop((∃ r, prngReg c r) ∗ start (stg m) c ∗ scr0 c ∗ scr1 c)
    | ⟨_ + 1, _⟩ => iprop((∃ r, prngReg c r) ∗ done c ∗ scr0 c ∗ scr1 c)
  q _ := fullShare
  owed t := match t with
    | ⟨0, _⟩ => O₀ c
    | ⟨_ + 1, _⟩ => 0

def adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩, c => dats m c

/-- The result, as the region leaves it, and the buffers then. -/
def res (c : Dev nD) : (main_v2 : Ref sig .tc).ty.Contents (Elt F) := (dats m c).arrAt (1 : Fin 2) cfg0.N
def V₂ (c : Dev nD) : Valuation τ sig (Elt F) := Function.update (V₁ m c) (Proc.devRef .tc main_v2) (res m c)

/-! ## The body -/

theorem owed_elim (c : Dev nD) (t : Fin (cfg0.N + 1)) (O : CellTallies nD τ sig Unit) (h : (dats m c).owed t = O) :
    ((dats m c).owesAt () t : sProp 𝕄) ⊢ Owes c O := by
  unfold Dat.owesAt Pipeline.owesWithin Owes; rw [h]
  iintro ⟨%W, -, H⟩; iexists W; iexact H
theorem owed_intro (c : Dev nD) (t : Fin (cfg0.N + 1)) (O : CellTallies nD τ sig Unit) (h : (dats m c).owed t = O) :
    (Owes c O : sProp 𝕄) ⊢ (dats m c).owesAt () t := by
  unfold Dat.owesAt Pipeline.owesWithin Owes Dat.bound; rw [h]
  iintro ⟨%W, H⟩; iexists W
  isplitr; · ipureintro; exact fun _ _ => Or.inl trivial
  iexact H

abbrev held1 (c : Dev nD) (b : Ref sig .tc) (f : b.ty.Contents (Elt F)) : sProp 𝕄 :=
  iprop(∃ g, ⌜g = f⌝ ∗ ((c : Thread nD τ).loc b) ↦{fullShare} g)

set_option maxRecDepth 4000 in
def bodyPre (c : Dev nD) : sProp 𝕄 :=
  iprop(((∃ r, prngReg c r) ∗ start (stg m) c ∗ scr0 c ∗ scr1 c) ∗ (dats m c).owesAt () t0_0.castSucc
    ∗ (∃ d, held1 c cc0_stg0_0 ((dats m c).before (0 : Fin 2) t0_0 d)) ∗ ∃ d, held1 c cc0_stg1_0 ((dats m c).before (1 : Fin 2) t0_0 d))
def bodyPost (c : Dev nD) : sProp 𝕄 :=
  iprop(((∃ r, prngReg c r) ∗ done c ∗ scr0 c ∗ scr1 c) ∗ (dats m c).owesAt () t0_0.succ
    ∗ held1 c cc0_stg0_0 (stg m c) ∗ held1 c cc0_stg1_0 (outv (stg m)))

theorem body_sound (c : Dev nD) : bodyPre m c ⊢ WP c (bodyOf ops) (fun _ => bodyPost m c) := by
  unfold bodyPre bodyPost
  iintro ⟨⟨Hp, Hs, H0, H1⟩, Ho, ⟨%d0, %g0, %hg0, Hx⟩, ⟨%d1, %g1, -, Hout⟩⟩
  have hx : g0 = stg m c := by rw [hg0]; unfold Dat.before; rw [if_pos (fetch0_0 t0_0)]; rfl
  subst hx
  ihave Ho := (owed_elim m c t0_0.castSucc (O₀ c) rfl) $$ Ho
  iapply (body_run (stg m) c g1 fun _ => _) $$ [Hs H0 H1 Hx Hout Ho]
  · isplitl [Hs]; · iexact Hs
    isplitl [H0]; · iexact H0
    isplitl [H1]; · iexact H1
    isplitl [Hx]; · iexact Hx
    isplitl [Hout]; · iexact Hout
    iexact Ho
  iintro ⟨Hd, H0, H1, Hx, Hout, Ho⟩
  isplitl [Hp Hd H0 H1]
  · isplitl [Hp]; · iexact Hp
    isplitl [Hd]; · iexact Hd
    isplitl [H0] <;> iassumption
  isplitl [Ho]; · iapply (owed_intro m c t0_0.succ 0 rfl); iexact Ho
  isplitl [Hx]
  · iexists _; isplitr; · (ipureintro; rfl)
    iexact Hx
  iexists _; isplitr; · (ipureintro; rfl)
  iexact Hout

attribute [local irreducible] cc0_body in
set_option maxRecDepth 4000 in
theorem body_obligation (c : Dev nD) : BodyObligation (dats (F := F) m c) (defs₀ (F := F)) 𝒱₀ () Set.univ := fun t => by
  rw [fin_N0 t, bigSep_W0, bigSep_W0]
  simp only [owns_whole_eq]
  show bodyPre m c ⊢ WP c (cc0_body (F := F) xM (Memref.isWhole_whole _) oM (Memref.isWhole_whole _) (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9) (fun _ => bodyPost m c)
  rw [body_eq]
  exact body_sound m c

/-! ## The region -/

theorem out_array : Proc.devRef .tc (Pipeline.arrRef spec0 (1 : Fin 2)) = (Proc.devRef .tc main_v2 : DevRef τ sig) := rfl
theorem in_array : Proc.devRef .tc (Pipeline.arrRef spec0 (0 : Fin 2)) = (Proc.devRef .tc main_v1 : DevRef τ sig) := rfl
theorem in_ne_out : (Proc.devRef .tc main_v1 : DevRef τ sig) ≠ Proc.devRef .tc main_v2 := StableHlo.devRef_ne_of_ne (by decide)
theorem arg_ne_out : (Proc.devRef .tc main_arg0 : DevRef τ sig) ≠ Proc.devRef .tc main_v2 := StableHlo.devRef_ne_of_ne (by decide)

/-- The buffers that the region does not stage. -/
abbrev aside : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 (by decide)

theorem V₂_aside (c : Dev nD) (b : DevRef τ sig) (hb : b ∈ aside \ ∅) : V₂ m c b = V₁ m c b := by
  refine Function.update_of_ne (fun h => ?_) _ _
  subst h
  rw [Finset.sdiff_empty] at hb
  refine (Finset.mem_sdiff.mp hb).2 ?_
  exact Finset.mem_map_of_mem _ (Finset.mem_image_of_mem _ (Finset.mem_univ (1 : Fin 2)))

theorem owed_cut (c : Dev nD) (t : Fin (cfg0.N + 1)) (g : GSem nD τ sig) (i : Unit) (h : 0 < (dats m c).owed t g i) : i ∈ L g ∧ (0 : ℕ) < lv g i := by
  have h' : 0 < O₀ c g i := by
    obtain ⟨t, ht⟩ := t
    rcases t with _ | t
    · exact h
    · exact absurd h (Nat.lt_irrefl 0)
  rcases O₀_pos h' with ⟨k, hk, rfl⟩ | ⟨d, rfl⟩
  · exact ⟨Finset.mem_singleton_self _, by rw [lv_recv _ k hk]; omega⟩
  · exact ⟨Finset.mem_singleton_self _, Nat.one_pos⟩

theorem stage_lv (c : Dev nD) (w : Fin 2) (s : Fin (spec0 w).nbuf) : lv ((c : Thread nD τ), .dma ((spec0 w).sem s)) () ≤ 0 := by
  have h := stage_small w s
  dsimp only [lv]; rw [if_neg (by omega)]

theorem held_none (c : Dev nD) (W : Valuation τ sig (Elt F)) : (StableHlo.held (c.tc : Thread nD τ) ∅ W : sProp 𝕄) = BI.emp := by
  unfold StableHlo.held; exact BI.bigSep_empty

theorem region_in (c : Dev nD) : iprop(Pipeline.scopedRest spec0 c ∗ (∃ r, prngReg c r) ∗ StableHlo.held (c.tc : Thread nD τ) ∅ (V₁ m c) ∗ start (stg m) c)
    ⊢ ((dats m c).Φ 0 : sProp 𝕄) := by
  rw [show (dats m c).Φ 0 = iprop((∃ r, prngReg c r) ∗ start (stg m) c ∗ scr0 c ∗ scr1 c) from rfl, scopedRest0_eq, held_none]
  iintro ⟨⟨H0, H1⟩, Hp, -, Hs⟩
  isplitl [Hp]; · iexact Hp
  isplitl [Hs]; · iexact Hs
  isplitl [H0] <;> iassumption

theorem region_out (c : Dev nD) : ((dats m c).Φ (Fin.last cfg0.N) : sProp 𝕄)
    ⊢ iprop(Pipeline.scopedRest spec0 c ∗ (∃ r, prngReg c r) ∗ StableHlo.held (c.tc : Thread nD τ) ∅ (V₂ m c) ∗ Pipeline.ownSems0 dsem c ∗ semVal (barCell c) 0) := by
  rw [show (dats m c).Φ (Fin.last cfg0.N) = iprop((∃ r, prngReg c r) ∗ done c ∗ scr0 c ∗ scr1 c) from rfl, scopedRest0_eq, held_none, ownSems_eq]
  unfold done
  iintro ⟨Hp, ⟨Hs, Hr, Hb⟩, H0, H1⟩
  isplitl [H0 H1]; · isplitl [H0] <;> iassumption
  isplitl [Hp]; · iexact Hp
  isplitr; · iempintro
  isplitl [Hs Hr]; · isplitl [Hs] <;> iassumption
  iexact Hb

theorem share_full (c : Dev nD) (w : Fin 2) : (dats m c).share w = fullShare := by unfold Dat.share; split <;> rfl

theorem arr_first (c : Dev nD) : ∀ w : Fin 2, (dats m c).arrAt w 0 = V₁ m c (Proc.devRef .tc (Pipeline.arrRef spec0 w)) := fun w => rfl
theorem arr_last (c : Dev nD) : ∀ w : Fin 2, (dats m c).arrAt w cfg0.N = V₂ m c (Proc.devRef .tc (Pipeline.arrRef spec0 w))
  | ⟨0, _⟩ => ((dats m c).arrAt_in (0 : Fin 2) rfl _).trans (Function.update_of_ne in_ne_out (res m c) (V₁ m c)).symm
  | ⟨1, _⟩ => (Function.update_self (Proc.devRef .tc main_v2) (res m c) (V₁ m c)).symm

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 dsem dsem_facts
    ∅ aside (Finset.empty_subset _) launch0.toP rfl (fun c => (body_obligation m c).loose)
    (fun _ => 0) O₀ (fun c => (zero_add _).symm) (fun _ => rfl) (fun _ => rfl) (share_full m)
    (V₁ m) (V₂ m) (V₂_aside m)
    (kept (stg m)) (fun c => semVal (barCell c) 0) (start (stg m)) (fun c => semVal (barCell c) 0) (kernel_open (stg m)) (region_in m) (region_out m)
    (fun c => by iintro H; imodintro; iexact H)
    (fun _ => 0)
    ⟨fun _ _ _ => Finset.mem_singleton_self _, fun c w s => stage_lv c w s, fun c t g i h => owed_cut m c t g i h⟩
    (fun _ => iprop(emp)) (arr_first m) (arr_last m)

/-! ## The segments -/

/-- What a device keeps while the host reshapes. -/
def rides (c : Dev nD) : sProp 𝕄 := iprop((∃ r, prngReg c r) ∗ kept (stg m) c ∗ Owes c (O₀ c))

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (V₀ m) (rides m)

abbrev T₀ (c : Dev nD) : sProp 𝕄 := iprop(StableHlo.held (c.tc : Thread nD τ) (Pipeline.ucRefs τ sig) (V₀ m c) ∗ rides m c)
abbrev Tₙ (c : Dev nD) : sProp 𝕄 := iprop(StableHlo.held (c.tc : Thread nD τ) (Pipeline.ucRefs τ sig) (V₂ m c) ∗ semVal (barCell c) 0)

theorem region_pre (c : Dev nD) : iprop(StableHlo.held (c.tc : Thread nD τ) (Pipeline.ucRefs τ sig) (V₁ m c) ∗ rides m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) aside (V₁ m c) ∗ emp) ∗ kept (stg m) c ∗ ∃ Wd, owes (c : Thread nD τ) (0 + O₀ c) Wd)
  rw [StableHlo.held_sub_split _ arr_sub, zero_add]
  unfold rides Owes
  iintro ⟨⟨Ha, Hr⟩, Hp, Hk, HO⟩
  isplitl [Ha]; · iexact Ha
  isplitl [Hp]; · iexact Hp
  isplitl [Hr]
  · isplitl [Hr]; · iexact Hr
    iempintro
  isplitl [Hk]; · iexact Hk
  iexact HO

theorem region_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) aside (V₂ m c) ∗ emp) ∗ semVal (barCell c) 0 ∗ ∃ Wd, owes (c : Thread nD τ) (0 : CellTallies nD τ sig Unit) Wd) ⊢ _
  unfold Tₙ
  rw [StableHlo.held_sub_split _ arr_sub]
  iintro ⟨Ha, -, ⟨Hr, -⟩, Hb, HO⟩
  isplitr [HO]
  · isplitr [Hb]
    · isplitl [Ha] <;> iassumption
    iexact Hb
  iexact HO

def segs : List (Pipeline.Seg (pcfgs (F := F)) adm (pdats m) () defs₀ 𝒱₀ L lv) := [.host (seg0 m), .region (reg0 m)]
theorem main_eq (c : Dev nD) : main (F := F) c = Pipeline.Seg.run (segs m) := main_segs adm (pdats m) () 𝒱₀ L lv (seg0 m) (reg0 m) rfl c

/-! ## The launch -/

def u₀ : UU :=
  (initOf (Pipeline.cells (Pipeline.pin (pcfgs (F := F)) adm) cellOf_inj) (Pipeline.launchToks (Pipeline.pin (pcfgs (F := F)) adm) cellOf_inj),
    launchOf barCells dmaCells allToks)

/-- The protocol's ghost state is one device's until it is dealt. -/
def G (c : Dev nD) : sProp 𝕄 := if c = 0 then seed else iprop(emp)
theorem G_all : bigSep Finset.univ (G (F := F)) = seed := by
  have h : bigSep (Finset.univ.erase 0) (G (F := F)) = BI.emp :=
    (bigSep_congr (Ψ := fun _ => (BI.emp : sProp 𝕄)) fun c hc => if_neg (Finset.ne_of_mem_erase hc)).trans (BI.bigSep_emp_const _)
  rw [bigSep_univ_at _ (0 : Dev nD), h]
  exact (congrArg (fun P => iprop(P ∗ BI.emp)) (if_pos rfl)).trans (BI.equiv_iff.mp sep_emp)

theorem unscoped_eq : ∀ sm : SemLoc sig, sm.isScoped .tc = false → sm = .reg barSem := by decide +kernel
theorem unscopedSems_eq (c : Dev nD) : (unscopedSems0 (Ix := Unit) (Name := ℕ) (U := UU) (Lvl := ℕ) (Val := Elt F) (τ := τ) c : sProp 𝕄) = semVal (barCell c) 0 := by
  unfold unscopedSems0
  rw [show (Finset.univ.filter fun sm : SemLoc sig => ¬ sm.isScoped .tc) = {SemLoc.reg barSem} from Finset.ext fun sm => by
    rw [Finset.mem_filter, Finset.mem_singleton]
    exact ⟨fun h => unscoped_eq sm (Bool.not_eq_true _ ▸ h.2), fun h => ⟨Finset.mem_univ _, by rw [h]; decide⟩⟩, BI.bigSep_singleton]

def other (c : Dev nD) : sProp 𝕄 :=
  iprop(StableHlo.held (c.tc : Thread nD τ) (Pipeline.ucRefs τ sig) (V₀ m c) ∗ (∃ r, prngReg c r) ∗ Owes c (O₀ c))

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(semVal (barCell c) 0 ∗ G c ∗ creds c ∗ other m c) : sProp 𝕄) := by
    rw [show unscopedBufs c (fun b => m ((c : Thread nD τ).loc b)) = StableHlo.held (c.tc : Thread nD τ) (Pipeline.ucRefs τ sig) (V₀ m c) from
        Pipeline.unscopedBufs_held c (V₀ m c), unscopedSems_eq]
    unfold other Owes
    iintro ⟨Hh, Hb, HO, Hcr, Hp, HG⟩
    isplitl [Hb]; · iexact Hb
    isplitl [HG]; · iexact HG
    isplitl [Hcr]; · iapply (creds_intro (F := F) c); iexact Hcr
    isplitl [Hh]; · iexact Hh
    isplitl [Hp]; · iexists (ρ c); iexact Hp
    iexists ∅; iexact HO
  have hlast (c : Dev nD) : iprop(kept (stg m) c ∗ other m c) ⊢ (T₀ m c : sProp 𝕄) := by
    unfold other T₀ rides
    iintro ⟨Hk, Hh, Hp, HO⟩
    isplitl [Hh]; · iexact Hh
    isplitl [Hp]; · iexact Hp
    isplitl [Hk] <;> iassumption
  have hall : (bigSep Finset.univ fun c : Dev nD => (iprop(semVal (barCell c) 0 ∗ G c ∗ creds c ∗ other m c) : sProp 𝕄))
      = iprop((bigSep Finset.univ fun c : Dev nD => semVal (barCell c) 0) ∗ seed ∗ (bigSep Finset.univ fun c : Dev nD => creds c) ∗ bigSep Finset.univ (other m)) := by
    rw [bigSep_sep', bigSep_sep', bigSep_sep', G_all]
  have hdeal := BIBase.Entails.trans (deal (stg m) (other m)) (fupd_mono (bigSep_mono fun c _ => hlast c))
  have hfirst : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ⊢ (|={Set.univ}=> bigSep Finset.univ (T₀ m) : sProp 𝕄) :=
    BIBase.Entails.trans (bigSep_mono fun c _ => hcore c) (BIBase.Entails.trans (Entails.of_eq hall) hdeal)
  iintro ⟨H, -⟩
  iapply hfirst; iexact H

/-! ## The run -/

theorem V₁_arg (c : Dev nD) : V₁ m c (Proc.devRef .tc main_arg0) = m ((c : Thread nD τ).loc main_arg0) := V_main_arg0 m c
theorem V₂_arg (c : Dev nD) : V₂ m c (Proc.devRef .tc main_arg0) = m ((c : Thread nD τ).loc main_arg0) :=
  (Function.update_of_ne arg_ne_out (res m c) (V₁ m c)).trans (V₁_arg m c)
theorem V₂_res (c : Dev nD) : V₂ m c (Proc.devRef .tc main_v2) = res m c := by
  unfold V₂; exact Function.update_self _ _ _

theorem two_held (c : Dev nD) (W : Valuation τ sig (Elt F)) : (StableHlo.held (c.tc : Thread nD τ) (Pipeline.ucRefs τ sig) W : sProp 𝕄)
    ⊢ iprop((((c : Thread nD τ).loc main_arg0) ↦{fullShare} W (Proc.devRef .tc main_arg0)) ∗ ((c : Thread nD τ).loc main_v2) ↦{fullShare} W (Proc.devRef .tc main_v2)) := by
  have hsub : ({Proc.devRef .tc main_arg0, Proc.devRef .tc main_v2} : Finset (DevRef τ sig)) ⊆ Pipeline.ucRefs τ sig := by decide
  rw [StableHlo.held_sub_split _ hsub]
  unfold StableHlo.held
  rw [bigSep_insert (by rw [Finset.mem_singleton]; exact arg_ne_out), bigSep_singleton]
  iintro ⟨H, -⟩
  iexact H

set_option backward.isDefEq.respectTransparency.types false in
/-- Every run of the program ends with each device's argument as it was, its result as the region leaves it and every semaphore at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = res m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      rw [G_all]
      unfold u₀ seed
      iintro Hu
      ihave H := (ownU_pair _ _) $$ Hu
      icases H with ⟨HP, HX⟩
      imodintro
      isplitl [HP]; · iexact HP
      iexact HX)
    (T₀ := T₀ m) (Tₙ := Tₙ m)
    (hch := ⟨fun c => .rfl, fun c => region_pre m c, fun c => region_post m c⟩)
    (hinit := init m ρ)
    (QY := fun c s => (s.mem ((Memref.whole main_arg0).view.loc (c : Thread nD τ)) = V₂ m c (Proc.devRef .tc main_arg0)
        ∧ s.mem ((Memref.whole main_v2).view.loc (c : Thread nD τ)) = V₂ m c (Proc.devRef .tc main_v2))
      ∧ s.sem (barCell c) = 0)
    (hfin := fun c s' => by
      dsimp only [Tₙ]
      iintro ⟨⟨Hh, Hb0⟩, HSI⟩
      ihave Hh := (two_held c (V₂ m c)) $$ Hh
      icases Hh with ⟨Hx, Hy⟩
      icombine HSI Hx gives %hx
      icombine HSI Hy gives %hy
      icombine HSI Hb0 gives %hb
      imodintro
      isplitr
      · ipureintro
        exact ⟨⟨Buf.eq_of_forall_mem_univ hx, Buf.eq_of_forall_mem_univ hy⟩, by simpa using hb⟩
      iexact HSI)
    (hQ := fun s h hs => ⟨fun c => ⟨(h c).1.1.trans (V₂_arg m c), (h c).1.2.trans (V₂_res m c)⟩,
      sem_eq_zero hs fun c sm hsm => by
        obtain rfl := unscoped_eq sm hsm
        exact (h c).2⟩)

end Cert.AllReduce

end
-- ==== Proof.Value.lean ====
/-
# What the result is

On exact values the turns of a slot add the sixteen devices' blocks, in an order that does not matter; the reference adds
the same elements along its three leading axes.
-/
module

public import proofs.«01_k».proof.Defs
public import proofs.«01_k».proof.Proof.Whole
public import proofs.«01_k».proof.Proof.Gen.ReferenceIdeal
public import Idealize.ShloMosaic.Lib.Pipeline.ValueKit.Geometry
public import Idealize.ShloMosaic.Lib.Pointwise.Reduce
public import Idealize.ShloMosaic.Lib.Pointwise.Reshape
public import Idealize.ShloMosaic.Lib.StableHlo.Run
public import Idealize.ShloMosaic.PureOps.Ideal.Laws

@[expose] public section

noncomputable section

namespace Cert.AllReduce

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-! ## The region's arrays -/

/-- The region writes the whole result once. -/
theorem res_eq (c : Dev nD) : res m c = outv (stg m) :=
  (dats m c).arrAt_eq_of_after_last (1 : Fin 2) t0_0 (by decide +kernel) (outv (stg m)) fun j => rfl

/-- An element of a device's block, from its row and column. -/
abbrev atBlock (i : S2048x1024.Idx) : S1x1x1x2048x1024.Idx := ix5 0 0 0 (i 0) (i 1)

theorem reshape_atBlock (i : S2048x1024.Idx) :
    Shape.reshapeEquiv (s := S1x1x1x2048x1024) shapeCasts_S1x1x1x2048x1024_S2048x1024 i = atBlock i := by
  simp only [pointwise]

/-- What a device stages is its block. -/
theorem stg_at (c : Dev nD) (i : S2048x1024.Idx) : stg m c i = m ((c : Thread nD τ).loc main_arg0) (atBlock i) := by
  rw [← reshape_atBlock]
  unfold stg
  blk_simp [iblk]
  have hi : (win0_0.blk t0_0).view.emb i = i := funext fun a => Fin.ext (by
    have h : win0_0.index t0_0 0 = 0 ∧ win0_0.index t0_0 1 = 0 := by decide +kernel
    match a with
    | 0 => blk_simp [h.1]
    | 1 => blk_simp [h.2])
  rw [hi]
  show StableHlo.after hostOps0 (fun b => m (c, b)) (Proc.devRef .tc main_v1) i = _
  rw [StableHlo.after_cons, StableHlo.after_nil, StableHlo.reshape_result]
  rfl

/-! ## The sum round the ring -/

theorem x_emb (d : Fin 2) (q : ZMod 16) (s : Fin 4) (x : S16x1024.Idx) : (xS d q s).view.emb x = (oS d q s).view.emb x := rfl

/-- Every element lies in a slot. -/
theorem in_slot (i : S2048x1024.Idx) : ∃ (b : Fin 128) (x : S16x1024.Idx), (oS (sd b) (sq b) (ss b)).view.emb x = i := by
  have h : i ∈ Finset.univ.biUnion fun b : Fin 128 => (slot (sd b) (sq b) (ss b)).set := slots_cover ▸ Finset.mem_univ i
  obtain ⟨b, -, hb⟩ := Finset.mem_biUnion.mp h
  have hb : i ∈ (oS (sd b) (sq b) (ss b)).view.set := by
    show i ∈ ((View.whole (cc0_stg1_0 : Ref sig .tc)).slice (slot (sd b) (sq b) (ss b))).set
    rw [View.set_slice_whole]; exact hb
  obtain ⟨x, hx⟩ := View.exists_emb_of_mem_set _ hb
  exact ⟨b, x, hx⟩

section Exact

variable (X : Dev nD → (cc0_stg0_0 : Ref sig .tc).ty.Contents (Elt Ideal))

/-- A slot after `n` additions is a sum over consecutive places of the ring. -/
theorem acc_sum (d : Fin 2) (q : ZMod 16) (s : Fin 4) (x : S16x1024.Idx) (n : ℕ) :
    (acc X d q s n x : EReal) = ∑ k ∈ Finset.range (n + 1), (xv X (dev d (q + (k : ZMod 16))) d q s x : EReal) := by
  induction n with
  | zero => simp [acc]
  | succ n ih =>
    rw [Finset.sum_range_succ, ← ih]
    exact add_comm (xv X (dev d (q + ((n + 1 : ℕ) : ZMod 16))) d q s x : EReal) _

/-- Sixteen consecutive places are all the devices. -/
theorem sum_ring (f : Dev nD → EReal) (d : Fin 2) (q : ZMod 16) :
    ∑ k ∈ Finset.range 16, f (dev d (q + (k : ZMod 16))) = ∑ c : Dev nD, f c := by
  rw [Finset.sum_range]
  refine (Finset.sum_congr rfl fun k _ => ?_).trans (Equiv.sum_comp ((Equiv.addLeft q).trans (ringEquiv d).symm) f)
  exact congrArg (fun z : ZMod 16 => f (dev d (q + z))) (ZMod.natCast_zmod_val (n := 16) k)

theorem outv_sum (i : S2048x1024.Idx) : outv X i = (∑ c : Dev nD, X c i : EReal) := by
  obtain ⟨b, x, rfl⟩ := in_slot i
  unfold outv
  rw [gather_emb]
  exact (acc_sum X _ _ _ x 15).trans (sum_ring (fun c => X c ((oS (sd b) (sq b) (ss b)).view.emb x)) _ _)

end Exact

/-! ## The reference's sum -/

abbrev Big : Shape := ⟨5, ![2, 2, 4, 2048, 1024]⟩

/-- Where a device's blocks lie in the whole. -/
theorem tiles : Layout.TilesN S1x1x1x2048x1024 Big (fun b => Layout.cutSize [2, 2, 4] ((![[0], [1], [2], [], []] : Fin 5 → List ℕ) b)) := by decide
abbrev inBig (c : Fin 16) (i : S2048x1024.Idx) : Big.Idx :=
  tiles.idx (Layout.meshBlock [2, 2, 4] ![[0], [1], [2], [], []] c) (atBlock i)

theorem inBig_val : ∀ (c : Fin 16) (i : S2048x1024.Idx), (inBig c i 0).val = c.val / 8 ∧ (inBig c i 1).val = c.val / 4 % 2
    ∧ (inBig c i 2).val = c.val % 4 ∧ (inBig c i 3).val = (i 0).val ∧ (inBig c i 4).val = (i 1).val := by
  intro c i
  have hc := c.isLt
  refine ⟨?_, ?_, ?_, ?_, ?_⟩ <;> rw [Layout.TilesN.idx_val, Layout.meshBlock_val]
  · show (c.val / 8 % 2 * 1 + 0) * 1 + 0 = _; omega
  · show (c.val / 4 % 2 * 1 + 0) * 1 + 0 = _; omega
  · show (c.val / 1 % 4 * 1 + 0) * 1 + 0 = _; omega
  · show 0 * 2048 + (i 0).val = _; omega
  · show 0 * 1024 + (i 1).val = _; omega

/-- The device whose block an element is in. -/
abbrev holder (j : Big.Idx) : Fin 16 :=
  ⟨8 * (j 0).val + 4 * (j 1).val + (j 2).val, by
    have h0 : (j 0).val < 2 := (j 0).isLt
    have h1 : (j 1).val < 2 := (j 1).isLt
    have h2 : (j 2).val < 4 := (j 2).isLt
    omega⟩

theorem reference_sum (h : Big.ReducesTo [0, 1, 2] S2048x1024) (v : Big.Idx → EReal) (i : S2048x1024.Idx) :
    Ideal.hostReduceAdd h v 0 i = ∑ c : Fin 16, v (inBig c i) := by
  unfold Ideal.hostReduceAdd
  rw [zero_add]
  have hd : ∀ j : Big.Idx, (h.drop j 0).val = (j 3).val ∧ (h.drop j 1).val = (j 4).val := fun j =>
    ⟨h.drop_apply_val_of_eq j 0 3, h.drop_apply_val_of_eq j 1 4⟩
  symm
  refine Finset.sum_bij' (fun c _ => inBig c i) (fun j _ => holder j) (fun c _ => ?_) (fun j _ => Finset.mem_univ _) (fun c _ => ?_) (fun j hj => ?_) fun c _ => rfl
  · obtain ⟨-, -, -, h3, h4⟩ := inBig_val c i
    refine Finset.mem_filter.mpr ⟨Finset.mem_univ _, funext fun a => Fin.ext ?_⟩
    match a with
    | 0 => exact (hd _).1.trans h3
    | 1 => exact (hd _).2.trans h4
  · obtain ⟨h0, h1, h2, -, -⟩ := inBig_val c i
    refine Fin.ext ?_
    show 8 * (inBig c i 0).val + 4 * (inBig c i 1).val + (inBig c i 2).val = c.val
    have := c.isLt
    omega
  · obtain ⟨h0, h1, h2, h3, h4⟩ := inBig_val (holder j) i
    have e := (Finset.mem_filter.mp hj).2
    have l0 : (j 0).val < 2 := (j 0).isLt
    have l1 : (j 1).val < 2 := (j 1).isLt
    have l2 : (j 2).val < 4 := (j 2).isLt
    have e0 : (i 0).val = (j 3).val := by rw [← e]; exact (hd j).1
    have e1 : (i 1).val = (j 4).val := by rw [← e]; exact (hd j).2
    have hv : (holder j).val = 8 * (j 0).val + 4 * (j 1).val + (j 2).val := rfl
    refine funext fun a => Fin.ext ?_
    match a with
    | 0 => show (inBig (holder j) i 0).val = (j 0).val; omega
    | 1 => show (inBig (holder j) i 1).val = (j 1).val; omega
    | 2 => show (inBig (holder j) i 2).val = (j 2).val; omega
    | 3 => show (inBig (holder j) i 3).val = (j 3).val; omega
    | 4 => show (inBig (holder j) i 4).val = (j 4).val; omega

/-- From blocks of one whole, a device's result is the reference's sum of it. -/
theorem result_eq (m : (ℓ : Loc nD τ sig) → Buf (Elt Ideal) ℓ) (v : Big.Idx → EReal) (h : Big.ReducesTo [0, 1, 2] S2048x1024)
    (hm : ∀ (c : Dev nD) (i : S2048x1024.Idx), m ((c : Thread nD τ).loc main_arg0) (atBlock i) = v (inBig c i)) (c : Dev nD) (i : S2048x1024.Idx) :
    res m c i = Ideal.hostReduceAdd h v 0 i := by
  have hX : ∀ c : Dev nD, stg m c i = v (inBig c i) := fun c => (stg_at m c i).trans (hm c i)
  refine (congrFun (res_eq m c) i).trans ((outv_sum (stg m) i).trans (Eq.trans ?_ (reference_sum h v i).symm))
  exact congrArg (fun f : Dev nD → EReal => ∑ c, f c) (funext hX)

end Cert.AllReduce

end
-- ==== Proof.lean ====
/- The claims of this certificate, from the run of the program over any float values. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-! `Kernel` and `KernelIdeal` are one program. -/

set_option maxRecDepth 20000 in
theorem same_run : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) := by
  chain_rfl

set_option maxRecDepth 20000 in
theorem frame_kernel : Cert.quiescent_Kernel (hKernel := Cert.Kernel.Gen.facts) := fun m ρ _ => by
  rw [same_run]
  exact (θ_run Cert.KernelIdeal.defs _ _).mono (fun _ h => ⟨fun c => (h.1 c).1, h.2⟩) (Cert.AllReduce.run_main (F := Bits) m ρ)

theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (Cert.AllReduce.run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On exact values every device ends with the reference's sum. -/
theorem value : Cert.algebraic_KernelIdeal_ReferenceIdeal (hKernelIdeal := Cert.KernelIdeal.Gen.facts) (hReferenceIdeal := Cert.ReferenceIdeal.Gen.facts) := by
  intro m g m' g' _ hm
  refine ⟨_, (θ_run Cert.KernelIdeal.defs _ _).mono (fun r h c => ⟨((h.1 c).2.trans ?_), (h.1 c).1⟩) (Cert.AllReduce.run_main (F := Ideal) m g),
    (θ_run Cert.ReferenceIdeal.defs _ _).mono (fun r h => h 0) (Cert.ReferenceIdeal.Value.run (F := Ideal) m' g')⟩
  refine funext fun i => ?_
  refine (Cert.AllReduce.result_eq m _ Cert.ReferenceIdeal.Gen.reducesTo_S2x2x4x2048x1024_S2048x1024_d0_1_2
    (fun c i => congrFun (hm c) (Cert.AllReduce.atBlock i)) c i).trans ?_
  exact congrArg (fun z => Ideal.hostReduceAdd Cert.ReferenceIdeal.Gen.reducesTo_S2x2x4x2048x1024_S2048x1024_d0_1_2 _ z i) Ideal.ofBits_zero_f32.symm

theorem claim : Cert.Claim :=
  ⟨Cert.Kernel.Gen.facts, Cert.KernelIdeal.Gen.facts, Cert.ReferenceIdeal.Gen.facts, frame_kernel, frame_kernelIdeal, frame_reference, trivial, value⟩

end Cert.Proof

end
